-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_in_range [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_in_range [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v190)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v190) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v76_0)) (v1 : (c : Dev Cert.Kernel4Ideal.nD) → Buf (Elt Ideal) ((c.tc : Thread Cert.Kernel4Ideal.nD Cert.Kernel4Ideal.τ).loc Cert.Kernel4Ideal.main_v76_1)) (v2 : (c : Dev Cert.Kernel4Ideal.nD) → Buf (Elt Ideal) ((c.tc : Thread Cert.Kernel4Ideal.nD Cert.Kernel4Ideal.τ).loc Cert.Kernel4Ideal.main_v76_2)) (v3 : (c : Dev Cert.Kernel4Ideal.nD) → Buf (Elt Ideal) ((c.tc : Thread Cert.Kernel4Ideal.nD Cert.Kernel4Ideal.τ).loc Cert.Kernel4Ideal.main_v76_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v76_0) = v0 c
          ∧ r.2.mem ((c.tc : Thread Cert.Kernel4Ideal.nD Cert.Kernel4Ideal.τ).loc Cert.Kernel4Ideal.main_v76_1) = v1 c
          ∧ r.2.mem ((c.tc : Thread Cert.Kernel4Ideal.nD Cert.Kernel4Ideal.τ).loc Cert.Kernel4Ideal.main_v76_2) = v2 c
          ∧ r.2.mem ((c.tc : Thread Cert.Kernel4Ideal.nD Cert.Kernel4Ideal.τ).loc Cert.Kernel4Ideal.main_v76_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v119) = v0 c
          ∧ r.2.mem ((c.tc : Thread Cert.Reference4Ideal.nD Cert.Reference4Ideal.τ).loc Cert.Reference4Ideal.main_v120) = v1 c
          ∧ r.2.mem ((c.tc : Thread Cert.Reference4Ideal.nD Cert.Reference4Ideal.τ).loc Cert.Reference4Ideal.main_v121) = v2 c
          ∧ r.2.mem ((c.tc : Thread Cert.Reference4Ideal.nD Cert.Reference4Ideal.τ).loc Cert.Reference4Ideal.main_v122) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts_in_range : Cert.Pre_experts_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal)
    ∧ quiescent_Reference2Ideal_pre_experts_in_range (hReference2Ideal := hReference2Ideal) (hPre_experts_in_range := hPre_experts_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_experts_in_range.lean ====
abbrev S182 : Shape := ⟨1, ![182]⟩
abbrev S1 : Shape := ⟨1, ![1]⟩
abbrev S186368x640 : Shape := ⟨2, ![186368, 640]⟩
abbrev S64x1024x512 : Shape := ⟨3, ![64, 1024, 512]⟩
abbrev S64x512x1024 : Shape := ⟨3, ![64, 512, 1024]⟩
abbrev S_ : Shape := ⟨0, ![]⟩

class Facts : Prop where
  bcast_S_S182 : S_.BroadcastsInDim S182 (![] : Fin 0 → Fin S182.rank)

variable [Facts]

def fn {F : FTy → Type} [FloatOps F] (main_arg0 : IVec S182 32) (main_arg1 : IVec S1 32) (main_arg2 : IVec S186368x640 32) (main_arg3 : FVec F S64x1024x512 .f32) (main_arg4 : FVec F S64x1024x512 .f32) (main_arg5 : FVec F S64x512x1024 .f32) : IVec S182 1 :=
  let main_c : IVec S_ 32 := constantI S_ 32 0#32
  let main_v0 : IVec S182 32 := broadcastInDim S182 ![] bcast_S_S182 main_c
  let main_v1 : IVec S182 1 := cmpi .sge main_arg0 main_v0
  let main_c_0 : IVec S_ 32 := constantI S_ 32 64#32
  let main_v2 : IVec S182 32 := broadcastInDim S182 ![] bcast_S_S182 main_c_0
  let main_v3 : IVec S182 1 := cmpi .slt main_arg0 main_v2
  let main_v4 : IVec S182 1 := andi main_v1 main_v3
  main_v4
-- ==== Pre_finite.lean ====
abbrev S16x4352x768 : Shape := ⟨3, ![16, 4352, 768]⟩
abbrev S4x15x31 : Shape := ⟨3, ![4, 15, 31]⟩
abbrev S53477376 : Shape := ⟨1, ![53477376]⟩
abbrev S1860 : Shape := ⟨1, ![1860]⟩
abbrev S53479236 : Shape := ⟨1, ![53479236]⟩
abbrev S_ : Shape := ⟨0, ![]⟩

class Facts : Prop where
  bitsLt_bf16_f32 : FTy.bits .bf16 < FTy.bits .f32
  shapeCasts_S16x4352x768_S53477376 : S16x4352x768.ShapeCasts S53477376
  shapeCasts_S4x15x31_S1860 : S4x15x31.ShapeCasts S1860
  concatenates_S53477376_S1860_S53479236_d0 : Shape.Concatenates [S53477376, S1860] S53479236 0
  bcast_S_S53479236 : S_.BroadcastsInDim S53479236 (![] : Fin 0 → Fin S53479236.rank)

variable [Facts]

def fn {F : FTy → Type} [FloatOps F] (main_arg0 : FVec F S16x4352x768 .bf16) (main_arg1 : FVec F S4x15x31 .f32) : IVec S53479236 1 :=
  let main_v0 : FVec F S16x4352x768 .f32 := (extf .f32 · bitsLt_bf16_f32) main_arg0
  let main_v1 : FVec F S16x4352x768 .f32 := Host.absf main_v0
  let main_v2 : FVec F S53477376 .f32 := shapeCast S53477376 main_v1 shapeCasts_S16x4352x768_S53477376
  let main_v3 : FVec F S4x15x31 .f32 := Host.absf main_arg1
  let main_v4 : FVec F S1860 .f32 := shapeCast S1860 main_v3 shapeCasts_S4x15x31_S1860
  let main_v5 : FVec F S53479236 .f32 := (fun a b => concatenate S53479236 0 [⟨S53477376, a⟩, ⟨S1860, b⟩] concatenates_S53477376_S1860_S53479236_d0) main_v2 main_v4
  let main_cst : FVec F S_ .f32 := constant S_ .f32 0x7F800000#32
  let main_v6 : FVec F S53479236 .f32 := broadcastInDim S53479236 ![] bcast_S_S53479236 main_cst
  let main_v7 : IVec S53479236 1 := cmpf .olt main_v5 main_v6
  main_v7
-- ==== Kernel.lean ====
abbrev S16x4352x768 : Shape := ⟨3, ![16, 4352, 768]⟩
abbrev S4x15x31 : Shape := ⟨3, ![4, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S4 : Shape := ⟨1, ![4]⟩
abbrev S4x1 : Shape := ⟨2, ![4, 1]⟩
abbrev S12 : Shape := ⟨1, ![12]⟩
abbrev S1x12 : Shape := ⟨2, ![1, 12]⟩
abbrev S4x12 : Shape := ⟨2, ![4, 12]⟩
abbrev S48 : Shape := ⟨1, ![48]⟩
abbrev S48x1 : Shape := ⟨2, ![48, 1]⟩
abbrev S4x48x31 : Shape := ⟨3, ![4, 48, 31]⟩
abbrev S4096 : Shape := ⟨1, ![4096]⟩
abbrev S4096x1 : Shape := ⟨2, ![4096, 1]⟩
abbrev S4x48x4096 : Shape := ⟨3, ![4, 48, 4096]⟩
abbrev S4x4x12x64x64 : Shape := ⟨5, ![4, 4, 12, 64, 64]⟩
abbrev S4x4x64x12x64 : Shape := ⟨5, ![4, 4, 64, 12, 64]⟩
abbrev S4x256x768 : Shape := ⟨3, ![4, 256, 768]⟩
abbrev S4x1x12x1 : Shape := ⟨4, ![4, 1, 12, 1]⟩
abbrev S1x64x1x64 : Shape := ⟨4, ![1, 64, 1, 64]⟩
abbrev S4x64x12x64 : Shape := ⟨4, ![4, 64, 12, 64]⟩
abbrev S256x768 : Shape := ⟨2, ![256, 768]⟩
abbrev S1x4x256x768 : Shape := ⟨4, ![1, 4, 256, 768]⟩
abbrev S3x4x256x768 : Shape := ⟨4, ![3, 4, 256, 768]⟩
abbrev S16x4352x256 : Shape := ⟨3, ![16, 4352, 256]⟩
abbrev S1x256x256 : Shape := ⟨3, ![1, 256, 256]⟩
abbrev S1x256x64 : Shape := ⟨3, ![1, 256, 64]⟩
abbrev S256x64 : Shape := ⟨2, ![256, 64]⟩
abbrev S1024x64 : Shape := ⟨2, ![1024, 64]⟩
abbrev S256x1024 : Shape := ⟨2, ![256, 1024]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 295
  | .vmem => 22
  | .smem => 0
  | _ => 0

abbrev hbmTy0_0 (i : Nat) : BufTy := match i % 128 with
  | 0 => ⟨S16x4352x768, .bf16⟩
  | 1 => ⟨S4x15x31, .f32⟩
  | 2 => ⟨S64, .i32⟩
  | 3 => ⟨S64x1, .i32⟩
  | 4 => ⟨S64, .i32⟩
  | 5 => ⟨S1x64, .i32⟩
  | 6 => ⟨S_, .i32⟩
  | 7 => ⟨S64x1, .i32⟩
  | 8 => ⟨S64x1, .i32⟩
  | 9 => ⟨S_, .i32⟩
  | 10 => ⟨S_, .i32⟩
  | 11 => ⟨S_, .i32⟩
  | 12 => ⟨S64x1, .i32⟩
  | 13 => ⟨S64x1, .i32⟩
  | 14 => ⟨S_, .i32⟩
  | 15 => ⟨S64x1, .i32⟩
  | 16 => ⟨S64x1, .i32⟩
  | 17 => ⟨S64x64, .i32⟩
  | 18 => ⟨S64x64, .i32⟩
  | 19 => ⟨S64x64, .i1⟩
  | 20 => ⟨S_, .i32⟩
  | 21 => ⟨S64x1, .i32⟩
  | 22 => ⟨S64x1, .i32⟩
  | 23 => ⟨S64x64, .i32⟩
  | 24 => ⟨S64x64, .i32⟩
  | 25 => ⟨S64x64, .i1⟩
  | 26 => ⟨S64x64, .i1⟩
  | 27 => ⟨S64x64, .i32⟩
  | 28 => ⟨S64x64, .i32⟩
  | 29 => ⟨S64x64, .i32⟩
  | 30 => ⟨S_, .i32⟩
  | 31 => ⟨S64x64, .i32⟩
  | 32 => ⟨S64x64, .i32⟩
  | 33 => ⟨S_, .i32⟩
  | 34 => ⟨S64x64, .i32⟩
  | 35 => ⟨S64x64, .i32⟩
  | 36 => ⟨S_, .i32⟩
  | 37 => ⟨S_, .i32⟩
  | 38 => ⟨S_, .i32⟩
  | 39 => ⟨S64x64, .i32⟩
  | 40 => ⟨S64x64, .i32⟩
  | 41 => ⟨S_, .i32⟩
  | 42 => ⟨S64x64, .i32⟩
  | 43 => ⟨S64x64, .i32⟩
  | 44 => ⟨S4, .i32⟩
  | 45 => ⟨S4x1, .i32⟩
  | 46 => ⟨S_, .i32⟩
  | 47 => ⟨S4x1, .i32⟩
  | 48 => ⟨S4x1, .i32⟩
  | 49 => ⟨S12, .i32⟩
  | 50 => ⟨S1x12, .i32⟩
  | 51 => ⟨S_, .i32⟩
  | 52 => ⟨S1x12, .i32⟩
  | 53 => ⟨S1x12, .i32⟩
  | 54 => ⟨S_, .i32⟩
  | 55 => ⟨S4x1, .i32⟩
  | 56 => ⟨S4x1, .i32⟩
  | 57 => ⟨S_, .i32⟩
  | 58 => ⟨S_, .i32⟩
  | 59 => ⟨S_, .i32⟩
  | 60 => ⟨S4x1, .i32⟩
  | 61 => ⟨S4x1, .i32⟩
  | 62 => ⟨S_, .i32⟩
  | 63 => ⟨S4x1, .i32⟩
  | 64 => ⟨S4x1, .i32⟩
  | 65 => ⟨S4x12, .i32⟩
  | 66 => ⟨S4x12, .i32⟩
  | 67 => ⟨S4x12, .i1⟩
  | 68 => ⟨S_, .i32⟩
  | 69 => ⟨S4x1, .i32⟩
  | 70 => ⟨S4x1, .i32⟩
  | 71 => ⟨S4x12, .i32⟩
  | 72 => ⟨S4x12, .i32⟩
  | 73 => ⟨S4x12, .i1⟩
  | 74 => ⟨S4x12, .i1⟩
  | 75 => ⟨S4x12, .i32⟩
  | 76 => ⟨S4x12, .i32⟩
  | 77 => ⟨S4x12, .i32⟩
  | 78 => ⟨S_, .i32⟩
  | 79 => ⟨S4x12, .i32⟩
  | 80 => ⟨S4x12, .i32⟩
  | 81 => ⟨S_, .i32⟩
  | 82 => ⟨S4x12, .i32⟩
  | 83 => ⟨S4x12, .i32⟩
  | 84 => ⟨S_, .i32⟩
  | 85 => ⟨S_, .i32⟩
  | 86 => ⟨S_, .i32⟩
  | 87 => ⟨S4x12, .i32⟩
  | 88 => ⟨S4x12, .i32⟩
  | 89 => ⟨S_, .i32⟩
  | 90 => ⟨S4x12, .i32⟩
  | 91 => ⟨S4x12, .i32⟩
  | 92 => ⟨S48, .i32⟩
  | 93 => ⟨S_, .i32⟩
  | 94 => ⟨S48, .i32⟩
  | 95 => ⟨S48, .i1⟩
  | 96 => ⟨S_, .i32⟩
  | 97 => ⟨S48, .i32⟩
  | 98 => ⟨S48, .i32⟩
  | 99 => ⟨S48, .i32⟩
  | 100 => ⟨S48x1, .i32⟩
  | 101 => ⟨S4x48x31, .f32⟩
  | 102 => ⟨S4096, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S4096, .i32⟩
  | 110 => ⟨S4096x1, .i32⟩
  | 111 => ⟨S4x48x4096, .f32⟩
  | 112 => ⟨S4x4x12x64x64, .f32⟩
  | 113 => ⟨S4x4x64x12x64, .f32⟩
  | 114 => ⟨S4x256x768, .f32⟩
  | 115 => ⟨S4x1x12x1, .i1⟩
  | 116 => ⟨S1x64x1x64, .i1⟩
  | 117 => ⟨S4x64x12x64, .i1⟩
  | 118 => ⟨S4x64x12x64, .i1⟩
  | 119 => ⟨S4x64x12x64, .i1⟩
  | 120 => ⟨S256x768, .i1⟩
  | 121 => ⟨S_, .f32⟩
  | 122 => ⟨S_, .f32⟩
  | 123 => ⟨S4x256x768, .i1⟩
  | 124 => ⟨S4x256x768, .f32⟩
  | 125 => ⟨S4x256x768, .f32⟩
  | 126 => ⟨S4, .i32⟩
  | 127 => ⟨S4x1, .i32⟩
  | _ => ⟨S16x4352x768, .bf16⟩

abbrev hbmTy0_1 (i : Nat) : BufTy := match i % 128 with
  | 0 => ⟨S_, .i32⟩
  | 1 => ⟨S4x1, .i32⟩
  | 2 => ⟨S4x1, .i32⟩
  | 3 => ⟨S12, .i32⟩
  | 4 => ⟨S1x12, .i32⟩
  | 5 => ⟨S_, .i32⟩
  | 6 => ⟨S1x12, .i32⟩
  | 7 => ⟨S1x12, .i32⟩
  | 8 => ⟨S_, .i32⟩
  | 9 => ⟨S4x1, .i32⟩
  | 10 => ⟨S4x1, .i32⟩
  | 11 => ⟨S_, .i32⟩
  | 12 => ⟨S_, .i32⟩
  | 13 => ⟨S_, .i32⟩
  | 14 => ⟨S4x1, .i32⟩
  | 15 => ⟨S4x1, .i32⟩
  | 16 => ⟨S_, .i32⟩
  | 17 => ⟨S4x1, .i32⟩
  | 18 => ⟨S4x1, .i32⟩
  | 19 => ⟨S4x12, .i32⟩
  | 20 => ⟨S4x12, .i32⟩
  | 21 => ⟨S4x12, .i1⟩
  | 22 => ⟨S_, .i32⟩
  | 23 => ⟨S4x1, .i32⟩
  | 24 => ⟨S4x1, .i32⟩
  | 25 => ⟨S4x12, .i32⟩
  | 26 => ⟨S4x12, .i32⟩
  | 27 => ⟨S4x12, .i1⟩
  | 28 => ⟨S4x12, .i1⟩
  | 29 => ⟨S4x12, .i32⟩
  | 30 => ⟨S4x12, .i32⟩
  | 31 => ⟨S4x12, .i32⟩
  | 32 => ⟨S_, .i32⟩
  | 33 => ⟨S4x12, .i32⟩
  | 34 => ⟨S4x12, .i32⟩
  | 35 => ⟨S_, .i32⟩
  | 36 => ⟨S4x12, .i32⟩
  | 37 => ⟨S4x12, .i32⟩
  | 38 => ⟨S_, .i32⟩
  | 39 => ⟨S_, .i32⟩
  | 40 => ⟨S_, .i32⟩
  | 41 => ⟨S4x12, .i32⟩
  | 42 => ⟨S4x12, .i32⟩
  | 43 => ⟨S_, .i32⟩
  | 44 => ⟨S4x12, .i32⟩
  | 45 => ⟨S4x12, .i32⟩
  | 46 => ⟨S48, .i32⟩
  | 47 => ⟨S_, .i32⟩
  | 48 => ⟨S48, .i32⟩
  | 49 => ⟨S48, .i1⟩
  | 50 => ⟨S_, .i32⟩
  | 51 => ⟨S48, .i32⟩
  | 52 => ⟨S48, .i32⟩
  | 53 => ⟨S48, .i32⟩
  | 54 => ⟨S48x1, .i32⟩
  | 55 => ⟨S4x48x31, .f32⟩
  | 56 => ⟨S4096, .i32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4x48x4096, .f32⟩
  | 66 => ⟨S4x4x12x64x64, .f32⟩
  | 67 => ⟨S4x4x64x12x64, .f32⟩
  | 68 => ⟨S4x256x768, .f32⟩
  | 69 => ⟨S4x1x12x1, .i1⟩
  | 70 => ⟨S1x64x1x64, .i1⟩
  | 71 => ⟨S4x64x12x64, .i1⟩
  | 72 => ⟨S4x64x12x64, .i1⟩
  | 73 => ⟨S4x64x12x64, .i1⟩
  | 74 => ⟨S256x768, .i1⟩
  | 75 => ⟨S_, .f32⟩
  | 76 => ⟨S_, .f32⟩
  | 77 => ⟨S4x256x768, .i1⟩
  | 78 => ⟨S4x256x768, .f32⟩
  | 79 => ⟨S4x256x768, .f32⟩
  | 80 => ⟨S4, .i32⟩
  | 81 => ⟨S4x1, .i32⟩
  | 82 => ⟨S_, .i32⟩
  | 83 => ⟨S4x1, .i32⟩
  | 84 => ⟨S4x1, .i32⟩
  | 85 => ⟨S12, .i32⟩
  | 86 => ⟨S1x12, .i32⟩
  | 87 => ⟨S_, .i32⟩
  | 88 => ⟨S1x12, .i32⟩
  | 89 => ⟨S1x12, .i32⟩
  | 90 => ⟨S_, .i32⟩
  | 91 => ⟨S4x1, .i32⟩
  | 92 => ⟨S4x1, .i32⟩
  | 93 => ⟨S_, .i32⟩
  | 94 => ⟨S_, .i32⟩
  | 95 => ⟨S_, .i32⟩
  | 96 => ⟨S4x1, .i32⟩
  | 97 => ⟨S4x1, .i32⟩
  | 98 => ⟨S_, .i32⟩
  | 99 => ⟨S4x1, .i32⟩
  | 100 => ⟨S4x1, .i32⟩
  | 101 => ⟨S4x12, .i32⟩
  | 102 => ⟨S4x12, .i32⟩
  | 103 => ⟨S4x12, .i1⟩
  | 104 => ⟨S_, .i32⟩
  | 105 => ⟨S4x1, .i32⟩
  | 106 => ⟨S4x1, .i32⟩
  | 107 => ⟨S4x12, .i32⟩
  | 108 => ⟨S4x12, .i32⟩
  | 109 => ⟨S4x12, .i1⟩
  | 110 => ⟨S4x12, .i1⟩
  | 111 => ⟨S4x12, .i32⟩
  | 112 => ⟨S4x12, .i32⟩
  | 113 => ⟨S4x12, .i32⟩
  | 114 => ⟨S_, .i32⟩
  | 115 => ⟨S4x12, .i32⟩
  | 116 => ⟨S4x12, .i32⟩
  | 117 => ⟨S_, .i32⟩
  | 118 => ⟨S4x12, .i32⟩
  | 119 => ⟨S4x12, .i32⟩
  | 120 => ⟨S_, .i32⟩
  | 121 => ⟨S_, .i32⟩
  | 122 => ⟨S_, .i32⟩
  | 123 => ⟨S4x12, .i32⟩
  | 124 => ⟨S4x12, .i32⟩
  | 125 => ⟨S_, .i32⟩
  | 126 => ⟨S4x12, .i32⟩
  | 127 => ⟨S4x12, .i32⟩
  | _ => ⟨S16x4352x768, .bf16⟩

abbrev hbmTy0_2 (i : Nat) : BufTy := match i % 128 with
  | 0 => ⟨S48, .i32⟩
  | 1 => ⟨S_, .i32⟩
  | 2 => ⟨S48, .i32⟩
  | 3 => ⟨S48, .i1⟩
  | 4 => ⟨S_, .i32⟩
  | 5 => ⟨S48, .i32⟩
  | 6 => ⟨S48, .i32⟩
  | 7 => ⟨S48, .i32⟩
  | 8 => ⟨S48x1, .i32⟩
  | 9 => ⟨S4x48x31, .f32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4x48x4096, .f32⟩
  | 20 => ⟨S4x4x12x64x64, .f32⟩
  | 21 => ⟨S4x4x64x12x64, .f32⟩
  | 22 => ⟨S4x256x768, .f32⟩
  | 23 => ⟨S4x1x12x1, .i1⟩
  | 24 => ⟨S1x64x1x64, .i1⟩
  | 25 => ⟨S4x64x12x64, .i1⟩
  | 26 => ⟨S4x64x12x64, .i1⟩
  | 27 => ⟨S4x64x12x64, .i1⟩
  | 28 => ⟨S256x768, .i1⟩
  | 29 => ⟨S_, .f32⟩
  | 30 => ⟨S_, .f32⟩
  | 31 => ⟨S4x256x768, .i1⟩
  | 32 => ⟨S4x256x768, .f32⟩
  | 33 => ⟨S4x256x768, .f32⟩
  | 34 => ⟨S1x4x256x768, .f32⟩
  | 35 => ⟨S1x4x256x768, .f32⟩
  | 36 => ⟨S1x4x256x768, .f32⟩
  | 37 => ⟨S3x4x256x768, .f32⟩
  | 38 => ⟨S16x4352x256, .bf16⟩
  | _ => ⟨S16x4352x768, .bf16⟩

abbrev hbmTy (i : Nat) : BufTy := match i / 128 with
  | 0 => hbmTy0_0 i
  | 1 => hbmTy0_1 i
  | 2 => hbmTy0_2 i
  | _ => ⟨S16x4352x768, .bf16⟩

abbrev bufTy : (tb : Table) → Fin (tcTables nBuf tb) → BufTy
  | .hbm, ⟨i, _⟩ => hbmTy i
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S1x4x256x768, .f32⟩
  | .local _ .vmem, ⟨19, _⟩ => ⟨S1x4x256x768, .f32⟩
  | .local _ .vmem, ⟨20, _⟩ => ⟨S1x256x256, .bf16⟩
  | .local _ .vmem, ⟨21, _⟩ => ⟨S1x256x256, .bf16⟩
  | _, _ => ⟨S16x4352x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_c_6 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_8 : Ref sig .tc := ⟨.hbm, 51, rfl⟩
abbrev main_v30 : Ref sig .tc := ⟨.hbm, 52, rfl⟩
abbrev main_v31 : Ref sig .tc := ⟨.hbm, 53, rfl⟩
abbrev main_c_9 : Ref sig .tc := ⟨.hbm, 54, rfl⟩
abbrev main_v32 : Ref sig .tc := ⟨.hbm, 55, rfl⟩
abbrev main_v33 : Ref sig .tc := ⟨.hbm, 56, rfl⟩
abbrev main_c_10 : Ref sig .tc := ⟨.hbm, 57, rfl⟩
abbrev main_c_11 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_call2_v3 : Ref sig .tc := ⟨.hbm, 62, rfl⟩
abbrev main_call2_v4 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_12 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_c_13 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_c_15 : Ref sig .tc := ⟨.hbm, 84, rfl⟩
abbrev main_c_16 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v51 : Ref sig .tc := ⟨.hbm, 91, rfl⟩
abbrev main_v52 : Ref sig .tc := ⟨.hbm, 92, rfl⟩
abbrev main_c_17 : Ref sig .tc := ⟨.hbm, 93, rfl⟩
abbrev main_v53 : Ref sig .tc := ⟨.hbm, 94, rfl⟩
abbrev main_v54 : Ref sig .tc := ⟨.hbm, 95, rfl⟩
abbrev main_c_18 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_c_19 : Ref sig .tc := ⟨.hbm, 103, rfl⟩
abbrev main_v61 : Ref sig .tc := ⟨.hbm, 104, rfl⟩
abbrev main_v62 : Ref sig .tc := ⟨.hbm, 105, rfl⟩
abbrev main_c_20 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_21 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_22 : Ref sig .tc := ⟨.hbm, 133, rfl⟩
abbrev main_v84 : Ref sig .tc := ⟨.hbm, 134, rfl⟩
abbrev main_v85 : Ref sig .tc := ⟨.hbm, 135, rfl⟩
abbrev main_c_23 : Ref sig .tc := ⟨.hbm, 136, rfl⟩
abbrev main_v86 : Ref sig .tc := ⟨.hbm, 137, rfl⟩
abbrev main_v87 : Ref sig .tc := ⟨.hbm, 138, rfl⟩
abbrev main_c_24 : Ref sig .tc := ⟨.hbm, 139, rfl⟩
abbrev main_c_25 : Ref sig .tc := ⟨.hbm, 140, rfl⟩
abbrev main_call5_v0 : Ref sig .tc := ⟨.hbm, 141, rfl⟩
abbrev main_call5_v1 : Ref sig .tc := ⟨.hbm, 142, rfl⟩
abbrev main_call5_v2 : Ref sig .tc := ⟨.hbm, 143, rfl⟩
abbrev main_call5_v3 : Ref sig .tc := ⟨.hbm, 144, rfl⟩
abbrev main_call5_v4 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_26 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_c_27 : Ref sig .tc := ⟨.hbm, 160, rfl⟩
abbrev main_v101 : Ref sig .tc := ⟨.hbm, 161, rfl⟩
abbrev main_v102 : Ref sig .tc := ⟨.hbm, 162, rfl⟩
abbrev main_c_28 : Ref sig .tc := ⟨.hbm, 163, rfl⟩
abbrev main_v103 : Ref sig .tc := ⟨.hbm, 164, rfl⟩
abbrev main_v104 : Ref sig .tc := ⟨.hbm, 165, rfl⟩
abbrev main_c_29 : Ref sig .tc := ⟨.hbm, 166, rfl⟩
abbrev main_c_30 : Ref sig .tc := ⟨.hbm, 167, rfl⟩
abbrev main_call6_v0 : Ref sig .tc := ⟨.hbm, 168, rfl⟩
abbrev main_call6_v1 : Ref sig .tc := ⟨.hbm, 169, rfl⟩
abbrev main_call6_v2 : Ref sig .tc := ⟨.hbm, 170, rfl⟩
abbrev main_call6_v3 : Ref sig .tc := ⟨.hbm, 171, rfl⟩
abbrev main_call6_v4 : Ref sig .tc := ⟨.hbm, 172, rfl⟩
abbrev main_v105 : Ref sig .tc := ⟨.hbm, 173, rfl⟩
abbrev main_v106 : Ref sig .tc := ⟨.hbm, 174, rfl⟩
abbrev main_c_31 : Ref sig .tc := ⟨.hbm, 175, rfl⟩
abbrev main_v107 : Ref sig .tc := ⟨.hbm, 176, rfl⟩
abbrev main_v108 : Ref sig .tc := ⟨.hbm, 177, rfl⟩
abbrev main_c_32 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_c_33 : Ref sig .tc := ⟨.hbm, 185, rfl⟩
abbrev main_v115 : Ref sig .tc := ⟨.hbm, 186, rfl⟩
abbrev main_v116 : Ref sig .tc := ⟨.hbm, 187, rfl⟩
abbrev main_c_34 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_35 : Ref sig .tc := ⟨.hbm, 203, rfl⟩
abbrev main_call7_v0 : Ref sig .tc := ⟨.hbm, 204, rfl⟩
abbrev main_call7_v1 : Ref sig .tc := ⟨.hbm, 205, rfl⟩
abbrev main_call7_v2 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_c_36 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_c_37 : Ref sig .tc := ⟨.hbm, 215, rfl⟩
abbrev main_v138 : Ref sig .tc := ⟨.hbm, 216, rfl⟩
abbrev main_v139 : Ref sig .tc := ⟨.hbm, 217, rfl⟩
abbrev main_c_38 : Ref sig .tc := ⟨.hbm, 218, rfl⟩
abbrev main_v140 : Ref sig .tc := ⟨.hbm, 219, rfl⟩
abbrev main_v141 : Ref sig .tc := ⟨.hbm, 220, rfl⟩
abbrev main_c_39 : Ref sig .tc := ⟨.hbm, 221, rfl⟩
abbrev main_c_40 : Ref sig .tc := ⟨.hbm, 222, rfl⟩
abbrev main_call8_v0 : Ref sig .tc := ⟨.hbm, 223, rfl⟩
abbrev main_call8_v1 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_c_41 : Ref sig .tc := ⟨.hbm, 232, rfl⟩
abbrev main_v146 : Ref sig .tc := ⟨.hbm, 233, rfl⟩
abbrev main_v147 : Ref sig .tc := ⟨.hbm, 234, rfl⟩
abbrev main_v148 : Ref sig .tc := ⟨.hbm, 235, rfl⟩
abbrev main_v149 : Ref sig .tc := ⟨.hbm, 236, rfl⟩
abbrev main_v150 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_c_42 : Ref sig .tc := ⟨.hbm, 242, rfl⟩
abbrev main_v155 : Ref sig .tc := ⟨.hbm, 243, rfl⟩
abbrev main_v156 : Ref sig .tc := ⟨.hbm, 244, rfl⟩
abbrev main_c_43 : Ref sig .tc := ⟨.hbm, 245, rfl⟩
abbrev main_v157 : Ref sig .tc := ⟨.hbm, 246, rfl⟩
abbrev main_v158 : Ref sig .tc := ⟨.hbm, 247, rfl⟩
abbrev main_c_44 : Ref sig .tc := ⟨.hbm, 248, rfl⟩
abbrev main_c_45 : Ref sig .tc := ⟨.hbm, 249, rfl⟩
abbrev main_call9_v0 : Ref sig .tc := ⟨.hbm, 250, rfl⟩
abbrev main_call9_v1 : Ref sig .tc := ⟨.hbm, 251, rfl⟩
abbrev main_call9_v2 : Ref sig .tc := ⟨.hbm, 252, rfl⟩
abbrev main_call9_v3 : Ref sig .tc := ⟨.hbm, 253, rfl⟩
abbrev main_call9_v4 : Ref sig .tc := ⟨.hbm, 254, rfl⟩
abbrev main_v159 : Ref sig .tc := ⟨.hbm, 255, rfl⟩
abbrev main_v160 : Ref sig .tc := ⟨.hbm, 256, rfl⟩
abbrev main_c_46 : Ref sig .tc := ⟨.hbm, 257, rfl⟩
abbrev main_v161 : Ref sig .tc := ⟨.hbm, 258, rfl⟩
abbrev main_v162 : Ref sig .tc := ⟨.hbm, 259, rfl⟩
abbrev main_c_47 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_c_48 : Ref sig .tc := ⟨.hbm, 267, rfl⟩
abbrev main_v169 : Ref sig .tc := ⟨.hbm, 268, rfl⟩
abbrev main_v170 : Ref sig .tc := ⟨.hbm, 269, rfl⟩
abbrev main_c_49 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_cst_50 : Ref sig .tc := ⟨.hbm, 285, rfl⟩
abbrev main_call10_v0 : Ref sig .tc := ⟨.hbm, 286, rfl⟩
abbrev main_call10_v1 : Ref sig .tc := ⟨.hbm, 287, rfl⟩
abbrev main_call10_v2 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![16, 17], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c0_i32_0 : BitVec 32 := 0#32
  let v3 : BitVec 32 := Scalar.addi v2 c0_i32_0
  let c1_i32_1 : BitVec 32 := 1#32
  let c0_i32_2 : BitVec 32 := 0#32
  ![arg0.toNat, v3.toNat, c1_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c1_i32_0 : BitVec 32 := 1#32
  let v3 : BitVec 32 := Scalar.addi v2 c1_i32_0
  let c1_i32_1 : BitVec 32 := 1#32
  let c0_i32_2 : BitVec 32 := 0#32
  ![arg0.toNat, v3.toNat, c1_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c2_i32 : BitVec 32 := 2#32
  let v3 : BitVec 32 := Scalar.addi v2 c2_i32
  let c1_i32_0 : BitVec 32 := 1#32
  let c0_i32_1 : BitVec 32 := 0#32
  ![arg0.toNat, v3.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c0_i32_0 : BitVec 32 := 0#32
  let v3 : BitVec 32 := Scalar.addi v2 c0_i32_0
  let c2_i32 : BitVec 32 := 2#32
  let c0_i32_1 : BitVec 32 := 0#32
  ![arg0.toNat, v3.toNat, c2_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c1_i32_0 : BitVec 32 := 1#32
  let v3 : BitVec 32 := Scalar.addi v2 c1_i32_0
  let c2_i32 : BitVec 32 := 2#32
  let c0_i32_1 : BitVec 32 := 0#32
  ![arg0.toNat, v3.toNat, c2_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c13_i32 : BitVec 32 := 13#32
  let v1 : BitVec 32 := Scalar.maxsi c0_i32 v0
  let v2 : BitVec 32 := Scalar.minsi c13_i32 v1
  let c2_i32 : BitVec 32 := 2#32
  let v3 : BitVec 32 := Scalar.addi v2 c2_i32
  let c2_i32_0 : BitVec 32 := 2#32
  let c0_i32_1 : BitVec 32 := 0#32
  ![arg0.toNat, v3.toNat, c2_i32_0.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let c1_i32 : BitVec 32 := 1#32
  let c0_i32 : BitVec 32 := 0#32
  ![arg0.toNat, c16_i32.toNat, c1_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let c2_i32 : BitVec 32 := 2#32
  let c0_i32 : BitVec 32 := 0#32
  ![arg0.toNat, c16_i32.toNat, c2_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 1 := Scalar.cmpi .sge arg1 c15_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x4352x768 : Shape := ⟨3, ![16, 4352, 768]⟩
abbrev S4x15x31 : Shape := ⟨3, ![4, 15, 31]⟩
abbrev S16x4352x256 : Shape := ⟨3, ![16, 4352, 256]⟩
abbrev S16x4352x4x64 : Shape := ⟨4, ![16, 4352, 4, 64]⟩
abbrev S16x4096x4x64 : Shape := ⟨4, ![16, 4096, 4, 64]⟩
abbrev S16x256x4x64 : Shape := ⟨4, ![16, 256, 4, 64]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩
abbrev S64x1x64x1 : Shape := ⟨4, ![64, 1, 64, 1]⟩
abbrev S1x64x1x64 : Shape := ⟨4, ![1, 64, 1, 64]⟩
abbrev S64x64x64x64 : Shape := ⟨4, ![64, 64, 64, 64]⟩
abbrev S4096x4096 : Shape := ⟨2, ![4096, 4096]⟩
abbrev S64x64x64x64x1 : Shape := ⟨5, ![64, 64, 64, 64, 1]⟩
abbrev S64x64x64x64x2 : Shape := ⟨5, ![64, 64, 64, 64, 2]⟩
abbrev S4x64x64x64x64 : Shape := ⟨5, ![4, 64, 64, 64, 64]⟩
abbrev S4x4096x4096 : Shape := ⟨3, ![4, 4096, 4096]⟩
abbrev S16x4x4096x4096 : Shape := ⟨4, ![16, 4, 4096, 4096]⟩
abbrev S1x4x4096x4096 : Shape := ⟨4, ![1, 4, 4096, 4096]⟩
abbrev S16x4x4096x256 : Shape := ⟨4, ![16, 4, 4096, 256]⟩
abbrev S16x4x4096x4352 : Shape := ⟨4, ![16, 4, 4096, 4352]⟩
abbrev S16x4x4096 : Shape := ⟨3, ![16, 4, 4096]⟩
abbrev S16x4x4096x1 : Shape := ⟨4, ![16, 4, 4096, 1]⟩
abbrev S16x4x64x4096 : Shape := ⟨4, ![16, 4, 64, 4096]⟩
abbrev S16x4x256x256 : Shape := ⟨4, ![16, 4, 256, 256]⟩
abbrev S16x4x256 : Shape := ⟨3, ![16, 4, 256]⟩
abbrev S16x4x256x1 : Shape := ⟨4, ![16, 4, 256, 1]⟩
abbrev S16x4x64x256 : Shape := ⟨4, ![16, 4, 64, 256]⟩

abbrev nBuf : Space → Nat
  | .hbm => 179
  | .vmem => 0
  | .smem => 0
  | _ => 0

abbrev hbmTy0_0 (i : Nat) : BufTy := match i % 128 with
  | 0 => ⟨S16x4352x768, .bf16⟩
  | 1 => ⟨S4x15x31, .f32⟩
  | 2 => ⟨S16x4352x768, .f32⟩
  | 3 => ⟨S16x4352x256, .f32⟩
  | 4 => ⟨S16x4352x4x64, .f32⟩
  | 5 => ⟨S16x4352x256, .f32⟩
  | 6 => ⟨S16x4352x4x64, .f32⟩
  | 7 => ⟨S16x4352x256, .f32⟩
  | 8 => ⟨S16x4352x4x64, .f32⟩
  | 9 => ⟨S16x4096x4x64, .f32⟩
  | 10 => ⟨S16x4096x4x64, .f32⟩
  | 11 => ⟨S16x4096x4x64, .f32⟩
  | 12 => ⟨S16x256x4x64, .f32⟩
  | 13 => ⟨S16x256x4x64, .f32⟩
  | 14 => ⟨S16x256x4x64, .f32⟩
  | 15 => ⟨S64, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64x1, .i32⟩
  | 26 => ⟨S_, .i32⟩
  | 27 => ⟨S64, .i32⟩
  | 28 => ⟨S64, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64x1, .i32⟩
  | 36 => ⟨S1x64, .i32⟩
  | 37 => ⟨S64x64, .i32⟩
  | 38 => ⟨S64x64, .i32⟩
  | 39 => ⟨S64x64, .i1⟩
  | 40 => ⟨S1x64, .i32⟩
  | 41 => ⟨S_, .i32⟩
  | 42 => ⟨S64x1, .i32⟩
  | 43 => ⟨S64x1, .i32⟩
  | 44 => ⟨S64x64, .i32⟩
  | 45 => ⟨S64x64, .i32⟩
  | 46 => ⟨S64x64, .i1⟩
  | 47 => ⟨S64x64, .i1⟩
  | 48 => ⟨S1x64, .i32⟩
  | 49 => ⟨S64x64, .i32⟩
  | 50 => ⟨S64x64, .i32⟩
  | 51 => ⟨S64x64, .i1⟩
  | 52 => ⟨S1x64, .i32⟩
  | 53 => ⟨S_, .i32⟩
  | 54 => ⟨S64x1, .i32⟩
  | 55 => ⟨S64x1, .i32⟩
  | 56 => ⟨S64x64, .i32⟩
  | 57 => ⟨S64x64, .i32⟩
  | 58 => ⟨S64x64, .i1⟩
  | 59 => ⟨S64x64, .i1⟩
  | 60 => ⟨S64x1x64x1, .i1⟩
  | 61 => ⟨S1x64x1x64, .i1⟩
  | 62 => ⟨S64x64x64x64, .i1⟩
  | 63 => ⟨S64x64x64x64, .i1⟩
  | 64 => ⟨S64x64x64x64, .i1⟩
  | 65 => ⟨S4096x4096, .i1⟩
  | 66 => ⟨S1x64, .i32⟩
  | 67 => ⟨S64x1, .i32⟩
  | 68 => ⟨S64x64, .i32⟩
  | 69 => ⟨S64x64, .i32⟩
  | 70 => ⟨S64x64, .i32⟩
  | 71 => ⟨S_, .i32⟩
  | 72 => ⟨S64x64, .i32⟩
  | 73 => ⟨S64x64, .i32⟩
  | 74 => ⟨S_, .i32⟩
  | 75 => ⟨S64x64, .i32⟩
  | 76 => ⟨S64x64, .i32⟩
  | 77 => ⟨S_, .i32⟩
  | 78 => ⟨S64x64, .i32⟩
  | 79 => ⟨S64x64, .i32⟩
  | 80 => ⟨S_, .i32⟩
  | 81 => ⟨S64x64, .i32⟩
  | 82 => ⟨S64x64, .i32⟩
  | 83 => ⟨S_, .i32⟩
  | 84 => ⟨S64x64, .i32⟩
  | 85 => ⟨S64x64, .i32⟩
  | 86 => ⟨S_, .i32⟩
  | 87 => ⟨S64x64, .i32⟩
  | 88 => ⟨S64x64, .i32⟩
  | 89 => ⟨S_, .i32⟩
  | 90 => ⟨S64x64, .i32⟩
  | 91 => ⟨S64x64, .i32⟩
  | 92 => ⟨S_, .i32⟩
  | 93 => ⟨S64x64, .i32⟩
  | 94 => ⟨S64x64, .i32⟩
  | 95 => ⟨S64x1x64x1, .i32⟩
  | 96 => ⟨S1x64x1x64, .i32⟩
  | 97 => ⟨S_, .i32⟩
  | 98 => ⟨S64x1x64x1, .i32⟩
  | 99 => ⟨S64x1x64x1, .i1⟩
  | 100 => ⟨S_, .i32⟩
  | 101 => ⟨S64x1x64x1, .i32⟩
  | 102 => ⟨S64x1x64x1, .i32⟩
  | 103 => ⟨S64x1x64x1, .i32⟩
  | 104 => ⟨S_, .i32⟩
  | 105 => ⟨S1x64x1x64, .i32⟩
  | 106 => ⟨S1x64x1x64, .i1⟩
  | 107 => ⟨S_, .i32⟩
  | 108 => ⟨S1x64x1x64, .i32⟩
  | 109 => ⟨S1x64x1x64, .i32⟩
  | 110 => ⟨S1x64x1x64, .i32⟩
  | 111 => ⟨S64x64x64x64, .i32⟩
  | 112 => ⟨S64x64x64x64, .i32⟩
  | 113 => ⟨S64x64x64x64x1, .i32⟩
  | 114 => ⟨S64x64x64x64x1, .i32⟩
  | 115 => ⟨S64x64x64x64x2, .i32⟩
  | 116 => ⟨S4x64x64x64x64, .f32⟩
  | 117 => ⟨S4x4096x4096, .f32⟩
  | 118 => ⟨S16x4x4096x4096, .f32⟩
  | 119 => ⟨S_, .f32⟩
  | 120 => ⟨S16x4x4096x4096, .f32⟩
  | 121 => ⟨S16x4x4096x4096, .f32⟩
  | 122 => ⟨S1x4x4096x4096, .f32⟩
  | 123 => ⟨S16x4x4096x4096, .f32⟩
  | 124 => ⟨S16x4x4096x4096, .f32⟩
  | 125 => ⟨S_, .f32⟩
  | 126 => ⟨S_, .f32⟩
  | 127 => ⟨S16x4x4096x4096, .i1⟩
  | _ => ⟨S16x4352x768, .bf16⟩

abbrev hbmTy0_1 (i : Nat) : BufTy := match i % 128 with
  | 0 => ⟨S16x4x4096x4096, .f32⟩
  | 1 => ⟨S16x4x4096x4096, .f32⟩
  | 2 => ⟨S16x4x4096x256, .f32⟩
  | 3 => ⟨S_, .f32⟩
  | 4 => ⟨S16x4x4096x256, .f32⟩
  | 5 => ⟨S16x4x4096x256, .f32⟩
  | 6 => ⟨S16x4x4096x4352, .f32⟩
  | 7 => ⟨S_, .f32⟩
  | 8 => ⟨S16x4x4096, .f32⟩
  | 9 => ⟨S_, .f32⟩
  | 10 => ⟨S16x4x4096, .f32⟩
  | 11 => ⟨S16x4x4096, .f32⟩
  | 12 => ⟨S16x4x4096x1, .f32⟩
  | 13 => ⟨S16x4x4096x4352, .f32⟩
  | 14 => ⟨S16x4x4096x4352, .f32⟩
  | 15 => ⟨S16x4x4096x4352, .f32⟩
  | 16 => ⟨S_, .f32⟩
  | 17 => ⟨S16x4x4096, .f32⟩
  | 18 => ⟨S16x4x4096x1, .f32⟩
  | 19 => ⟨S16x4x4096x4352, .f32⟩
  | 20 => ⟨S16x4x4096x4352, .f32⟩
  | 21 => ⟨S16x4x4096x4096, .f32⟩
  | 22 => ⟨S16x4x64x4096, .f32⟩
  | 23 => ⟨S16x4096x4x64, .f32⟩
  | 24 => ⟨S16x4x4096x256, .f32⟩
  | 25 => ⟨S16x4x64x4096, .f32⟩
  | 26 => ⟨S16x4096x4x64, .f32⟩
  | 27 => ⟨S16x4096x4x64, .f32⟩
  | 28 => ⟨S16x4x256x256, .f32⟩
  | 29 => ⟨S_, .f32⟩
  | 30 => ⟨S16x4x256x256, .f32⟩
  | 31 => ⟨S16x4x256x256, .f32⟩
  | 32 => ⟨S_, .f32⟩
  | 33 => ⟨S16x4x256, .f32⟩
  | 34 => ⟨S_, .f32⟩
  | 35 => ⟨S16x4x256, .f32⟩
  | 36 => ⟨S16x4x256, .f32⟩
  | 37 => ⟨S16x4x256x1, .f32⟩
  | 38 => ⟨S16x4x256x256, .f32⟩
  | 39 => ⟨S16x4x256x256, .f32⟩
  | 40 => ⟨S16x4x256x256, .f32⟩
  | 41 => ⟨S_, .f32⟩
  | 42 => ⟨S16x4x256, .f32⟩
  | 43 => ⟨S16x4x256x1, .f32⟩
  | 44 => ⟨S16x4x256x256, .f32⟩
  | 45 => ⟨S16x4x256x256, .f32⟩
  | 46 => ⟨S16x4x64x256, .f32⟩
  | 47 => ⟨S16x256x4x64, .f32⟩
  | 48 => ⟨S16x4352x4x64, .f32⟩
  | 49 => ⟨S16x4352x256, .f32⟩
  | 50 => ⟨S16x4352x256, .bf16⟩
  | _ => ⟨S16x4352x768, .bf16⟩

abbrev hbmTy (i : Nat) : BufTy := match i / 128 with
  | 0 => hbmTy0_0 i
  | 1 => hbmTy0_1 i
  | _ => ⟨S16x4352x768, .bf16⟩

abbrev bufTy : (tb : Table) → Fin (tcTables nBuf tb) → BufTy
  | .hbm, ⟨i, _⟩ => hbmTy i
  | _, _ => ⟨S16x4352x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_c_0 : Ref sig .tc := ⟨.hbm, 19, rfl⟩
abbrev main_v16 : Ref sig .tc := ⟨.hbm, 20, rfl⟩
abbrev main_v17 : Ref sig .tc := ⟨.hbm, 21, rfl⟩
abbrev main_c_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_2 : Ref sig .tc := ⟨.hbm, 26, rfl⟩
abbrev main_v21 : Ref sig .tc := ⟨.hbm, 27, rfl⟩
abbrev main_v22 : Ref sig .tc := ⟨.hbm, 28, rfl⟩
abbrev main_c_3 : Ref sig .tc := ⟨.hbm, 29, rfl⟩
abbrev main_v23 : Ref sig .tc := ⟨.hbm, 30, rfl⟩
abbrev main_v24 : Ref sig .tc := ⟨.hbm, 31, rfl⟩
abbrev main_c_4 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_5 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_7 : Ref sig .tc := ⟨.hbm, 71, rfl⟩
abbrev main_v61 : Ref sig .tc := ⟨.hbm, 72, rfl⟩
abbrev main_v62 : Ref sig .tc := ⟨.hbm, 73, rfl⟩
abbrev main_c_8 : Ref sig .tc := ⟨.hbm, 74, rfl⟩
abbrev main_v63 : Ref sig .tc := ⟨.hbm, 75, rfl⟩
abbrev main_v64 : Ref sig .tc := ⟨.hbm, 76, rfl⟩
abbrev main_c_9 : Ref sig .tc := ⟨.hbm, 77, rfl⟩
abbrev main_v65 : Ref sig .tc := ⟨.hbm, 78, rfl⟩
abbrev main_v66 : Ref sig .tc := ⟨.hbm, 79, rfl⟩
abbrev main_c_10 : Ref sig .tc := ⟨.hbm, 80, rfl⟩
abbrev main_v67 : Ref sig .tc := ⟨.hbm, 81, rfl⟩
abbrev main_v68 : Ref sig .tc := ⟨.hbm, 82, rfl⟩
abbrev main_c_11 : Ref sig .tc := ⟨.hbm, 83, rfl⟩
abbrev main_v69 : Ref sig .tc := ⟨.hbm, 84, rfl⟩
abbrev main_v70 : Ref sig .tc := ⟨.hbm, 85, rfl⟩
abbrev main_c_12 : Ref sig .tc := ⟨.hbm, 86, rfl⟩
abbrev main_v71 : Ref sig .tc := ⟨.hbm, 87, rfl⟩
abbrev main_v72 : Ref sig .tc := ⟨.hbm, 88, rfl⟩
abbrev main_c_13 : Ref sig .tc := ⟨.hbm, 89, rfl⟩
abbrev main_v73 : Ref sig .tc := ⟨.hbm, 90, rfl⟩
abbrev main_v74 : Ref sig .tc := ⟨.hbm, 91, rfl⟩
abbrev main_c_14 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_15 : Ref sig .tc := ⟨.hbm, 97, rfl⟩
abbrev main_v79 : Ref sig .tc := ⟨.hbm, 98, rfl⟩
abbrev main_v80 : Ref sig .tc := ⟨.hbm, 99, rfl⟩
abbrev main_c_16 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_c_17 : Ref sig .tc := ⟨.hbm, 104, rfl⟩
abbrev main_v84 : Ref sig .tc := ⟨.hbm, 105, rfl⟩
abbrev main_v85 : Ref sig .tc := ⟨.hbm, 106, rfl⟩
abbrev main_c_18 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_19 : Ref sig .tc := ⟨.hbm, 125, rfl⟩
abbrev main_call0_v0 : Ref sig .tc := ⟨.hbm, 126, rfl⟩
abbrev main_call0_v1 : Ref sig .tc := ⟨.hbm, 127, rfl⟩
abbrev main_call0_v2 : Ref sig .tc := ⟨.hbm, 128, rfl⟩
abbrev main_v102 : Ref sig .tc := ⟨.hbm, 129, rfl⟩
abbrev main_v103 : Ref sig .tc := ⟨.hbm, 130, rfl⟩
abbrev main_cst_20 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_21 : Ref sig .tc := ⟨.hbm, 135, rfl⟩
abbrev main_v107 : Ref sig .tc := ⟨.hbm, 136, rfl⟩
abbrev main_cst_22 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_23 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_24 : Ref sig .tc := ⟨.hbm, 157, rfl⟩
abbrev main_v126 : Ref sig .tc := ⟨.hbm, 158, rfl⟩
abbrev main_v127 : Ref sig .tc := ⟨.hbm, 159, rfl⟩
abbrev main_cst_25 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_cst_27 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩

abbrev nD : Nat := 1
abbrev τ : Topo := Topo.v7x

variable {F : FTy → Type} [FloatOps F]
-- ==== Kernel2.lean ====
abbrev S182 : Shape := ⟨1, ![182]⟩
abbrev S1 : Shape := ⟨1, ![1]⟩
abbrev S186368x640 : Shape := ⟨2, ![186368, 640]⟩
abbrev S64x1024x512 : Shape := ⟨3, ![64, 1024, 512]⟩
abbrev S64x512x1024 : Shape := ⟨3, ![64, 512, 1024]⟩
abbrev S186368x1024 : Shape := ⟨2, ![186368, 1024]⟩
abbrev S1024x640 : Shape := ⟨2, ![1024, 640]⟩
abbrev S1x1024x512 : Shape := ⟨3, ![1, 1024, 512]⟩
abbrev S1x512x1024 : Shape := ⟨3, ![1, 512, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩
abbrev S512x512 : Shape := ⟨2, ![512, 512]⟩

abbrev nBuf : Space → Nat
  | .hbm => 5
  | .vmem => 13
  | .smem => 2
  | _ => 0

abbrev bufTy : (tb : Table) → Fin (tcTables nBuf tb) → BufTy
  | .hbm, ⟨0, _⟩ => ⟨S186368x640, .i32⟩
  | .hbm, ⟨1, _⟩ => ⟨S64x1024x512, .f32⟩
  | .hbm, ⟨2, _⟩ => ⟨S64x1024x512, .f32⟩
  | .hbm, ⟨3, _⟩ => ⟨S64x512x1024, .f32⟩
  | .hbm, ⟨4, _⟩ => ⟨S186368x1024, .bf16⟩
  | .local _ .vmem, ⟨0, _⟩ => ⟨S1024x640, .i32⟩
  | .local _ .vmem, ⟨1, _⟩ => ⟨S1024x640, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S182, .i32⟩
  | .local _ .smem, ⟨1, _⟩ => ⟨S1, .i32⟩
  | _, _ => ⟨S186368x640, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![182], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S182.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S182) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x640 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S182 : Shape := ⟨1, ![182]⟩
abbrev S1 : Shape := ⟨1, ![1]⟩
abbrev S186368x640 : Shape := ⟨2, ![186368, 640]⟩
abbrev S64x1024x512 : Shape := ⟨3, ![64, 1024, 512]⟩
abbrev S64x512x1024 : Shape := ⟨3, ![64, 512, 1024]⟩
abbrev S186368x512 : Shape := ⟨2, ![186368, 512]⟩
abbrev S_ : Shape := ⟨0, ![]⟩
abbrev S186368x1024 : Shape := ⟨2, ![186368, 1024]⟩
abbrev S186368x1 : Shape := ⟨2, ![186368, 1]⟩
abbrev S186368 : Shape := ⟨1, ![186368]⟩
abbrev S182x1024 : Shape := ⟨2, ![182, 1024]⟩
abbrev S64 : Shape := ⟨1, ![64]⟩
abbrev S1x64 : Shape := ⟨2, ![1, 64]⟩
abbrev S186368x64 : Shape := ⟨2, ![186368, 64]⟩
abbrev S186368x64x512 : Shape := ⟨3, ![186368, 64, 512]⟩
abbrev S64x1024x186368 : Shape := ⟨3, ![64, 1024, 186368]⟩
abbrev S186368x64x1024 : Shape := ⟨3, ![186368, 64, 1024]⟩
abbrev S186368x64x1 : Shape := ⟨3, ![186368, 64, 1]⟩

abbrev nBuf : Space → Nat
  | .hbm => 78
  | .vmem => 0
  | .smem => 0
  | _ => 0

abbrev bufTy : (tb : Table) → Fin (tcTables nBuf tb) → BufTy
  | .hbm, ⟨0, _⟩ => ⟨S182, .i32⟩
  | .hbm, ⟨1, _⟩ => ⟨S1, .i32⟩
  | .hbm, ⟨2, _⟩ => ⟨S186368x640, .i32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S186368x512, .i32⟩
  | .hbm, ⟨7, _⟩ => ⟨S_, .i32⟩
  | .hbm, ⟨8, _⟩ => ⟨S186368x512, .i32⟩
  | .hbm, ⟨9, _⟩ => ⟨S186368x512, .i32⟩
  | .hbm, ⟨10, _⟩ => ⟨S186368x512, .f32⟩
  | .hbm, ⟨11, _⟩ => ⟨S_, .i32⟩
  | .hbm, ⟨12, _⟩ => ⟨S186368x512, .i32⟩
  | .hbm, ⟨13, _⟩ => ⟨S186368x512, .i32⟩
  | .hbm, ⟨14, _⟩ => ⟨S186368x512, .f32⟩
  | .hbm, ⟨15, _⟩ => ⟨S186368x1024, .f32⟩
  | .hbm, ⟨16, _⟩ => ⟨S186368x1, .i32⟩
  | .hbm, ⟨17, _⟩ => ⟨S186368, .i32⟩
  | .hbm, ⟨18, _⟩ => ⟨S186368, .f32⟩
  | .hbm, ⟨19, _⟩ => ⟨S186368, .i32⟩
  | .hbm, ⟨20, _⟩ => ⟨S_, .i32⟩
  | .hbm, ⟨21, _⟩ => ⟨S_, .i32⟩
  | .hbm, ⟨22, _⟩ => ⟨S186368, .i32⟩
  | .hbm, ⟨23, _⟩ => ⟨S186368, .i32⟩
  | .hbm, ⟨24, _⟩ => ⟨S186368, .i32⟩
  | .hbm, ⟨25, _⟩ => ⟨S_, .i32⟩
  | .hbm, ⟨26, _⟩ => ⟨S186368, .i32⟩
  | .hbm, ⟨27, _⟩ => ⟨S186368, .i1⟩
  | .hbm, ⟨28, _⟩ => ⟨S186368, .i32⟩
  | .hbm, ⟨29, _⟩ => ⟨S186368, .i32⟩
  | .hbm, ⟨30, _⟩ => ⟨S_, .i32⟩
  | .hbm, ⟨31, _⟩ => ⟨S186368, .i32⟩
  | .hbm, ⟨32, _⟩ => ⟨S186368, .i1⟩
  | .hbm, ⟨33, _⟩ => ⟨S186368, .i1⟩
  | .hbm, ⟨34, _⟩ => ⟨S_, .i32⟩
  | .hbm, ⟨35, _⟩ => ⟨S186368, .i32⟩
  | .hbm, ⟨36, _⟩ => ⟨S186368, .i32⟩
  | .hbm, ⟨37, _⟩ => ⟨S186368, .i32⟩
  | .hbm, ⟨38, _⟩ => ⟨S182x1024, .i32⟩
  | .hbm, ⟨39, _⟩ => ⟨S186368, .i32⟩
  | .hbm, ⟨40, _⟩ => ⟨S186368x1, .i32⟩
  | .hbm, ⟨41, _⟩ => ⟨S64, .i32⟩
  | .hbm, ⟨42, _⟩ => ⟨S1x64, .i32⟩
  | .hbm, ⟨43, _⟩ => ⟨S186368x64, .i32⟩
  | .hbm, ⟨44, _⟩ => ⟨S186368x64, .i32⟩
  | .hbm, ⟨45, _⟩ => ⟨S186368x64, .i1⟩
  | .hbm, ⟨46, _⟩ => ⟨S_, .i32⟩
  | .hbm, ⟨47, _⟩ => ⟨S186368, .i32⟩
  | .hbm, ⟨48, _⟩ => ⟨S186368, .i1⟩
  | .hbm, ⟨49, _⟩ => ⟨S186368x1, .i1⟩
  | .hbm, ⟨50, _⟩ => ⟨S186368x64, .i1⟩
  | .hbm, ⟨51, _⟩ => ⟨S186368x64, .i1⟩
  | .hbm, ⟨52, _⟩ => ⟨S186368x1, .f32⟩
  | .hbm, ⟨53, _⟩ => ⟨S_, .f32⟩
  | .hbm, ⟨54, _⟩ => ⟨S_, .f32⟩
  | .hbm, ⟨55, _⟩ => ⟨S186368x64, .f32⟩
  | .hbm, ⟨56, _⟩ => ⟨S186368x64, .f32⟩
  | .hbm, ⟨57, _⟩ => ⟨S186368x64, .f32⟩
  | .hbm, ⟨58, _⟩ => ⟨S186368x64x512, .f32⟩
  | .hbm, ⟨59, _⟩ => ⟨S186368x64x512, .f32⟩
  | .hbm, ⟨60, _⟩ => ⟨S186368x64x512, .f32⟩
  | .hbm, ⟨61, _⟩ => ⟨S_, .f32⟩
  | .hbm, ⟨62, _⟩ => ⟨S186368x64x512, .f32⟩
  | .hbm, ⟨63, _⟩ => ⟨S186368x64x512, .f32⟩
  | .hbm, ⟨64, _⟩ => ⟨S_, .f32⟩
  | .hbm, ⟨65, _⟩ => ⟨S186368x64x512, .f32⟩
  | .hbm, ⟨66, _⟩ => ⟨S186368x64x512, .f32⟩
  | .hbm, ⟨67, _⟩ => ⟨S186368x64x512, .f32⟩
  | .hbm, ⟨68, _⟩ => ⟨S186368x64x512, .f32⟩
  | .hbm, ⟨69, _⟩ => ⟨S186368x64x512, .f32⟩
  | .hbm, ⟨70, _⟩ => ⟨S64x1024x186368, .f32⟩
  | .hbm, ⟨71, _⟩ => ⟨S186368x64x1024, .f32⟩
  | .hbm, ⟨72, _⟩ => ⟨S186368x64x1, .f32⟩
  | .hbm, ⟨73, _⟩ => ⟨S186368x64x1024, .f32⟩
  | .hbm, ⟨74, _⟩ => ⟨S186368x64x1024, .f32⟩
  | .hbm, ⟨75, _⟩ => ⟨S_, .f32⟩
  | .hbm, ⟨76, _⟩ => ⟨S186368x1024, .f32⟩
  | .hbm, ⟨77, _⟩ => ⟨S186368x1024, .bf16⟩
  | _, _ => ⟨S182, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v28 : Ref sig .tc := ⟨.hbm, 57, rfl⟩
abbrev main_v29 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_2 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Kernel3.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S1x1024 : Shape := ⟨2, ![1, 1024]⟩
abbrev S17x1024 : Shape := ⟨2, ![17, 1024]⟩
abbrev S_ : Shape := ⟨0, ![]⟩
abbrev S7x1024 : Shape := ⟨2, ![7, 1024]⟩
abbrev S24x1024 : Shape := ⟨2, ![24, 1024]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 23
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S1x1024, .f32⟩
  | .hbm, ⟨5, _⟩ => ⟨S17x1024, .f32⟩
  | .hbm, ⟨6, _⟩ => ⟨S_, .f32⟩
  | .hbm, ⟨7, _⟩ => ⟨S7x1024, .f32⟩
  | .hbm, ⟨8, _⟩ => ⟨S24x1024, .f32⟩
  | .hbm, ⟨9, _⟩ => ⟨S24x1024, .f32⟩
  | .hbm, ⟨10, _⟩ => ⟨S24x1024, .f32⟩
  | .hbm, ⟨11, _⟩ => ⟨S_, .f32⟩
  | .hbm, ⟨12, _⟩ => ⟨S24x1024, .f32⟩
  | .hbm, ⟨13, _⟩ => ⟨S24x1024, .f32⟩
  | .hbm, ⟨14, _⟩ => ⟨S_, .f32⟩
  | .hbm, ⟨15, _⟩ => ⟨S24x1024, .f32⟩
  | .hbm, ⟨16, _⟩ => ⟨S24x1024, .f32⟩
  | .hbm, ⟨17, _⟩ => ⟨S24x1024, .f32⟩
  | .hbm, ⟨18, _⟩ => ⟨S4x6144x24, .f32⟩
  | .hbm, ⟨19, _⟩ => ⟨S4x24x6144, .f32⟩
  | .hbm, ⟨20, _⟩ => ⟨S4x1x6144, .f32⟩
  | .hbm, ⟨21, _⟩ => ⟨S4x24x6144, .f32⟩
  | .hbm, ⟨22, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S16x4352x1024 : Shape := ⟨3, ![16, 4352, 1024]⟩
abbrev S24x6x1024 : Shape := ⟨3, ![24, 6, 1024]⟩
abbrev S1024 : Shape := ⟨1, ![1024]⟩
abbrev S1024x3088 : Shape := ⟨2, ![1024, 3088]⟩
abbrev S64 : Shape := ⟨1, ![64]⟩
abbrev S256x256 : Shape := ⟨2, ![256, 256]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S4096x1x16 : Shape := ⟨3, ![4096, 1, 16]⟩
abbrev S4096x16 : Shape := ⟨2, ![4096, 16]⟩
abbrev S4096x64 : Shape := ⟨2, ![4096, 64]⟩
abbrev S256x64 : Shape := ⟨2, ![256, 64]⟩
abbrev S4352x64 : Shape := ⟨2, ![4352, 64]⟩
abbrev S1x4352x1x64 : Shape := ⟨4, ![1, 4352, 1, 64]⟩
abbrev S1x4352x4x64 : Shape := ⟨4, ![1, 4352, 4, 64]⟩
abbrev S4352x256 : Shape := ⟨2, ![4352, 256]⟩
abbrev S1024x256 : Shape := ⟨2, ![1024, 256]⟩
abbrev S1024x512 : Shape := ⟨2, ![1024, 512]⟩
abbrev S1024x128 : Shape := ⟨2, ![1024, 128]⟩
abbrev S1024x16 : Shape := ⟨2, ![1024, 16]⟩
abbrev S1024x112 : Shape := ⟨2, ![1024, 112]⟩
abbrev S1024x3200 : Shape := ⟨2, ![1024, 3200]⟩
abbrev S1x64 : Shape := ⟨2, ![1, 64]⟩
abbrev S4x64 : Shape := ⟨2, ![4, 64]⟩
abbrev S256 : Shape := ⟨1, ![256]⟩
abbrev S1x256 : Shape := ⟨2, ![1, 256]⟩
abbrev S2x256 : Shape := ⟨2, ![2, 256]⟩
abbrev S1x1024 : Shape := ⟨2, ![1, 1024]⟩
abbrev S16x4352x512 : Shape := ⟨3, ![16, 4352, 512]⟩
abbrev S16x4352x768 : Shape := ⟨3, ![16, 4352, 768]⟩
abbrev S16x4352x16 : Shape := ⟨3, ![16, 4352, 16]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x768 : Shape := ⟨3, ![1, 256, 768]⟩
abbrev S1x256x16 : Shape := ⟨3, ![1, 256, 16]⟩
abbrev S256x1024 : Shape := ⟨2, ![256, 1024]⟩
abbrev S256x1 : Shape := ⟨2, ![256, 1]⟩
abbrev S1x1x1024 : Shape := ⟨3, ![1, 1, 1024]⟩
abbrev S256x3200 : Shape := ⟨2, ![256, 3200]⟩
abbrev S1x256x256 : Shape := ⟨3, ![1, 256, 256]⟩
abbrev S256x512 : Shape := ⟨2, ![256, 512]⟩
abbrev S256x768 : Shape := ⟨2, ![256, 768]⟩
abbrev S256x128 : Shape := ⟨2, ![256, 128]⟩
abbrev S256x16 : Shape := ⟨2, ![256, 16]⟩

abbrev nBuf : Space → Nat
  | .hbm => 132
  | .vmem => 22
  | .smem => 0
  | _ => 0

abbrev hbmTy0_0 (i : Nat) : BufTy := match i % 128 with
  | 0 => ⟨S16x4352x1024, .f32⟩
  | 1 => ⟨S24x6x1024, .f32⟩
  | 2 => ⟨S1024, .f32⟩
  | 3 => ⟨S1024x3088, .f32⟩
  | 4 => ⟨S64, .f32⟩
  | 5 => ⟨S64, .f32⟩
  | 6 => ⟨S256x256, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S4096x1, .i32⟩
  | 49 => ⟨S4096x1, .i32⟩
  | 50 => ⟨S4096x2, .i32⟩
  | 51 => ⟨S4096x2, .f32⟩
  | 52 => ⟨S16, .f32⟩
  | 53 => ⟨S_, .f32⟩
  | 54 => ⟨S16, .f32⟩
  | 55 => ⟨S16, .f32⟩
  | 56 => ⟨S_, .f32⟩
  | 57 => ⟨S16, .f32⟩
  | 58 => ⟨S16, .f32⟩
  | 59 => ⟨S_, .f32⟩
  | 60 => ⟨S16, .f32⟩
  | 61 => ⟨S16, .f32⟩
  | 62 => ⟨S4096x2x1, .f32⟩
  | 63 => ⟨S1x1x16, .f32⟩
  | 64 => ⟨S4096x2x16, .f32⟩
  | 65 => ⟨S4096x2x16, .f32⟩
  | 66 => ⟨S4096x2x16, .f32⟩
  | 67 => ⟨S4096x2x16, .f32⟩
  | 68 => ⟨S4096x2x16, .f32⟩
  | 69 => ⟨S4096x1x16, .f32⟩
  | 70 => ⟨S4096x16, .f32⟩
  | 71 => ⟨S4096x1x16, .f32⟩
  | 72 => ⟨S4096x16, .f32⟩
  | 73 => ⟨S4096x1x16, .f32⟩
  | 74 => ⟨S4096x16, .f32⟩
  | 75 => ⟨S4096x1x16, .f32⟩
  | 76 => ⟨S4096x16, .f32⟩
  | 77 => ⟨S4096x64, .f32⟩
  | 78 => ⟨S4096x1x16, .f32⟩
  | 79 => ⟨S4096x16, .f32⟩
  | 80 => ⟨S4096x16, .f32⟩
  | 81 => ⟨S4096x1x16, .f32⟩
  | 82 => ⟨S4096x16, .f32⟩
  | 83 => ⟨S4096x1x16, .f32⟩
  | 84 => ⟨S4096x16, .f32⟩
  | 85 => ⟨S4096x16, .f32⟩
  | 86 => ⟨S4096x1x16, .f32⟩
  | 87 => ⟨S4096x16, .f32⟩
  | 88 => ⟨S4096x64, .f32⟩
  | 89 => ⟨S_, .f32⟩
  | 90 => ⟨S256x64, .f32⟩
  | 91 => ⟨S4352x64, .f32⟩
  | 92 => ⟨S_, .f32⟩
  | 93 => ⟨S256x64, .f32⟩
  | 94 => ⟨S4352x64, .f32⟩
  | 95 => ⟨S1x4352x1x64, .f32⟩
  | 96 => ⟨S1x4352x4x64, .f32⟩
  | 97 => ⟨S4352x256, .f32⟩
  | 98 => ⟨S1x4352x1x64, .f32⟩
  | 99 => ⟨S1x4352x4x64, .f32⟩
  | 100 => ⟨S4352x256, .f32⟩
  | 101 => ⟨S1024x256, .f32⟩
  | 102 => ⟨S1024x256, .f32⟩
  | 103 => ⟨S1024x256, .f32⟩
  | 104 => ⟨S1024x256, .f32⟩
  | 105 => ⟨S1024x512, .f32⟩
  | 106 => ⟨S1024x512, .f32⟩
  | 107 => ⟨S1024x128, .f32⟩
  | 108 => ⟨S1024x128, .f32⟩
  | 109 => ⟨S1024x16, .f32⟩
  | 110 => ⟨S1024x256, .f32⟩
  | 111 => ⟨S1024x256, .f32⟩
  | 112 => ⟨S1024x256, .f32⟩
  | 113 => ⟨S_, .f32⟩
  | 114 => ⟨S1024x112, .f32⟩
  | 115 => ⟨S1024x3200, .f32⟩
  | 116 => ⟨S1024x3200, .bf16⟩
  | 117 => ⟨S1x64, .f32⟩
  | 118 => ⟨S4x64, .f32⟩
  | 119 => ⟨S256, .f32⟩
  | 120 => ⟨S1x64, .f32⟩
  | 121 => ⟨S4x64, .f32⟩
  | 122 => ⟨S256, .f32⟩
  | 123 => ⟨S1x256, .f32⟩
  | 124 => ⟨S1x256, .f32⟩
  | 125 => ⟨S2x256, .f32⟩
  | 126 => ⟨S1x1024, .f32⟩
  | 127 => ⟨S16x4352x1024, .f32⟩
  | _ => ⟨S16x4352x1024, .f32⟩

abbrev hbmTy0_1 (i : Nat) : BufTy := match i % 128 with
  | 0 => ⟨S16x4352x512, .f32⟩
  | 1 => ⟨S16x4352x768, .f32⟩
  | 2 => ⟨S16x4352x16, .f32⟩
  | 3 => ⟨S16x4352x768, .bf16⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x3200, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S2x256, .f32⟩
  | .local _ .vmem, ⟨11, _⟩ => ⟨S256x256, .f32⟩
  | .local _ .vmem, ⟨12, _⟩ => ⟨S1x256x1024, .f32⟩
  | .local _ .vmem, ⟨13, _⟩ => ⟨S1x256x1024, .f32⟩
  | .local _ .vmem, ⟨14, _⟩ => ⟨S1x256x512, .f32⟩
  | .local _ .vmem, ⟨15, _⟩ => ⟨S1x256x512, .f32⟩
  | .local _ .vmem, ⟨16, _⟩ => ⟨S1x256x768, .f32⟩
  | .local _ .vmem, ⟨17, _⟩ => ⟨S1x256x768, .f32⟩
  | .local _ .vmem, ⟨18, _⟩ => ⟨S1x256x16, .f32⟩
  | .local _ .vmem, ⟨19, _⟩ => ⟨S1x256x16, .f32⟩
  | .local _ .vmem, ⟨20, _⟩ => ⟨S1x256x768, .bf16⟩
  | .local _ .vmem, ⟨21, _⟩ => ⟨S1x256x768, .bf16⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_v3 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_cst_2 : Ref sig .tc := ⟨.hbm, 56, rfl⟩
abbrev main_v10 : Ref sig .tc := ⟨.hbm, 57, rfl⟩
abbrev main_v11 : Ref sig .tc := ⟨.hbm, 58, rfl⟩
abbrev main_cst_3 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_cst_4 : Ref sig .tc := ⟨.hbm, 89, rfl⟩
abbrev main_v41 : Ref sig .tc := ⟨.hbm, 90, rfl⟩
abbrev main_v42 : Ref sig .tc := ⟨.hbm, 91, rfl⟩
abbrev main_cst_5 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_6 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76_0 : Ref sig .tc := ⟨.hbm, 127, rfl⟩
abbrev main_v76_1 : Ref sig .tc := ⟨.hbm, 128, rfl⟩
abbrev main_v76_2 : Ref sig .tc := ⟨.hbm, 129, rfl⟩
abbrev main_v76_3 : Ref sig .tc := ⟨.hbm, 130, rfl⟩
abbrev main_v76_4 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c16_i32_0 : BitVec 32 := 16#32
  let v1 : BitVec 32 := Scalar.select v0 arg0 c16_i32_0
  let c0_i32 : BitVec 32 := 0#32
  let c0_i32_1 : BitVec 32 := 0#32
  let c0_i32_2 : BitVec 32 := 0#32
  ![v1.toNat, c0_i32.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S16x4352x1024 : Shape := ⟨3, ![16, 4352, 1024]⟩
abbrev S24x6x1024 : Shape := ⟨3, ![24, 6, 1024]⟩
abbrev S1024 : Shape := ⟨1, ![1024]⟩
abbrev S1024x3088 : Shape := ⟨2, ![1024, 3088]⟩
abbrev S64 : Shape := ⟨1, ![64]⟩
abbrev S_ : Shape := ⟨0, ![]⟩
abbrev S16x4352 : Shape := ⟨2, ![16, 4352]⟩
abbrev S16x4352x1 : Shape := ⟨3, ![16, 4352, 1]⟩
abbrev S1x1x1024 : Shape := ⟨3, ![1, 1, 1024]⟩
abbrev S16x4096x1024 : Shape := ⟨3, ![16, 4096, 1024]⟩
abbrev S16x1x1024 : Shape := ⟨3, ![16, 1, 1024]⟩
abbrev S16x1024 : Shape := ⟨2, ![16, 1024]⟩
abbrev S16x256x1024 : Shape := ⟨3, ![16, 256, 1024]⟩
abbrev S16x4352x3088 : Shape := ⟨3, ![16, 4352, 3088]⟩
abbrev S4096 : Shape := ⟨1, ![4096]⟩
abbrev S4096x1 : Shape := ⟨2, ![4096, 1]⟩
abbrev S4096x2 : Shape := ⟨2, ![4096, 2]⟩
abbrev S16 : Shape := ⟨1, ![16]⟩
abbrev S4096x2x1 : Shape := ⟨3, ![4096, 2, 1]⟩
abbrev S1x1x16 : Shape := ⟨3, ![1, 1, 16]⟩
abbrev S4096x2x16 : Shape := ⟨3, ![4096, 2, 16]⟩
abbrev S16x4352x256 : Shape := ⟨3, ![16, 4352, 256]⟩
abbrev S16x4352x4x64 : Shape := ⟨4, ![16, 4352, 4, 64]⟩
abbrev S16x4096x4x64 : Shape := ⟨4, ![16, 4096, 4, 64]⟩
abbrev S16x4096x4x2x2x16 : Shape := ⟨6, ![16, 4096, 4, 2, 2, 16]⟩
abbrev S16x4096x4x2x1x16 : Shape := ⟨6, ![16, 4096, 4, 2, 1, 16]⟩
abbrev S16x4096x4x2x16 : Shape := ⟨5, ![16, 4096, 4, 2, 16]⟩
abbrev S1x4096x1x2x16 : Shape := ⟨5, ![1, 4096, 1, 2, 16]⟩
abbrev S16x256x4x64 : Shape := ⟨4, ![16, 256, 4, 64]⟩
abbrev S16x4352x512 : Shape := ⟨3, ![16, 4352, 512]⟩
abbrev S16x4352x768 : Shape := ⟨3, ![16, 4352, 768]⟩
abbrev S16x4352x16 : Shape := ⟨3, ![16, 4352, 16]⟩

abbrev nBuf : Space → Nat
  | .hbm => 176
  | .vmem => 0
  | .smem => 0
  | _ => 0

abbrev hbmTy0_0 (i : Nat) : BufTy := match i % 128 with
  | 0 => ⟨S16x4352x1024, .f32⟩
  | 1 => ⟨S24x6x1024, .f32⟩
  | 2 => ⟨S1024, .f32⟩
  | 3 => ⟨S1024x3088, .f32⟩
  | 4 => ⟨S64, .f32⟩
  | 5 => ⟨S64, .f32⟩
  | 6 => ⟨S16x4352x1024, .f32⟩
  | 7 => ⟨S_, .f32⟩
  | 8 => ⟨S16x4352, .f32⟩
  | 9 => ⟨S16x4352x1, .f32⟩
  | 10 => ⟨S_, .f32⟩
  | 11 => ⟨S16x4352x1, .f32⟩
  | 12 => ⟨S16x4352x1, .f32⟩
  | 13 => ⟨S_, .f32⟩
  | 14 => ⟨S16x4352x1, .f32⟩
  | 15 => ⟨S16x4352x1, .f32⟩
  | 16 => ⟨S16x4352x1, .f32⟩
  | 17 => ⟨S16x4352x1024, .f32⟩
  | 18 => ⟨S16x4352x1024, .f32⟩
  | 19 => ⟨S1x1x1024, .f32⟩
  | 20 => ⟨S16x4352x1024, .f32⟩
  | 21 => ⟨S16x4352x1024, .f32⟩
  | 22 => ⟨S16x4096x1024, .f32⟩
  | 23 => ⟨S16x1x1024, .f32⟩
  | 24 => ⟨S16x1024, .f32⟩
  | 25 => ⟨S16x1x1024, .f32⟩
  | 26 => ⟨S16x1x1024, .f32⟩
  | 27 => ⟨S16x1024, .f32⟩
  | 28 => ⟨S16x1x1024, .f32⟩
  | 29 => ⟨S_, .f32⟩
  | 30 => ⟨S16x1x1024, .f32⟩
  | 31 => ⟨S16x1x1024, .f32⟩
  | 32 => ⟨S16x4096x1024, .f32⟩
  | 33 => ⟨S16x4096x1024, .f32⟩
  | 34 => ⟨S16x4096x1024, .f32⟩
  | 35 => ⟨S16x4096x1024, .f32⟩
  | 36 => ⟨S16x256x1024, .f32⟩
  | 37 => ⟨S1x1x1024, .f32⟩
  | 38 => ⟨S1024, .f32⟩
  | 39 => ⟨S1x1x1024, .f32⟩
  | 40 => ⟨S1024, .f32⟩
  | 41 => ⟨S_, .f32⟩
  | 42 => ⟨S1024, .f32⟩
  | 43 => ⟨S1024, .f32⟩
  | 44 => ⟨S1x1x1024, .f32⟩
  | 45 => ⟨S16x256x1024, .f32⟩
  | 46 => ⟨S16x256x1024, .f32⟩
  | 47 => ⟨S1x1x1024, .f32⟩
  | 48 => ⟨S16x256x1024, .f32⟩
  | 49 => ⟨S16x256x1024, .f32⟩
  | 50 => ⟨S16x4352x1024, .f32⟩
  | 51 => ⟨S16x4352x3088, .f32⟩
  | 52 => ⟨S4096, .i32⟩
  | 53 => ⟨S_, .i32⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S4096, .i32⟩
  | 62 => ⟨S4096, .i32⟩
  | 63 => ⟨S_, .i32⟩
  | 64 => ⟨S4096, .i32⟩
  | 65 => ⟨S4096, .i1⟩
  | 66 => ⟨S4096, .i1⟩
  | 67 => ⟨S_, .i32⟩
  | 68 => ⟨S4096, .i32⟩
  | 69 => ⟨S4096, .i32⟩
  | 70 => ⟨S4096, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i1⟩
  | 82 => ⟨S_, .i32⟩
  | 83 => ⟨S4096, .i32⟩
  | 84 => ⟨S4096, .i1⟩
  | 85 => ⟨S_, .i32⟩
  | 86 => ⟨S_, .i1⟩
  | 87 => ⟨S4096, .i1⟩
  | 88 => ⟨S4096, .i1⟩
  | 89 => ⟨S4096, .i1⟩
  | 90 => ⟨S4096, .i32⟩
  | 91 => ⟨S4096, .i32⟩
  | 92 => ⟨S4096, .i32⟩
  | 93 => ⟨S4096x1, .i32⟩
  | 94 => ⟨S4096x1, .i32⟩
  | 95 => ⟨S4096x2, .i32⟩
  | 96 => ⟨S4096x2, .f32⟩
  | 97 => ⟨S16, .f32⟩
  | 98 => ⟨S_, .f32⟩
  | 99 => ⟨S16, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S16, .f32⟩
  | 107 => ⟨S4096x2x1, .f32⟩
  | 108 => ⟨S1x1x16, .f32⟩
  | 109 => ⟨S4096x2x16, .f32⟩
  | 110 => ⟨S4096x2x16, .f32⟩
  | 111 => ⟨S4096x2x16, .f32⟩
  | 112 => ⟨S4096x2x16, .f32⟩
  | 113 => ⟨S4096x2x16, .f32⟩
  | 114 => ⟨S16x4352x256, .f32⟩
  | 115 => ⟨S16x4352x4x64, .f32⟩
  | 116 => ⟨S16x4096x4x64, .f32⟩
  | 117 => ⟨S16x4096x4x2x2x16, .f32⟩
  | 118 => ⟨S16x4096x4x2x1x16, .f32⟩
  | 119 => ⟨S16x4096x4x2x16, .f32⟩
  | 120 => ⟨S16x4096x4x2x1x16, .f32⟩
  | 121 => ⟨S16x4096x4x2x16, .f32⟩
  | 122 => ⟨S1x4096x1x2x16, .f32⟩
  | 123 => ⟨S1x4096x1x2x16, .f32⟩
  | 124 => ⟨S16x4096x4x2x16, .f32⟩
  | 125 => ⟨S16x4096x4x2x16, .f32⟩
  | 126 => ⟨S16x4096x4x2x16, .f32⟩
  | 127 => ⟨S16x4096x4x2x16, .f32⟩
  | _ => ⟨S16x4352x1024, .f32⟩

abbrev hbmTy0_1 (i : Nat) : BufTy := match i % 128 with
  | 0 => ⟨S16x4096x4x2x16, .f32⟩
  | 1 => ⟨S16x4096x4x2x16, .f32⟩
  | 2 => ⟨S16x4096x4x2x16, .f32⟩
  | 3 => ⟨S16x4096x4x2x16, .f32⟩
  | 4 => ⟨S16x4096x4x2x16, .f32⟩
  | 5 => ⟨S16x4096x4x2x16, .f32⟩
  | 6 => ⟨S16x4096x4x2x1x16, .f32⟩
  | 7 => ⟨S16x4096x4x2x1x16, .f32⟩
  | 8 => ⟨S16x4096x4x2x2x16, .f32⟩
  | 9 => ⟨S16x4096x4x64, .f32⟩
  | 10 => ⟨S16x256x4x64, .f32⟩
  | 11 => ⟨S16x4352x4x64, .f32⟩
  | 12 => ⟨S16x4352x256, .f32⟩
  | 13 => ⟨S16x4352x4x64, .f32⟩
  | 14 => ⟨S16x4096x4x64, .f32⟩
  | 15 => ⟨S16x4096x4x2x2x16, .f32⟩
  | 16 => ⟨S16x4096x4x2x1x16, .f32⟩
  | 17 => ⟨S16x4096x4x2x16, .f32⟩
  | 18 => ⟨S16x4096x4x2x1x16, .f32⟩
  | 19 => ⟨S16x4096x4x2x16, .f32⟩
  | 20 => ⟨S1x4096x1x2x16, .f32⟩
  | 21 => ⟨S1x4096x1x2x16, .f32⟩
  | 22 => ⟨S16x4096x4x2x16, .f32⟩
  | 23 => ⟨S16x4096x4x2x16, .f32⟩
  | 24 => ⟨S16x4096x4x2x16, .f32⟩
  | 25 => ⟨S16x4096x4x2x16, .f32⟩
  | 26 => ⟨S16x4096x4x2x16, .f32⟩
  | 27 => ⟨S16x4096x4x2x16, .f32⟩
  | 28 => ⟨S16x4096x4x2x16, .f32⟩
  | 29 => ⟨S16x4096x4x2x16, .f32⟩
  | 30 => ⟨S16x4096x4x2x16, .f32⟩
  | 31 => ⟨S16x4096x4x2x16, .f32⟩
  | 32 => ⟨S16x4096x4x2x1x16, .f32⟩
  | 33 => ⟨S16x4096x4x2x1x16, .f32⟩
  | 34 => ⟨S16x4096x4x2x2x16, .f32⟩
  | 35 => ⟨S16x4096x4x64, .f32⟩
  | 36 => ⟨S16x256x4x64, .f32⟩
  | 37 => ⟨S16x4352x4x64, .f32⟩
  | 38 => ⟨S_, .f32⟩
  | 39 => ⟨S16x4352x4x64, .f32⟩
  | 40 => ⟨S16x4352x4x64, .f32⟩
  | 41 => ⟨S16x4352x256, .f32⟩
  | 42 => ⟨S16x4352x256, .f32⟩
  | 43 => ⟨S16x4352x512, .f32⟩
  | 44 => ⟨S16x4352x1024, .f32⟩
  | 45 => ⟨S16x4352x512, .f32⟩
  | 46 => ⟨S16x4352x768, .f32⟩
  | 47 => ⟨S16x4352x16, .f32⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_v8 : Ref sig .tc := ⟨.hbm, 62, rfl⟩
abbrev main_call0_c : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_0 : Ref sig .tc := ⟨.hbm, 67, rfl⟩
abbrev main_call0_v12 : Ref sig .tc := ⟨.hbm, 68, rfl⟩
abbrev main_call0_v13 : Ref sig .tc := ⟨.hbm, 69, rfl⟩
abbrev main_v42 : Ref sig .tc := ⟨.hbm, 70, rfl⟩
abbrev main_c_4 : Ref sig .tc := ⟨.hbm, 71, rfl⟩
abbrev main_call1_v0 : Ref sig .tc := ⟨.hbm, 72, rfl⟩
abbrev main_call1_c : Ref sig .tc := ⟨.hbm, 73, rfl⟩
abbrev main_call1_v1 : Ref sig .tc := ⟨.hbm, 74, rfl⟩
abbrev main_call1_c_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_c_1 : Ref sig .tc := ⟨.hbm, 79, rfl⟩
abbrev main_call1_v5 : Ref sig .tc := ⟨.hbm, 80, rfl⟩
abbrev main_call1_v6 : Ref sig .tc := ⟨.hbm, 81, rfl⟩
abbrev main_call1_c_2 : Ref sig .tc := ⟨.hbm, 82, rfl⟩
abbrev main_call1_v7 : Ref sig .tc := ⟨.hbm, 83, rfl⟩
abbrev main_call1_v8 : Ref sig .tc := ⟨.hbm, 84, rfl⟩
abbrev main_call1_c_3 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_v13 : Ref sig .tc := ⟨.hbm, 90, rfl⟩
abbrev main_call1_v14 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_cst_5 : Ref sig .tc := ⟨.hbm, 98, rfl⟩
abbrev main_v49 : Ref sig .tc := ⟨.hbm, 99, rfl⟩
abbrev main_v50 : Ref sig .tc := ⟨.hbm, 100, rfl⟩
abbrev main_cst_6 : Ref sig .tc := ⟨.hbm, 101, rfl⟩
abbrev main_v51 : Ref sig .tc := ⟨.hbm, 102, rfl⟩
abbrev main_v52 : Ref sig .tc := ⟨.hbm, 103, rfl⟩
abbrev main_cst_7 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_8 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩

abbrev nD : Nat := 1
abbrev τ : Topo := Topo.v7x

variable {F : FTy → Type} [FloatOps F]
-- ==== Proof.Softmax.lean ====
module

public import Idealize.ShloMosaic.Lib.Pointwise

/-! Softmax averages over the extended reals. `avg1` and `avg2` are the weighted averages with unnormalised
    weights, over one and over two families of scores; `dense` normalises each weight first, and `dense_eq` says
    that it is `avg2` over any family of positions outside which every score is `⊥`. -/

@[expose] public section

noncomputable section

namespace Cert.NA

open Idealize.ShloMosaic

/-- The largest of a family of scores (`⊥` for none). -/
def top {n : ℕ} (s : Fin n → EReal) : EReal := Finset.univ.fold max ⊥ s

/-- The average of `v` under the weights `exp (s - top s)`, divided once by their sum. -/
def avg1 {n : ℕ} (s v : Fin n → EReal) : EReal :=
  Ideal.div (∑ x, Ideal.exp (s x - top s) * v x) (∑ x, Ideal.exp (s x - top s))

/-- The average of two families of values under the weights of two families of scores, divided once. -/
def avg2 {m n : ℕ} (s : Fin m → EReal) (s' : Fin n → EReal) (v : Fin m → EReal) (v' : Fin n → EReal) : EReal :=
  Ideal.div
    (∑ x, Ideal.exp (s x - max (top s) (top s')) * v x + ∑ x, Ideal.exp (s' x - max (top s) (top s')) * v' x)
    (∑ x, Ideal.exp (s x - max (top s) (top s')) + ∑ x, Ideal.exp (s' x - max (top s) (top s')))

/-- The same average with every weight divided by the sum of the weights before it meets its value. -/
def dense {m n : ℕ} (s : Fin m → EReal) (s' : Fin n → EReal) (v : Fin m → EReal) (v' : Fin n → EReal) : EReal :=
  ∑ x, v x * Ideal.div (Ideal.exp (s x - max (top s) (top s')))
      (∑ x, Ideal.exp (s x - max (top s) (top s')) + ∑ x, Ideal.exp (s' x - max (top s) (top s')))
  + ∑ x, v' x * Ideal.div (Ideal.exp (s' x - max (top s) (top s')))
      (∑ x, Ideal.exp (s x - max (top s) (top s')) + ∑ x, Ideal.exp (s' x - max (top s) (top s')))

/-- `avg1` with every weight divided first. -/
def dense1 {n : ℕ} (s v : Fin n → EReal) : EReal :=
  ∑ x, v x * Ideal.div (Ideal.exp (s x - top s)) (∑ x, Ideal.exp (s x - top s))

/-! ### The largest score -/

theorem le_top {n : ℕ} (s : Fin n → EReal) (k : Fin n) : s k ≤ top s :=
  Finset.le_sup (f := s) (Finset.mem_univ k)

theorem top_le {n : ℕ} {s : Fin n → EReal} {b : EReal} (h : ∀ k, s k ≤ b) : top s ≤ b :=
  Finset.sup_le (f := s) fun k _ => h k

theorem top_lt {n : ℕ} {s : Fin n → EReal} (h : ∀ k, s k < ⊤) : top s < ⊤ :=
  (Finset.sup_lt_iff (f := s) bot_lt_top).2 fun k _ => h k

/-- The largest score of a family followed by another. -/
theorem top_append {m n N : ℕ} (e : N = m + n) (s : Fin m → EReal) (s' : Fin n → EReal) (x : Fin N → EReal)
    (h1 : ∀ k : Fin m, x ⟨k.val, by omega⟩ = s k) (h2 : ∀ k : Fin n, x ⟨m + k.val, by omega⟩ = s' k) :
    top x = max (top s) (top s') := by
  apply le_antisymm
  · refine top_le fun k => ?_
    by_cases hk : k.val < m
    · rw [show k = ⟨(⟨k.val, hk⟩ : Fin m).val, by omega⟩ from rfl, h1]
      exact (le_top s _).trans (le_max_left _ _)
    · rw [show k = ⟨m + (⟨k.val - m, by omega⟩ : Fin n).val, by omega⟩ from Fin.ext (by simp only []; omega), h2]
      exact (le_top s' _).trans (le_max_right _ _)
  · refine max_le (top_le fun k => ?_) (top_le fun k => ?_)
    · rw [← h1 k]; exact le_top x _
    · rw [← h2 k]; exact le_top x _

/-- The scores outside an injected family of positions being `⊥`, the largest is attained inside it. -/
theorem top_window {m N : ℕ} (φ : Fin m → Fin N) (s : Fin N → EReal) (off : ∀ t, (∀ e, φ e ≠ t) → s t = ⊥) :
    top s = top fun e => s (φ e) := by
  apply le_antisymm
  · refine top_le fun t => ?_
    by_cases h : ∃ e, φ e = t
    · obtain ⟨e, rfl⟩ := h
      exact le_top (fun e => s (φ e)) e
    · rw [off t fun e he => h ⟨e, he⟩]; exact bot_le
  · exact top_le fun e => le_top s _

/-- A sum of terms that vanish outside an injected family of positions. -/
theorem sum_window {m N : ℕ} (φ : Fin m → Fin N) (hφ : Function.Injective φ) (f : Fin N → EReal)
    (off : ∀ t, (∀ e, φ e ≠ t) → f t = 0) : ∑ t, f t = ∑ e, f (φ e) := by
  refine (Finset.sum_of_injOn φ hφ.injOn (fun _ _ => Finset.mem_coe.2 (Finset.mem_univ _)) (fun t _ h => off t fun e he => h ⟨e, Finset.mem_coe.2 (Finset.mem_univ e), he⟩) fun _ _ => rfl).symm

/-- A sum over a family followed by another. -/
theorem sum_append {m n N : ℕ} (e : N = m + n) (x : Fin N → EReal) :
    ∑ k, x k = ∑ k : Fin m, x ⟨k.val, by omega⟩ + ∑ k : Fin n, x ⟨m + k.val, by omega⟩ := by
  subst e
  rw [Fin.sum_univ_add]
  rfl

/-! ### The weights -/

theorem exp_nonneg (x : EReal) : 0 ≤ Ideal.exp x := by
  induction x using EReal.rec with
  | bot => exact le_refl _
  | top => exact le_top'
  | coe r => exact EReal.coe_nonneg.2 (Real.exp_pos r).le
where le_top' : (0 : EReal) ≤ Ideal.exp ⊤ := _root_.le_top

theorem exp_bot_sub (x : EReal) : Ideal.exp (⊥ - x) = 0 := by
  rw [sub_eq_add_neg, EReal.bot_add]; rfl

theorem exp_pos_of_real {r M : EReal} (hr : ⊥ < r) (hM : r ≤ M) (hM' : M < ⊤) : 0 < Ideal.exp (r - M) := by
  lift r to ℝ using ⟨ne_of_lt (hM.trans_lt hM'), ne_of_gt hr⟩
  lift M to ℝ using ⟨ne_of_lt hM', ne_of_gt (hr.trans_le hM)⟩
  rw [← EReal.coe_sub]
  exact EReal.coe_pos.2 (Real.exp_pos _)

/-- Multiplication by a nonnegative number below `⊤` goes through a sum. -/
theorem sum_mul_of_nonneg {n : ℕ} (f : Fin n → EReal) {c : EReal} (h0 : 0 ≤ c) (h1 : c ≠ ⊤) : (∑ k, f k) * c = ∑ k, f k * c := by
  induction n with
  | zero => simp
  | succ n ih => rw [Fin.sum_univ_succ, Fin.sum_univ_succ, EReal.right_distrib_of_nonneg_of_ne_top h0 h1, ih]

theorem div_of_pos {x y : EReal} (h : 0 < y) : Ideal.div x y = x * y⁻¹ := by
  unfold Ideal.div; rw [if_neg h.ne']

theorem inv_nonneg' {y : EReal} (h : 0 < y) : 0 ≤ y⁻¹ := EReal.inv_nonneg_of_nonneg h.le

theorem inv_ne_top' {y : EReal} (h : 0 < y) : y⁻¹ ≠ ⊤ := by
  induction y using EReal.rec with
  | bot => simp
  | top => simp
  | coe r =>
    rw [← EReal.coe_inv]; exact EReal.coe_ne_top _

/-- Dividing every weight by the (positive) sum is dividing the weighted sum. -/
theorem sum_div {n : ℕ} (v w : Fin n → EReal) {D : EReal} (hD : 0 < D) :
    ∑ x, v x * Ideal.div (w x) D = (∑ x, w x * v x) * D⁻¹ := by
  rw [sum_mul_of_nonneg _ (inv_nonneg' hD) (inv_ne_top' hD)]
  refine Finset.sum_congr rfl fun x _ => ?_
  rw [div_of_pos hD, ← mul_assoc, mul_comm (v x)]

/-- One family: normalising first is dividing last, when the scores are below `⊤` and one is above `⊥`. -/
theorem dense1_eq {n : ℕ} (s v : Fin n → EReal) (hs : ∀ k, s k < ⊤) (k0 : Fin n) (hk0 : ⊥ < s k0) : dense1 s v = avg1 s v := by
  have hD : 0 < ∑ x, Ideal.exp (s x - top s) :=
    (exp_pos_of_real hk0 (le_top s k0) (top_lt hs)).trans_le
      (Finset.single_le_sum (f := fun x => Ideal.exp (s x - top s)) (fun x _ => exp_nonneg _) (Finset.mem_univ k0))
  unfold dense1 avg1
  rw [sum_div _ _ hD, div_of_pos hD]

/-- Two families, the first `⊥` outside an injected family of positions: the normalised average over all positions is the
    unnormalised one over those positions. -/
theorem dense_eq {m n N : ℕ} (φ : Fin m → Fin N) (hφ : Function.Injective φ) (s v : Fin N → EReal) (s' v' : Fin n → EReal)
    (off : ∀ t, (∀ e, φ e ≠ t) → s t = ⊥) (hs : ∀ k, s k < ⊤) (hs' : ∀ k, s' k < ⊤) (k0 : Fin n) (hk0 : ⊥ < s' k0) :
    dense s s' v v' = avg2 (fun e => s (φ e)) s' (fun e => v (φ e)) v' := by
  unfold dense avg2
  rw [← top_window φ s off]
  generalize hM : max (top s) (top s') = M
  have hM1 : s' k0 ≤ M := hM ▸ (le_top s' k0).trans (le_max_right _ _)
  have hM2 : M < ⊤ := hM ▸ max_lt (top_lt hs) (top_lt hs')
  have off0 : ∀ t, (∀ e, φ e ≠ t) → Ideal.exp (s t - M) = 0 := fun t h => by rw [off t h, exp_bot_sub]
  rw [sum_window φ hφ (fun t => Ideal.exp (s t - M)) off0]
  generalize hDD : (∑ e, Ideal.exp (s (φ e) - M)) + ∑ x, Ideal.exp (s' x - M) = D
  have hD : 0 < D := by
    rw [← hDD]
    refine lt_of_lt_of_le (exp_pos_of_real hk0 hM1 hM2) ?_
    refine (Finset.single_le_sum (f := fun x => Ideal.exp (s' x - M)) (fun x _ => exp_nonneg _) (Finset.mem_univ k0)).trans ?_
    exact le_add_of_nonneg_left (Finset.sum_nonneg fun x _ => exp_nonneg _)
  rw [sum_div _ _ hD, sum_div _ _ hD, div_of_pos hD, EReal.right_distrib_of_nonneg_of_ne_top (inv_nonneg' hD) (inv_ne_top' hD),
    sum_window φ hφ (fun t => Ideal.exp (s t - M) * v t) fun t h => by rw [off0 t h, zero_mul]]

/-! ### Finite numbers -/

/-- The extended real is a real number. -/
def Fin' (x : EReal) : Prop := ⊥ < x ∧ x < ⊤

theorem fin_add {x y : EReal} (hx : Fin' x) (hy : Fin' y) : Fin' (x + y) := by
  obtain ⟨h1, h2⟩ := hx; obtain ⟨h3, h4⟩ := hy
  lift x to ℝ using ⟨h2.ne, h1.ne'⟩; lift y to ℝ using ⟨h4.ne, h3.ne'⟩
  rw [← EReal.coe_add]; exact ⟨EReal.bot_lt_coe _, EReal.coe_lt_top _⟩

theorem fin_mul {x y : EReal} (hx : Fin' x) (hy : Fin' y) : Fin' (x * y) := by
  obtain ⟨h1, h2⟩ := hx; obtain ⟨h3, h4⟩ := hy
  lift x to ℝ using ⟨h2.ne, h1.ne'⟩; lift y to ℝ using ⟨h4.ne, h3.ne'⟩
  rw [← EReal.coe_mul]; exact ⟨EReal.bot_lt_coe _, EReal.coe_lt_top _⟩

theorem fin_sum {n : ℕ} {f : Fin n → EReal} (h : ∀ k, Fin' (f k)) : Fin' (∑ k, f k) := by
  induction n with
  | zero => simp only [Finset.univ_eq_empty, Finset.sum_empty]; exact ⟨EReal.bot_lt_zero, EReal.zero_lt_top⟩
  | succ n ih => rw [Fin.sum_univ_succ]; exact fin_add (h _) (ih fun k => h _)

/-- One eighth, as an extended real. -/
def eighth : EReal := ((1 / 8 : ℝ) : EReal)

theorem fin_eighth : Fin' eighth := ⟨EReal.bot_lt_coe _, EReal.coe_lt_top _⟩

theorem eighth_bf16 : Ideal.ofBits .bf16 0x3E00#16 = eighth := by
  simp [Ideal.ofBits, Ideal.ieee, -EReal.coe_mul, eighth]; norm_num

theorem eighth_f32 : Ideal.ofBits .f32 0x3E000000#32 = eighth := by
  simp [Ideal.ofBits, Ideal.ieee, -EReal.coe_mul, eighth]; norm_num

theorem bot_f32 : Ideal.ofBits .f32 0xFF800000#32 = ⊥ := by
  simp [Ideal.ofBits, Ideal.ieee]

theorem top_f32 : Ideal.ofBits .f32 0x7F800000#32 = ⊤ := by
  simp [Ideal.ofBits, Ideal.ieee]

/-- A scale of one eighth on the left factors of a sum of products is one on the sum. -/
theorem sum_scaled {n : ℕ} (q k : Fin n → EReal) : ∑ d, q d * eighth * k d = (∑ d, q d * k d) * eighth := by
  rw [sum_mul_of_nonneg (c := eighth) _ (EReal.coe_nonneg.2 (by norm_num)) (EReal.coe_ne_top _)]
  exact Finset.sum_congr rfl fun d _ => by rw [mul_assoc, mul_comm eighth, ← mul_assoc]

end Cert.NA

end
-- ==== Proof.Head.lean ====
/- One head of one block: what the kernel's body computes of its pieces, entry by entry. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.NA

open Idealize.ShloMosaic Cert.KernelIdeal Cert.KernelIdeal.Gen

/-- A piece of one head: 256 rows of 64 entries. -/
abbrev Piece : Type := Vec Ideal S1x256x64 .bf16

/-- Three pieces one after the other. -/
def cat3 (k0 k1 k2 : Piece) (e : Fin 768) (x : Fin 64) : EReal :=
  if h : e.val < 256 then k0 (ix3 0 ⟨e.val, h⟩ x)
  else if h' : e.val - 256 < 256 then k1 (ix3 0 ⟨e.val - 256, by omega⟩ x)
  else k2 (ix3 0 ⟨e.val - 256 - 256, by omega⟩ x)

/-- The scores of a query against the keys of its three blocks, with the biases. -/
def scoreA (q k0 k1 k2 : Piece) (b : Vec Ideal S1x1x256x768 .f32) (r : Fin 256) (e : Fin 768) : EReal :=
  (∑ x, q (ix3 0 r x) * eighth * cat3 k0 k1 k2 e x) + b (ix4 0 0 r e)

/-- The scores of a query against the context's keys. -/
def scoreC (q kc : Piece) (r : Fin 256) (e : Fin 256) : EReal := ∑ x, q (ix3 0 r x) * eighth * kc (ix3 0 e x)

/-- One head of a block of latent queries. -/
def headA (q k0 k1 k2 kc v0 v1 v2 vc : Piece) (b : Vec Ideal S1x1x256x768 .f32) : Piece :=
  k0_pay7 (k0_pay4 v0 v1 v2 vc) (k0_pay5 q k0 k1 k2 kc) (k0_pay6 q k0 k1 k2 kc b)

/-- One head of a block of context queries. -/
def headB (q kc vc : Piece) : Piece := k0_pay34 q kc vc

/-- The average the body forms of its scores and values. -/
theorem pay7_at (v27 : FVec Ideal S1024x64 .bf16) (v28 : FVec Ideal S256x1024 .f32) (v32 : FVec Ideal S256x768 .f32) (r : Fin 256) (d : Fin 64) :
    k0_pay7 v27 v28 v32 (ix3 0 r d) = avg2 (fun e : Fin 768 => v32 (ix2 r e)) (fun e : Fin 256 => v28 (ix2 r ⟨768 + e.val, by omega⟩))
      (fun e : Fin 768 => v27 (ix2 ⟨e.val, by omega⟩ d)) (fun e : Fin 256 => v27 (ix2 ⟨768 + e.val, by omega⟩ d)) := by
  pointwise [k0_pay7]
  rw [show (4286578688#32 : BitVec 32) = 0xFF800000#32 from rfl, bot_f32]
  rfl

/-- The values of the three blocks. -/
theorem pay4_lt (v0 v1 v2 vc : Piece) (e : Fin 768) (d : Fin 64) :
    k0_pay4 v0 v1 v2 vc (ix2 ⟨e.val, by omega⟩ d) = cat3 v0 v1 v2 e d := by
  pointwise [k0_pay4]
  unfold cat3
  have := e.isLt
  split_ifs <;> first | rfl | omega

/-- The values of the context. -/
theorem pay4_ge (v0 v1 v2 vc : Piece) (e : Fin 256) (d : Fin 64) :
    k0_pay4 v0 v1 v2 vc (ix2 ⟨768 + e.val, by omega⟩ d) = vc (ix3 0 e d) := by
  pointwise [k0_pay4]
  have := e.isLt
  split_ifs <;> first | omega | (congr 2; apply Fin.ext; show 768 + e.val - 256 - 256 - 256 = e.val; omega)

/-- The products with the keys of the three blocks. -/
theorem pay5_lt (q k0 k1 k2 kc : Piece) (r : Fin 256) (e : Fin 768) :
    k0_pay5 q k0 k1 k2 kc (ix2 r ⟨e.val, by omega⟩) = ∑ x, q (ix3 0 r x) * eighth * cat3 k0 k1 k2 e x := by
  pointwise [k0_pay5]
  rw [show (15872#16 : BitVec 16) = 0x3E00#16 from rfl, eighth_bf16]
  refine Finset.sum_congr rfl fun x _ => congrArg _ ?_
  unfold cat3
  have := e.isLt
  split_ifs <;> first | rfl | omega

/-- The products with the keys of the context. -/
theorem pay5_ge (q k0 k1 k2 kc : Piece) (r : Fin 256) (e : Fin 256) :
    k0_pay5 q k0 k1 k2 kc (ix2 r ⟨768 + e.val, by omega⟩) = scoreC q kc r e := by
  pointwise [k0_pay5]
  rw [show (15872#16 : BitVec 16) = 0x3E00#16 from rfl, eighth_bf16]
  refine Finset.sum_congr rfl fun x _ => congrArg _ ?_
  have := e.isLt
  split_ifs <;> first | omega | (congr 2; apply Fin.ext; show 768 + e.val - 256 - 256 - 256 = e.val; omega)

/-- The scores with the biases. -/
theorem pay6_at (q k0 k1 k2 kc : Piece) (b : Vec Ideal S1x1x256x768 .f32) (r : Fin 256) (e : Fin 768) :
    k0_pay6 q k0 k1 k2 kc b (ix2 r e) = scoreA q k0 k1 k2 b r e := by
  unfold scoreA
  rw [← pay5_lt q k0 k1 k2 kc]
  pointwise [k0_pay6]

/-- One head of a block of latent queries, entry by entry. -/
theorem headA_at (q k0 k1 k2 kc v0 v1 v2 vc : Piece) (b : Vec Ideal S1x1x256x768 .f32) (r : Fin 256) (d : Fin 64) :
    headA q k0 k1 k2 kc v0 v1 v2 vc b (ix3 0 r d)
      = avg2 (scoreA q k0 k1 k2 b r) (scoreC q kc r) (fun e => cat3 v0 v1 v2 e d) (fun e => vc (ix3 0 e d)) := by
  unfold headA
  rw [pay7_at]
  simp only [pay4_lt, pay4_ge, pay5_ge, pay6_at]

/-- One head of a block of context queries, entry by entry. -/
theorem headB_at (q kc vc : Piece) (r : Fin 256) (d : Fin 64) :
    headB q kc vc (ix3 0 r d) = avg1 (scoreC q kc r) (fun e => vc (ix3 0 e d)) := by
  unfold headB
  pointwise [k0_pay34]
  rw [show (15872#16 : BitVec 16) = 0x3E00#16 from rfl, eighth_bf16, show (4286578688#32 : BitVec 32) = 0xFF800000#32 from rfl, bot_f32]
  rfl

end Cert.NA

end
-- ==== Proof.Block.lean ====
/- What a grid point leaves in the output's block, as one function of the blocks it reads. -/
module

public import proofs.«01_k».proof.Proof.Gen.KernelIdeal.Value
public import proofs.«01_k».proof.Proof.Head
public import Idealize.ShloMosaic.Lib.Pipeline.ValueKit

@[expose] public section

set_option maxRecDepth 16384

noncomputable section

namespace Cert.NA

open Idealize.ShloMosaic Idealize.ShloMosaic.TcCoe Cert.KernelIdeal Cert.KernelIdeal.Gen

/-- The columns of one head, cut out of a block of 256 rows. -/
def cut (x : Vec Ideal S1x256x256 .bf16) (h : Fin 4) : Piece :=
  fun j => x (ix3 0 (j 1) ⟨64 * h.val + (j 2).val, by have := h.isLt; have : (j 2).val < 64 := (j 2).isLt; omega⟩)

/-- One head's table of biases. -/
def cutB (x : Vec Ideal S1x4x256x768 .f32) (h : Fin 4) : Vec Ideal S1x1x256x768 .f32 :=
  fun j => x (ix4 0 h (j 2) (j 3))

/-- The head a column belongs to. -/
def headOf (y : Fin 256) : Fin 4 := ⟨y.val / 64, by omega⟩

/-- A column's place within its head. -/
def placeOf (y : Fin 256) : Fin 64 := ⟨y.val % 64, by omega⟩

/-- The output's block at a point over latent queries. -/
def blockA (x0 x1 x2 x3 x4 x5 x6 x7 x8 : Vec Ideal S1x256x256 .bf16) (x9 : Vec Ideal S1x4x256x768 .f32) : Vec Ideal S1x256x256 .bf16 :=
  fun y => headA (cut x0 (headOf (y 2))) (cut x1 (headOf (y 2))) (cut x2 (headOf (y 2))) (cut x3 (headOf (y 2))) (cut x7 (headOf (y 2)))
    (cut x4 (headOf (y 2))) (cut x5 (headOf (y 2))) (cut x6 (headOf (y 2))) (cut x8 (headOf (y 2))) (cutB x9 (headOf (y 2)))
    (ix3 0 (y 1) (placeOf (y 2)))

/-- The output's block at a point over context queries. -/
def blockB (x0 x7 x8 : Vec Ideal S1x256x256 .bf16) : Vec Ideal S1x256x256 .bf16 :=
  fun y => headB (cut x0 (headOf (y 2))) (cut x7 (headOf (y 2))) (cut x8 (headOf (y 2))) (ix3 0 (y 1) (placeOf (y 2)))

theorem ld_cut0 (x : Vec Ideal S1x256x256 .bf16) :
    View.ld x (Rect.unit ![0, 0, 0] ![1, 256, 64] inb_S1x256x256_S1x256x64_0_0_0) = cut x 0 := by
  funext j; idx_vars j; unfold cut; pointwise

theorem ld_cut1 (x : Vec Ideal S1x256x256 .bf16) :
    View.ld x (Rect.unit ![0, 0, 64] ![1, 256, 64] inb_S1x256x256_S1x256x64_0_0_64) = cut x 1 := by
  funext j; idx_vars j; unfold cut; pointwise

theorem ld_cut2 (x : Vec Ideal S1x256x256 .bf16) :
    View.ld x (Rect.unit ![0, 0, 128] ![1, 256, 64] inb_S1x256x256_S1x256x64_0_0_128) = cut x 2 := by
  funext j; idx_vars j; unfold cut; pointwise

theorem ld_cut3 (x : Vec Ideal S1x256x256 .bf16) :
    View.ld x (Rect.unit ![0, 0, 192] ![1, 256, 64] inb_S1x256x256_S1x256x64_0_0_192) = cut x 3 := by
  funext j; idx_vars j; unfold cut; pointwise

theorem ld_cutB0 (x : Vec Ideal S1x4x256x768 .f32) :
    View.ld x (Rect.unit ![0, 0, 0, 0] ![1, 1, 256, 768] inb_S1x4x256x768_S1x1x256x768_0_0_0_0) = cutB x 0 := by
  funext j; idx_vars j; unfold cutB; pointwise

theorem ld_cutB1 (x : Vec Ideal S1x4x256x768 .f32) :
    View.ld x (Rect.unit ![0, 1, 0, 0] ![1, 1, 256, 768] inb_S1x4x256x768_S1x1x256x768_0_1_0_0) = cutB x 1 := by
  funext j; idx_vars j; unfold cutB; pointwise

theorem ld_cutB2 (x : Vec Ideal S1x4x256x768 .f32) :
    View.ld x (Rect.unit ![0, 2, 0, 0] ![1, 1, 256, 768] inb_S1x4x256x768_S1x1x256x768_0_2_0_0) = cutB x 2 := by
  funext j; idx_vars j; unfold cutB; pointwise

theorem ld_cutB3 (x : Vec Ideal S1x4x256x768 .f32) :
    View.ld x (Rect.unit ![0, 3, 0, 0] ![1, 1, 256, 768] inb_S1x4x256x768_S1x1x256x768_0_3_0_0) = cutB x 3 := by
  funext j; idx_vars j; unfold cutB; pointwise

/-- Where an entry of the block lies: its head and its place. -/
theorem blockA_at (x0 x1 x2 x3 x4 x5 x6 x7 x8 : Vec Ideal S1x256x256 .bf16) (x9 : Vec Ideal S1x4x256x768 .f32) (y : S1x256x256.Idx)
    (h : Fin 4) (x : S1x256x64.Idx) (h1 : (y 1).val = (x 1).val) (h2 : (y 2).val = 64 * h.val + (x 2).val) :
    blockA x0 x1 x2 x3 x4 x5 x6 x7 x8 x9 y
      = headA (cut x0 h) (cut x1 h) (cut x2 h) (cut x3 h) (cut x7 h) (cut x4 h) (cut x5 h) (cut x6 h) (cut x8 h) (cutB x9 h) x := by
  have l2 : (x 2).val < 64 := (x 2).isLt
  have e1 : headOf (y 2) = h := Fin.ext (show (y 2).val / 64 = h.val by omega)
  have e2 : (ix3 0 (y 1) (placeOf (y 2)) : S1x256x64.Idx) = x := by
    idx_vars x
    refine congr (congr (congrArg ix3 (Subsingleton.elim _ _)) (Fin.ext h1)) (Fin.ext (show (y 2).val % 64 = _ by simp only at h2 l2 ⊢; omega))
  unfold blockA
  rw [e1, e2]

theorem blockB_at (x0 x7 x8 : Vec Ideal S1x256x256 .bf16) (y : S1x256x256.Idx)
    (h : Fin 4) (x : S1x256x64.Idx) (h1 : (y 1).val = (x 1).val) (h2 : (y 2).val = 64 * h.val + (x 2).val) :
    blockB x0 x7 x8 y = headB (cut x0 h) (cut x7 h) (cut x8 h) x := by
  have l2 : (x 2).val < 64 := (x 2).isLt
  have e1 : headOf (y 2) = h := Fin.ext (show (y 2).val / 64 = h.val by omega)
  have e2 : (ix3 0 (y 1) (placeOf (y 2)) : S1x256x64.Idx) = x := by
    idx_vars x
    refine congr (congr (congrArg ix3 (Subsingleton.elim _ _)) (Fin.ext h1)) (Fin.ext (show (y 2).val % 64 = _ by simp only at h2 l2 ⊢; omega))
  unfold blockB
  rw [e1, e2]

variable (m : (ℓ : Loc nD τ sig) → Buf (Elt Ideal) ℓ)

/-- What a point over latent queries leaves. -/
theorem outs_A (c : Dev nD) (t : Fin cfg0.N) (h0 : t.val % 17 ≤ 15) (h1 : ¬t.val % 17 = 16) (y : S1x256x256.Idx) :
    outsAt0 m c t.val t.isLt y = blockA (iblk m c 0 t) (iblk m c 1 t) (iblk m c 2 t) (iblk m c 3 t) (iblk m c 4 t) (iblk m c 5 t)
      (iblk m c 6 t) (iblk m c 7 t) (iblk m c 8 t) (iblk m c 9 t) y := by
  rw [outsAt0_A m c t h0 h1]
  frame_out
  canon_tiles x h
  · rw [blockA_at _ _ _ _ _ _ _ _ _ _ y 3 x h1 h2, ← ld_cut3, ← ld_cut3, ← ld_cut3, ← ld_cut3, ← ld_cut3, ← ld_cut3, ← ld_cut3, ← ld_cut3, ← ld_cut3, ← ld_cutB3]
    rfl
  · rw [blockA_at _ _ _ _ _ _ _ _ _ _ y 2 x h1 h2, ← ld_cut2, ← ld_cut2, ← ld_cut2, ← ld_cut2, ← ld_cut2, ← ld_cut2, ← ld_cut2, ← ld_cut2, ← ld_cut2, ← ld_cutB2]
    rfl
  · rw [blockA_at _ _ _ _ _ _ _ _ _ _ y 1 x h1 h2, ← ld_cut1, ← ld_cut1, ← ld_cut1, ← ld_cut1, ← ld_cut1, ← ld_cut1, ← ld_cut1, ← ld_cut1, ← ld_cut1, ← ld_cutB1]
    rfl
  · rw [blockA_at _ _ _ _ _ _ _ _ _ _ y 0 x h1 (by simpa using h2), ← ld_cut0, ← ld_cut0, ← ld_cut0, ← ld_cut0, ← ld_cut0, ← ld_cut0, ← ld_cut0, ← ld_cut0, ← ld_cut0, ← ld_cutB0]
    rfl

/-- What a point over context queries leaves. -/
theorem outs_B (c : Dev nD) (t : Fin cfg0.N) (h0 : ¬t.val % 17 ≤ 15) (h1 : t.val % 17 = 16) (y : S1x256x256.Idx) :
    outsAt0 m c t.val t.isLt y = blockB (iblk m c 0 t) (iblk m c 7 t) (iblk m c 8 t) y := by
  rw [outsAt0_B m c t h0 h1]
  frame_out
  canon_tiles x h
  · rw [blockB_at _ _ _ y 3 x h1 h2, ← ld_cut3, ← ld_cut3, ← ld_cut3]
    rfl
  · rw [blockB_at _ _ _ y 2 x h1 h2, ← ld_cut2, ← ld_cut2, ← ld_cut2]
    rfl
  · rw [blockB_at _ _ _ y 1 x h1 h2, ← ld_cut1, ← ld_cut1, ← ld_cut1]
    rfl
  · rw [blockB_at _ _ _ y 0 x h1 (by simpa using h2), ← ld_cut0, ← ld_cut0, ← ld_cut0]
    rfl

end Cert.NA

end
-- ==== Proof.Bias.lean ====
/- The relative position biases the host builds before the launch: one table per kind of query block. -/
module

public import proofs.«01_k».proof.Proof.Gen.KernelIdeal.Frame
public import Idealize.ShloMosaic.Lib.Pipeline.ValueKit
public import Idealize.ShloMosaic.Lib.StableHlo.RunRead

@[expose] public section

set_option maxRecDepth 16384

noncomputable section

namespace Cert.NA

open Idealize.ShloMosaic Idealize.ShloMosaic.TcCoe Cert.KernelIdeal Cert.KernelIdeal.Gen

/-- The column of the grid, down the rows of a table. -/
def colQ : IVec S64x1 32 := broadcastInDim S64x1 ![0] bcast_S64_S64x1_0 (iotaInDim S64 32 0)

/-- The column of the grid, along the rows of a table. -/
def colK : IVec S1x64 32 := broadcastInDim S1x64 ![1] bcast_S64_S1x64_1 (iotaInDim S64 32 0)

/-- The first column of a query's window. -/
def colLo : IVec S64x1 32 :=
  minsi (broadcastInDim S64x1 ![] bcast_S_S64x1 (constantI S_ 32 48#32))
    (maxsi (broadcastInDim S64x1 ![] bcast_S_S64x1 (constantI S_ 32 0#32))
      (subi colQ (broadcastInDim S64x1 ![] bcast_S_S64x1 (constantI S_ 32 8#32))))

/-- Whether a key's column lies in a query's window. -/
def colOk : IVec S64x64 1 :=
  andi (cmpi .sge (broadcastInDim S64x64 ![0, 1] bcast_S1x64_S64x64_0_1 colK) (broadcastInDim S64x64 ![0, 1] bcast_S64x1_S64x64_0_1 colLo))
    (cmpi .slt (broadcastInDim S64x64 ![0, 1] bcast_S1x64_S64x64_0_1 colK) (broadcastInDim S64x64 ![0, 1] bcast_S64x1_S64x64_0_1
      (addi colLo (broadcastInDim S64x1 ![] bcast_S_S64x1 (constantI S_ 32 16#32)))))

/-- The column of the bias a key takes, clamped. -/
def colIx : IVec S64x64 32 :=
  minsi (broadcastInDim S64x64 ![] bcast_S_S64x64 (constantI S_ 32 30#32))
    (maxsi (broadcastInDim S64x64 ![] bcast_S_S64x64 (constantI S_ 32 0#32))
      (subi (addi (subi (broadcastInDim S64x64 ![0, 1] bcast_S1x64_S64x64_0_1 colK) (broadcastInDim S64x64 ![0, 1] bcast_S64x1_S64x64_0_1 colQ))
        (broadcastInDim S64x64 ![] bcast_S_S64x64 (constantI S_ 32 16#32))) (broadcastInDim S64x64 ![] bcast_S_S64x64 (constantI S_ 32 1#32))))

/-- The four rows of queries from row `r0` on. -/
def rowQ (r0 : BitVec 32) : IVec S4x1 32 :=
  addi (broadcastInDim S4x1 ![] bcast_S_S4x1 (constantI S_ 32 r0)) (broadcastInDim S4x1 ![0] bcast_S4_S4x1_0 (iotaInDim S4 32 0))

/-- The twelve rows of keys from row `k0` on. -/
def rowK (k0 : BitVec 32) : IVec S1x12 32 :=
  addi (broadcastInDim S1x12 ![] bcast_S_S1x12 (constantI S_ 32 k0)) (broadcastInDim S1x12 ![1] bcast_S12_S1x12_1 (iotaInDim S12 32 0))

/-- The first row of a query's window. -/
def rowLo (r0 : BitVec 32) : IVec S4x1 32 :=
  minsi (broadcastInDim S4x1 ![] bcast_S_S4x1 (constantI S_ 32 56#32))
    (maxsi (broadcastInDim S4x1 ![] bcast_S_S4x1 (constantI S_ 32 0#32))
      (subi (rowQ r0) (broadcastInDim S4x1 ![] bcast_S_S4x1 (constantI S_ 32 4#32))))

/-- Whether a key's row lies in a query's window. -/
def rowOk (r0 k0 : BitVec 32) : IVec S4x12 1 :=
  andi (cmpi .sge (broadcastInDim S4x12 ![0, 1] bcast_S1x12_S4x12_0_1 (rowK k0)) (broadcastInDim S4x12 ![0, 1] bcast_S4x1_S4x12_0_1 (rowLo r0)))
    (cmpi .slt (broadcastInDim S4x12 ![0, 1] bcast_S1x12_S4x12_0_1 (rowK k0)) (broadcastInDim S4x12 ![0, 1] bcast_S4x1_S4x12_0_1
      (addi (rowLo r0) (broadcastInDim S4x1 ![] bcast_S_S4x1 (constantI S_ 32 8#32)))))

/-- The row of the bias a key takes, clamped. -/
def rowIx (r0 k0 : BitVec 32) : IVec S4x12 32 :=
  minsi (broadcastInDim S4x12 ![] bcast_S_S4x12 (constantI S_ 32 14#32))
    (maxsi (broadcastInDim S4x12 ![] bcast_S_S4x12 (constantI S_ 32 0#32))
      (subi (addi (subi (broadcastInDim S4x12 ![0, 1] bcast_S1x12_S4x12_0_1 (rowK k0)) (broadcastInDim S4x12 ![0, 1] bcast_S4x1_S4x12_0_1 (rowQ r0)))
        (broadcastInDim S4x12 ![] bcast_S_S4x12 (constantI S_ 32 8#32))) (broadcastInDim S4x12 ![] bcast_S_S4x12 (constantI S_ 32 1#32))))

/-- The rows the first gather takes. -/
def rowTake (r0 k0 : BitVec 32) : IVec S48x1 32 :=
  let v := shapeCast S48 (rowIx r0 k0) shapeCasts_S4x12_S48
  broadcastInDim S48x1 ![0] bcast_S48_S48x1_0
    (select (cmpi .slt v (broadcastInDim S48 ![] bcast_S_S48 (constantI S_ 32 0#32)))
      (addi v (broadcastInDim S48 ![] bcast_S_S48 (constantI S_ 32 15#32))) v)

/-- The columns the second gather takes. -/
def colTake : IVec S4096x1 32 :=
  let v := shapeCast S4096 colIx shapeCasts_S64x64_S4096
  broadcastInDim S4096x1 ![0] bcast_S4096_S4096x1_0
    (select (cmpi .slt v (broadcastInDim S4096 ![] bcast_S_S4096 (constantI S_ 32 0#32)))
      (addi v (broadcastInDim S4096 ![] bcast_S_S4096 (constantI S_ 32 31#32))) v)

variable {F : FTy → Type} [FloatOps F]

/-- The biases of four rows of queries against twelve rows of keys, before the mask. -/
def rawTab (r0 k0 : BitVec 32) (rpb : FVec F S4x15x31 .f32) : FVec F S4x256x768 .f32 :=
  shapeCast S4x256x768 (transpose S4x4x64x12x64 [0, 1, 3, 2, 4]
    (shapeCast S4x4x12x64x64 (Host.gather gather_S4x48x31_S4096x1_S4x48x4096_01_2_n_n_2_1_4481
      (Host.gather gather_S4x15x31_S48x1_S4x48x31_02_1_n_n_1_1_4131 rpb (rowTake r0 k0)) colTake) shapeCasts_S4x48x4096_S4x4x12x64x64)
    transposes_S4x4x12x64x64_S4x4x64x12x64_0_1_3_2_4) shapeCasts_S4x4x64x12x64_S4x256x768

/-- Which keys lie in which queries' windows. -/
def maskTab (r0 k0 : BitVec 32) : IVec S256x768 1 :=
  shapeCast S256x768 (andi
    (broadcastInDim S4x64x12x64 ![0, 1, 2, 3] bcast_S4x1x12x1_S4x64x12x64_0_1_2_3 (broadcastInDim S4x1x12x1 ![0, 2] bcast_S4x12_S4x1x12x1_0_2 (rowOk r0 k0)))
    (broadcastInDim S4x64x12x64 ![0, 1, 2, 3] bcast_S1x64x1x64_S4x64x12x64_0_1_2_3 (broadcastInDim S1x64x1x64 ![1, 3] bcast_S64x64_S1x64x1x64_1_3 colOk)))
    shapeCasts_S4x64x12x64_S256x768

/-- The biases of one kind of block: a key outside the window has the bias minus infinity. -/
def biasTab (r0 k0 : BitVec 32) (rpb : FVec F S4x15x31 .f32) : FVec F S4x256x768 .f32 :=
  select (broadcastInDim S4x256x768 ![1, 2] bcast_S256x768_S4x256x768_1_2 (maskTab r0 k0)) (rawTab r0 k0 rpb)
    (broadcastInDim S4x256x768 ![] bcast_S_S4x256x768 (constant S_ .f32 0xFF800000#32))

/-- Three tables stacked. -/
def stack3 (a b d : FVec F S1x4x256x768 .f32) : FVec F S3x4x256x768 .f32 :=
  concatenate S3x4x256x768 0 [⟨S1x4x256x768, a⟩, ⟨S1x4x256x768, b⟩, ⟨S1x4x256x768, d⟩]
    concatenates_S1x4x256x768_S1x4x256x768_S1x4x256x768_S3x4x256x768_d0

/-- Stacks of equal tables are equal. -/
theorem stack3_congr {a b d a' b' d' : FVec F S1x4x256x768 .f32} (h1 : a = a') (h2 : b = b') (h3 : d = d') :
    stack3 a b d = stack3 a' b' d' := by
  rw [h1, h2, h3]

/-- A table with a leading axis of one. -/
def lead (a : FVec F S4x256x768 .f32) : FVec F S1x4x256x768 .f32 :=
  broadcastInDim S1x4x256x768 ![1, 2, 3] bcast_S4x256x768_S1x4x256x768_1_2_3 a

/-- The three kinds stacked: the first block of queries, the inner blocks, the last one. -/
def biasAll (rpb : FVec F S4x15x31 .f32) : FVec F S3x4x256x768 .f32 :=
  stack3 (lead (biasTab 0#32 0#32 rpb)) (lead (biasTab 4#32 0#32 rpb)) (lead (biasTab 60#32 52#32 rpb))

variable (m : (ℓ : Loc nD τ sig) → Buf (Elt F) ℓ)

set_option maxHeartbeats 4000000 in
/-- At the launch's entry the tenth operand holds the stacked biases. -/
theorem entry_bias (c : Dev nD) : V m c main_v189 = biasAll (m ((c : Thread nD τ).loc main_arg1)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, List.flatten_cons, List.flatten_nil, List.cons_append, List.nil_append, List.append_nil,
    StableHlo.TRef.ternary, StableHlo.TRef.binary, StableHlo.TRef.unary, StableHlo.TRef.toBuf, StableHlo.TRef.ofBuf, cast_eq]
  after_reads_simp
  show stack3 _ _ _ = stack3 _ _ _
  refine stack3_congr ?_ ?_ ?_
  · show StableHlo.upto _ _ _ (Proc.devRef .tc main_v186) = _
    after_reads_simp
    rfl
  · show StableHlo.upto _ _ _ (Proc.devRef .tc main_v187) = _
    after_reads_simp
    rfl
  · show StableHlo.upto _ _ _ (Proc.devRef .tc main_v188) = _
    after_reads_simp
    rfl

end Cert.NA

end
-- ==== Proof.Reads.lean ====
/- The kernel's output as a function of the projections and the stacked biases, and what its windows read. -/
module

public import proofs.«01_k».proof.Proof.Block
public import proofs.«01_k».proof.Proof.Bias

@[expose] public section

set_option maxRecDepth 16384

noncomputable section

namespace Cert.NA

open Idealize.ShloMosaic Idealize.ShloMosaic.TcCoe Cert.KernelIdeal Cert.KernelIdeal.Gen

/-- The packed projections: queries, keys and values side by side. -/
abbrev Packed : Type := Vec Ideal S16x4352x768 .bf16

/-- An entry of the packed projections at natural number positions. -/
def rd (na : Packed) (b i k : ℕ) : EReal :=
  if h : b < 16 ∧ i < 4352 ∧ k < 768 then na (ix3 ⟨b, h.1⟩ ⟨i, h.2.1⟩ ⟨k, h.2.2⟩) else 0

theorem rd_eq (na : Packed) (j : S16x4352x768.Idx) {b i k : ℕ} (hb : (j 0).val = b) (hi : (j 1).val = i) (hk : (j 2).val = k) :
    na j = rd na b i k := by
  subst hb hi hk
  unfold rd
  rw [dif_pos ⟨(j 0).isLt, (j 1).isLt, (j 2).isLt⟩]
  exact congrArg na (by idx_vars j)

theorem rd_ix3 (na : Packed) (b : Fin 16) (i : Fin 4352) (k : Fin 768) : na (ix3 b i k) = rd na b.val i.val k.val :=
  rd_eq na _ rfl rfl rfl

/-- The first block of the keys that the queries of block `j` meet. -/
def win (j : ℕ) : ℕ := min (j - 1) 13

/-- The kind of the block `j` of queries. -/
def kind (j : ℕ) : Fin 3 := if j = 0 then 0 else if 15 ≤ j then 2 else 1

/-- The scores of a latent query against the keys of its three blocks. -/
def sL (na : Packed) (T : Vec Ideal S3x4x256x768 .f32) (b i : ℕ) (h : Fin 4) (e : Fin 768) : EReal :=
  (∑ x : Fin 64, rd na b i (64 * h.val + x.val) * eighth * rd na b (256 * win (i / 256) + e.val) (256 + (64 * h.val + x.val)))
    + T (ix4 (kind (i / 256)) h ⟨i % 256, by omega⟩ e)

/-- The scores of a query against the keys of the context. -/
def sC (na : Packed) (b i : ℕ) (h : Fin 4) (e : Fin 256) : EReal :=
  ∑ x : Fin 64, rd na b i (64 * h.val + x.val) * eighth * rd na b (4096 + e.val) (256 + (64 * h.val + x.val))

/-- One entry of the kernel's output. -/
def outAt (na : Packed) (T : Vec Ideal S3x4x256x768 .f32) (b i : ℕ) (h : Fin 4) (d : Fin 64) : EReal :=
  if i < 4096 then
    avg2 (sL na T b i h) (sC na b i h) (fun e => rd na b (256 * win (i / 256) + e.val) (512 + (64 * h.val + d.val)))
      (fun e => rd na b (4096 + e.val) (512 + (64 * h.val + d.val)))
  else avg1 (sC na b i h) (fun e => rd na b (4096 + e.val) (512 + (64 * h.val + d.val)))

/-- The kernel's output. -/
def outK (na : Packed) (T : Vec Ideal S3x4x256x768 .f32) : Vec Ideal S16x4352x256 .bf16 :=
  fun y => outAt na T (y 0).val (y 1).val (headOf (y 2)) (placeOf (y 2))

/-! ### Where the windows lie -/

theorem pos0 : ∀ t : Fin cfg0.N, win0_0.index t 0 = t.val / 17 ∧ win0_0.index t 1 = t.val % 17 ∧ win0_0.index t 2 = 0 := by decide +kernel
theorem pos1 : ∀ t : Fin cfg0.N, win0_1.index t 0 = t.val / 17 ∧ win0_1.index t 1 = win (t.val % 17) ∧ win0_1.index t 2 = 1 := by decide +kernel
theorem pos2 : ∀ t : Fin cfg0.N, win0_2.index t 0 = t.val / 17 ∧ win0_2.index t 1 = win (t.val % 17) + 1 ∧ win0_2.index t 2 = 1 := by decide +kernel
theorem pos3 : ∀ t : Fin cfg0.N, win0_3.index t 0 = t.val / 17 ∧ win0_3.index t 1 = win (t.val % 17) + 2 ∧ win0_3.index t 2 = 1 := by decide +kernel
theorem pos4 : ∀ t : Fin cfg0.N, win0_4.index t 0 = t.val / 17 ∧ win0_4.index t 1 = win (t.val % 17) ∧ win0_4.index t 2 = 2 := by decide +kernel
theorem pos5 : ∀ t : Fin cfg0.N, win0_5.index t 0 = t.val / 17 ∧ win0_5.index t 1 = win (t.val % 17) + 1 ∧ win0_5.index t 2 = 2 := by decide +kernel
theorem pos6 : ∀ t : Fin cfg0.N, win0_6.index t 0 = t.val / 17 ∧ win0_6.index t 1 = win (t.val % 17) + 2 ∧ win0_6.index t 2 = 2 := by decide +kernel
theorem pos7 : ∀ t : Fin cfg0.N, win0_7.index t 0 = t.val / 17 ∧ win0_7.index t 1 = 16 ∧ win0_7.index t 2 = 1 := by decide +kernel
theorem pos8 : ∀ t : Fin cfg0.N, win0_8.index t 0 = t.val / 17 ∧ win0_8.index t 1 = 16 ∧ win0_8.index t 2 = 2 := by decide +kernel
theorem pos9 : ∀ t : Fin cfg0.N, win0_9.index t 0 = (kind (t.val % 17)).val ∧ win0_9.index t 1 = 0 ∧ win0_9.index t 2 = 0 ∧ win0_9.index t 3 = 0 := by
  decide +kernel
theorem pos10 : ∀ t : Fin cfg0.N, win0_10.index t 0 = t.val / 17 ∧ win0_10.index t 1 = t.val % 17 ∧ win0_10.index t 2 = 0 := by decide +kernel

theorem covers10 : (cfg0.win 10).Covers := by decide +kernel

variable (m : (ℓ : Loc nD τ sig) → Buf (Elt Ideal) ℓ)

/-- The packed projections of the run's arguments. -/
abbrev na0 (c : Dev nD) : Packed := m ((c : Thread nD τ).loc main_arg0)

/-- The stacked biases of the run's arguments. -/
abbrev tab0 (c : Dev nD) : Vec Ideal S3x4x256x768 .f32 := biasAll (F := Ideal) (m ((c : Thread nD τ).loc main_arg1))

theorem win_le (j : ℕ) : win j ≤ 13 := Nat.min_le_right _ _

/-! ### What the windows read -/

theorem rd0 (c : Dev nD) (t : Fin cfg0.N) (y : S1x256x256.Idx) :
    iblk m c 0 t y = rd (na0 m c) (t.val / 17) (256 * (t.val % 17) + (y 1).val) ((y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * (t.val % 17) + (y 1).val, by omega⟩ ⟨(y 2).val, by omega⟩]
  have := pos0 t
  blk_ext [iblk, V, na0] <;> (try simp only) <;> omega

theorem rd1 (c : Dev nD) (t : Fin cfg0.N) (y : S1x256x256.Idx) :
    iblk m c 1 t y = rd (na0 m c) (t.val / 17) (256 * win (t.val % 17) + (y 1).val) (256 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (y 1).val, by omega⟩ ⟨256 + (y 2).val, by omega⟩]
  have := pos1 t
  blk_ext [iblk, V, na0] <;> (try simp only) <;> omega

theorem rd2 (c : Dev nD) (t : Fin cfg0.N) (y : S1x256x256.Idx) :
    iblk m c 2 t y = rd (na0 m c) (t.val / 17) (256 * win (t.val % 17) + (256 + (y 1).val)) (256 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (256 + (y 1).val), by omega⟩ ⟨256 + (y 2).val, by omega⟩]
  have := pos2 t
  blk_ext [iblk, V, na0] <;> (try simp only) <;> omega

theorem rd3 (c : Dev nD) (t : Fin cfg0.N) (y : S1x256x256.Idx) :
    iblk m c 3 t y = rd (na0 m c) (t.val / 17) (256 * win (t.val % 17) + (512 + (y 1).val)) (256 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (512 + (y 1).val), by omega⟩ ⟨256 + (y 2).val, by omega⟩]
  have := pos3 t
  blk_ext [iblk, V, na0] <;> (try simp only) <;> omega

theorem rd4 (c : Dev nD) (t : Fin cfg0.N) (y : S1x256x256.Idx) :
    iblk m c 4 t y = rd (na0 m c) (t.val / 17) (256 * win (t.val % 17) + (y 1).val) (512 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (y 1).val, by omega⟩ ⟨512 + (y 2).val, by omega⟩]
  have := pos4 t
  blk_ext [iblk, V, na0] <;> (try simp only) <;> omega

theorem rd5 (c : Dev nD) (t : Fin cfg0.N) (y : S1x256x256.Idx) :
    iblk m c 5 t y = rd (na0 m c) (t.val / 17) (256 * win (t.val % 17) + (256 + (y 1).val)) (512 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (256 + (y 1).val), by omega⟩ ⟨512 + (y 2).val, by omega⟩]
  have := pos5 t
  blk_ext [iblk, V, na0] <;> (try simp only) <;> omega

theorem rd6 (c : Dev nD) (t : Fin cfg0.N) (y : S1x256x256.Idx) :
    iblk m c 6 t y = rd (na0 m c) (t.val / 17) (256 * win (t.val % 17) + (512 + (y 1).val)) (512 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨256 * win (t.val % 17) + (512 + (y 1).val), by omega⟩ ⟨512 + (y 2).val, by omega⟩]
  have := pos6 t
  blk_ext [iblk, V, na0] <;> (try simp only) <;> omega

theorem rd7 (c : Dev nD) (t : Fin cfg0.N) (y : S1x256x256.Idx) :
    iblk m c 7 t y = rd (na0 m c) (t.val / 17) (4096 + (y 1).val) (256 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨4096 + (y 1).val, by omega⟩ ⟨256 + (y 2).val, by omega⟩]
  have := pos7 t
  blk_ext [iblk, V, na0] <;> (try simp only) <;> omega

theorem rd8 (c : Dev nD) (t : Fin cfg0.N) (y : S1x256x256.Idx) :
    iblk m c 8 t y = rd (na0 m c) (t.val / 17) (4096 + (y 1).val) (512 + (y 2).val) := by
  have ht : t.val < 272 := t.isLt
  have h1 : (y 1).val < 256 := (y 1).isLt
  have h2 : (y 2).val < 256 := (y 2).isLt
  have hw := win_le (t.val % 17)
  rw [← rd_ix3 (na0 m c) ⟨t.val / 17, by omega⟩ ⟨4096 + (y 1).val, by omega⟩ ⟨512 + (y 2).val, by omega⟩]
  have := pos8 t
  blk_ext [iblk, V, na0] <;> (try simp only) <;> omega

theorem rd9 (c : Dev nD) (t : Fin cfg0.N) (y : S1x4x256x768.Idx) :
    iblk m c 9 t y = tab0 m c (ix4 (kind (t.val % 17)) (y 1) (y 2) (y 3)) := by
  rw [tab0, ← entry_bias m c]
  have := pos9 t
  blk_ext [iblk] <;> (try simp only) <;> omega

end Cert.NA

end
-- ==== Proof.Array.lean ====
/- The whole output of the kernel as one function of the projections and the stacked biases. -/
module

public import proofs.«01_k».proof.Proof.Reads

@[expose] public section

set_option maxRecDepth 16384

noncomputable section

namespace Cert.NA

open Idealize.ShloMosaic Idealize.ShloMosaic.TcCoe Cert.KernelIdeal Cert.KernelIdeal.Gen

variable (m : (ℓ : Loc nD τ sig) → Buf (Elt Ideal) ℓ)

/-! ### One head of a block -/

/-- Three pieces one after the other, when each is known by its positions. -/
theorem cat3_rd (na : Packed) (b i k : ℕ) (k0 k1 k2 : Piece)
    (h0 : ∀ (r : Fin 256) (x : Fin 64), k0 (ix3 0 r x) = rd na b (i + r.val) (k + x.val))
    (h1 : ∀ (r : Fin 256) (x : Fin 64), k1 (ix3 0 r x) = rd na b (i + (256 + r.val)) (k + x.val))
    (h2 : ∀ (r : Fin 256) (x : Fin 64), k2 (ix3 0 r x) = rd na b (i + (512 + r.val)) (k + x.val)) (e : Fin 768) (x : Fin 64) :
    cat3 k0 k1 k2 e x = rd na b (i + e.val) (k + x.val) := by
  have he := e.isLt
  unfold cat3
  split_ifs with g1 g2
  · rw [h0]
  · rw [h1]; congr 1; simp only; omega
  · rw [h2]; congr 1; simp only; omega

/-- The output's block at a point over latent queries, entry by entry, when each block is known by its positions. -/
theorem blockA_of (na : Packed) (T : Vec Ideal S3x4x256x768 .f32) (b j : ℕ) (hj : j ≤ 15)
    (x0 x1 x2 x3 x4 x5 x6 x7 x8 : Vec Ideal S1x256x256 .bf16) (x9 : Vec Ideal S1x4x256x768 .f32)
    (r0 : ∀ r k : Fin 256, x0 (ix3 0 r k) = rd na b (256 * j + r.val) k.val)
    (r1 : ∀ r k : Fin 256, x1 (ix3 0 r k) = rd na b (256 * win j + r.val) (256 + k.val))
    (r2 : ∀ r k : Fin 256, x2 (ix3 0 r k) = rd na b (256 * win j + (256 + r.val)) (256 + k.val))
    (r3 : ∀ r k : Fin 256, x3 (ix3 0 r k) = rd na b (256 * win j + (512 + r.val)) (256 + k.val))
    (r4 : ∀ r k : Fin 256, x4 (ix3 0 r k) = rd na b (256 * win j + r.val) (512 + k.val))
    (r5 : ∀ r k : Fin 256, x5 (ix3 0 r k) = rd na b (256 * win j + (256 + r.val)) (512 + k.val))
    (r6 : ∀ r k : Fin 256, x6 (ix3 0 r k) = rd na b (256 * win j + (512 + r.val)) (512 + k.val))
    (r7 : ∀ r k : Fin 256, x7 (ix3 0 r k) = rd na b (4096 + r.val) (256 + k.val))
    (r8 : ∀ r k : Fin 256, x8 (ix3 0 r k) = rd na b (4096 + r.val) (512 + k.val))
    (r9 : ∀ (h : Fin 4) (r : Fin 256) (e : Fin 768), x9 (ix4 0 h r e) = T (ix4 (kind j) h r e)) (r k : Fin 256) :
    blockA x0 x1 x2 x3 x4 x5 x6 x7 x8 x9 (ix3 0 r k) = outAt na T b (256 * j + r.val) (headOf k) (placeOf k) := by
  have hr := r.isLt
  unfold outAt
  rw [if_pos (by omega)]
  refine (headA_at _ _ _ _ _ _ _ _ _ _ r (placeOf k)).trans ?_
  show avg2 (scoreA (cut x0 (headOf k)) (cut x1 (headOf k)) (cut x2 (headOf k)) (cut x3 (headOf k)) (cutB x9 (headOf k)) r)
      (scoreC (cut x0 (headOf k)) (cut x7 (headOf k)) r)
      (fun e => cat3 (cut x4 (headOf k)) (cut x5 (headOf k)) (cut x6 (headOf k)) e (placeOf k))
      (fun e => cut x8 (headOf k) (ix3 0 e (placeOf k))) = _
  generalize headOf k = h
  generalize placeOf k = d
  have e1 : (256 * j + r.val) / 256 = j := by omega
  have e2 : (⟨(256 * j + r.val) % 256, by omega⟩ : Fin 256) = r := Fin.ext (show _ % 256 = _ by omega)
  have c1 : ∀ e x, cat3 (cut x1 h) (cut x2 h) (cut x3 h) e x = rd na b (256 * win j + e.val) (256 + (64 * h.val + x.val)) := fun e x =>
    (cat3_rd na b (256 * win j) (256 + 64 * h.val) _ _ _ (fun r x => (r1 r _).trans (congrArg (rd na b _) (Nat.add_assoc 256 (64 * h.val) x.val).symm))
      (fun r x => (r2 r _).trans (congrArg (rd na b _) (Nat.add_assoc 256 (64 * h.val) x.val).symm)) (fun r x => (r3 r _).trans (congrArg (rd na b _) (Nat.add_assoc 256 (64 * h.val) x.val).symm)) e x).trans (by rw [Nat.add_assoc 256])
  have c2 : ∀ e x, cat3 (cut x4 h) (cut x5 h) (cut x6 h) e x = rd na b (256 * win j + e.val) (512 + (64 * h.val + x.val)) := fun e x =>
    (cat3_rd na b (256 * win j) (512 + 64 * h.val) _ _ _ (fun r x => (r4 r _).trans (congrArg (rd na b _) (Nat.add_assoc 512 (64 * h.val) x.val).symm))
      (fun r x => (r5 r _).trans (congrArg (rd na b _) (Nat.add_assoc 512 (64 * h.val) x.val).symm)) (fun r x => (r6 r _).trans (congrArg (rd na b _) (Nat.add_assoc 512 (64 * h.val) x.val).symm)) e x).trans (by rw [Nat.add_assoc 512])
  have c0 : ∀ x, cut x0 h (ix3 0 r x) = rd na b (256 * j + r.val) (64 * h.val + x.val) := fun x => r0 r _
  have c7 : ∀ e x, cut x7 h (ix3 0 e x) = rd na b (4096 + e.val) (256 + (64 * h.val + x.val)) := fun e x => r7 e _
  have c8 : ∀ e x, cut x8 h (ix3 0 e x) = rd na b (4096 + e.val) (512 + (64 * h.val + x.val)) := fun e x => r8 e _
  have c9 : ∀ e, cutB x9 h (ix4 0 0 r e) = T (ix4 (kind j) h r e) := fun e => r9 h r e
  unfold sL sC scoreA scoreC
  simp only [e1, e2, c0, c1, c2, c7, c8, c9]

/-- The output's block at a point over context queries, entry by entry, when each block is known by its positions. -/
theorem blockB_of (na : Packed) (T : Vec Ideal S3x4x256x768 .f32) (b j : ℕ) (hj : j = 16) (x0 x7 x8 : Vec Ideal S1x256x256 .bf16)
    (r0 : ∀ r k : Fin 256, x0 (ix3 0 r k) = rd na b (256 * j + r.val) k.val)
    (r7 : ∀ r k : Fin 256, x7 (ix3 0 r k) = rd na b (4096 + r.val) (256 + k.val))
    (r8 : ∀ r k : Fin 256, x8 (ix3 0 r k) = rd na b (4096 + r.val) (512 + k.val)) (r k : Fin 256) :
    blockB x0 x7 x8 (ix3 0 r k) = outAt na T b (256 * j + r.val) (headOf k) (placeOf k) := by
  unfold outAt
  rw [if_neg (by omega)]
  refine (headB_at _ _ _ r (placeOf k)).trans ?_
  show avg1 (scoreC (cut x0 (headOf k)) (cut x7 (headOf k)) r) (fun e => cut x8 (headOf k) (ix3 0 e (placeOf k))) = _
  generalize headOf k = h
  generalize placeOf k = d
  have c0 : ∀ x, cut x0 h (ix3 0 r x) = rd na b (256 * j + r.val) (64 * h.val + x.val) := fun x => r0 r _
  have c7 : ∀ e x, cut x7 h (ix3 0 e x) = rd na b (4096 + e.val) (256 + (64 * h.val + x.val)) := fun e x => r7 e _
  have c8 : ∀ e x, cut x8 h (ix3 0 e x) = rd na b (4096 + e.val) (512 + (64 * h.val + x.val)) := fun e x => r8 e _
  unfold sC scoreC
  simp only [c0, c7, c8]

/-- What a point leaves, entry by entry. -/
theorem outs_at (c : Dev nD) (t : Fin cfg0.N) (r k : Fin 256) :
    outsAt0 m c t.val t.isLt (ix3 0 r k) = outAt (na0 m c) (tab0 m c) (t.val / 17) (256 * (t.val % 17) + r.val) (headOf k) (placeOf k) := by
  by_cases h : t.val % 17 = 16
  · rw [outs_B m c t (by omega) h]
    exact blockB_of (na0 m c) (tab0 m c) (t.val / 17) (t.val % 17) h _ _ _ (fun r k => rd0 m c t (ix3 0 r k))
      (fun r k => rd7 m c t (ix3 0 r k)) (fun r k => rd8 m c t (ix3 0 r k)) r k
  · have h' : t.val % 17 ≤ 15 := by omega
    rw [outs_A m c t h' h]
    exact blockA_of (na0 m c) (tab0 m c) (t.val / 17) (t.val % 17) h' _ _ _ _ _ _ _ _ _ _ (fun r k => rd0 m c t (ix3 0 r k))
      (fun r k => rd1 m c t (ix3 0 r k)) (fun r k => rd2 m c t (ix3 0 r k)) (fun r k => rd3 m c t (ix3 0 r k)) (fun r k => rd4 m c t (ix3 0 r k))
      (fun r k => rd5 m c t (ix3 0 r k)) (fun r k => rd6 m c t (ix3 0 r k)) (fun r k => rd7 m c t (ix3 0 r k)) (fun r k => rd8 m c t (ix3 0 r k))
      (fun h r e => rd9 m c t (ix4 0 h r e)) r k

/-- After the run the output holds `outK` of the arguments. -/
theorem arr (c : Dev nD) : (dats m 0 c).arrAt 10 cfg0.N = outK (na0 m c) (tab0 m c) := by
  refine (dats m 0 c).arrAt_eq_of_covers 10 _ covers10 fun t hf y => ?_
  blk_simp
  rw [after0_10]
  have hp := pos10 t
  have key : ∀ y : S1x256x256.Idx, outsAt0 m c t.val t.isLt y = outK (na0 m c) (tab0 m c) ((win0_10.blk t).view.emb y) := by
    intro y
    have q0 : ((win0_10.blk t).view.emb y 0).val = t.val / 17 := by
      refine (win0_10.rect_emb_val t y 0).trans ?_
      show win0_10.index t 0 * 1 + (y 0).val = _
      have : (y 0).val < 1 := (y 0).isLt
      omega
    have q1 : ((win0_10.blk t).view.emb y 1).val = 256 * (t.val % 17) + (y 1).val := by
      refine (win0_10.rect_emb_val t y 1).trans ?_
      show win0_10.index t 1 * 256 + (y 1).val = _
      omega
    have q2 : (win0_10.blk t).view.emb y 2 = y 2 := by
      refine Fin.ext ((win0_10.rect_emb_val t y 2).trans ?_)
      show win0_10.index t 2 * 256 + (y 2).val = _
      omega
    obtain ⟨r, k, rfl⟩ : ∃ r k : Fin 256, y = ix3 0 r k := ⟨y 1, y 2, by idx_vars y; rw [Subsingleton.elim y0 0]⟩
    rw [outs_at]
    unfold outK
    rw [q0, q1, q2]
    rfl
  exact key y

end Cert.NA

end
-- ==== Proof.Gath.lean ====
/- The gathers of the bias read at an index. -/
module

public import proofs.«01_k».proof.Proof.Gen.KernelIdeal
public import proofs.«01_k».proof.Proof.Gen.ReferenceIdeal
public import Idealize.ShloMosaic.Lib.Pointwise

@[expose] public section

set_option maxRecDepth 16384

noncomputable section

namespace Cert.NA

open Idealize.ShloMosaic

variable {α : Type}

/-- The gather of rows: result row `t` is the operand's row at the start index, clamped into the table. -/
theorem gather_rows (x : (⟨3, ![4, 15, 31]⟩ : Shape).Idx → α) (idx : IVec ⟨2, ![48, 1]⟩ 32) (h : Fin 4) (t : Fin 48) (c : Fin 31) :
    Host.gather Cert.KernelIdeal.gather_S4x15x31_S48x1_S4x48x31_02_1_n_n_1_1_4131 x idx (ix3 h t c)
      = x (ix3 h (⟨min (idx (ix2 t 0)).toInt.toNat 14, by omega⟩ : Fin 15) c) := by
  unfold Host.gather
  congr 1
  funext a
  refine Fin.ext ?_
  match a with
  | ⟨0, _⟩ => exact (Nat.zero_add _).trans rfl
  | ⟨1, _⟩ =>
    show GatherDims.start Cert.KernelIdeal.gather_S4x15x31_S48x1_S4x48x31_02_1_n_n_1_1_4131 (ix3 h t c) idx (1 : Fin 3) + 0 + 0 = _
    unfold GatherDims.start
    rw [dif_pos (show (1 : Fin 3) ∈ Cert.KernelIdeal.gather_S4x15x31_S48x1_S4x48x31_02_1_n_n_1_1_4131.startIndexMap by decide)]
    have hsi : Cert.KernelIdeal.gather_S4x15x31_S48x1_S4x48x31_02_1_n_n_1_1_4131.siIdx (ix3 h t c)
        ⟨0, Nat.one_pos⟩ = ix2 t 0 := by
      funext b; refine Fin.ext ?_
      match b with
      | ⟨0, _⟩ => rfl
      | ⟨1, _⟩ => rfl
    exact congrArg (fun z => min (idx z).toInt.toNat 14) hsi
  | ⟨2, _⟩ => exact (Nat.zero_add _).trans rfl

/-- The gather of columns: result column `t` is the operand's column at the start index, clamped into the table. -/
theorem gather_cols (x : (⟨3, ![4, 48, 31]⟩ : Shape).Idx → α) (idx : IVec ⟨2, ![4096, 1]⟩ 32) (h : Fin 4) (r : Fin 48) (t : Fin 4096) :
    Host.gather Cert.KernelIdeal.gather_S4x48x31_S4096x1_S4x48x4096_01_2_n_n_2_1_4481 x idx (ix3 h r t)
      = x (ix3 h r (⟨min (idx (ix2 t 0)).toInt.toNat 30, by omega⟩ : Fin 31)) := by
  unfold Host.gather
  congr 1
  funext a
  refine Fin.ext ?_
  match a with
  | ⟨0, _⟩ => exact (Nat.zero_add _).trans rfl
  | ⟨1, _⟩ => exact (Nat.zero_add _).trans rfl
  | ⟨2, _⟩ =>
    show GatherDims.start Cert.KernelIdeal.gather_S4x48x31_S4096x1_S4x48x4096_01_2_n_n_2_1_4481 (ix3 h r t) idx (2 : Fin 3) + 0 + 0 = _
    unfold GatherDims.start
    rw [dif_pos (show (2 : Fin 3) ∈ Cert.KernelIdeal.gather_S4x48x31_S4096x1_S4x48x4096_01_2_n_n_2_1_4481.startIndexMap by decide)]
    have hsi : Cert.KernelIdeal.gather_S4x48x31_S4096x1_S4x48x4096_01_2_n_n_2_1_4481.siIdx (ix3 h r t)
        ⟨0, Nat.one_pos⟩ = ix2 t 0 := by
      funext b; refine Fin.ext ?_
      match b with
      | ⟨0, _⟩ => rfl
      | ⟨1, _⟩ => rfl
    exact congrArg (fun z => min (idx z).toInt.toNat 30) hsi

/-- The gather of single biases: each result takes the table's entry at its pair of start indices, each clamped. -/
theorem gather_pairs (x : (⟨3, ![4, 15, 31]⟩ : Shape).Idx → α) (idx : IVec ⟨5, ![64, 64, 64, 64, 2]⟩ 32) (h : Fin 4) (a b d e : Fin 64) :
    Host.gather Cert.ReferenceIdeal.gather_S4x15x31_S64x64x64x64x2_S4x64x64x64x64_0_12_n_n_12_4_411 x idx (ix5 h a b d e)
      = x (ix3 h (⟨min (idx (ix5 a b d e 0)).toInt.toNat 14, by omega⟩ : Fin 15)
          (⟨min (idx (ix5 a b d e 1)).toInt.toNat 30, by omega⟩ : Fin 31)) := by
  unfold Host.gather
  congr 1
  funext z
  refine Fin.ext ?_
  match z with
  | ⟨0, _⟩ => exact (Nat.zero_add _).trans rfl
  | ⟨1, _⟩ =>
    show GatherDims.start Cert.ReferenceIdeal.gather_S4x15x31_S64x64x64x64x2_S4x64x64x64x64_0_12_n_n_12_4_411 (ix5 h a b d e) idx (1 : Fin 3) + 0 + 0 = _
    unfold GatherDims.start
    rw [dif_pos (show (1 : Fin 3) ∈ Cert.ReferenceIdeal.gather_S4x15x31_S64x64x64x64x2_S4x64x64x64x64_0_12_n_n_12_4_411.startIndexMap by decide)]
    have hsi : Cert.ReferenceIdeal.gather_S4x15x31_S64x64x64x64x2_S4x64x64x64x64_0_12_n_n_12_4_411.siIdx (ix5 h a b d e)
        ⟨0, Nat.two_pos⟩ = ix5 a b d e 0 := by
      funext b; refine Fin.ext ?_
      match b with
      | ⟨0, _⟩ => rfl
      | ⟨1, _⟩ => rfl
      | ⟨2, _⟩ => rfl
      | ⟨3, _⟩ => rfl
      | ⟨4, _⟩ => rfl
    exact congrArg (fun z => min (idx z).toInt.toNat 14) hsi
  | ⟨2, _⟩ =>
    show GatherDims.start Cert.ReferenceIdeal.gather_S4x15x31_S64x64x64x64x2_S4x64x64x64x64_0_12_n_n_12_4_411 (ix5 h a b d e) idx (2 : Fin 3) + 0 + 0 = _
    unfold GatherDims.start
    rw [dif_pos (show (2 : Fin 3) ∈ Cert.ReferenceIdeal.gather_S4x15x31_S64x64x64x64x2_S4x64x64x64x64_0_12_n_n_12_4_411.startIndexMap by decide)]
    have hsi : Cert.ReferenceIdeal.gather_S4x15x31_S64x64x64x64x2_S4x64x64x64x64_0_12_n_n_12_4_411.siIdx (ix5 h a b d e)
        ⟨1, Nat.one_lt_two⟩ = ix5 a b d e 1 := by
      funext b; refine Fin.ext ?_
      match b with
      | ⟨0, _⟩ => rfl
      | ⟨1, _⟩ => rfl
      | ⟨2, _⟩ => rfl
      | ⟨3, _⟩ => rfl
      | ⟨4, _⟩ => rfl
    exact congrArg (fun z => min (idx z).toInt.toNat 30) hsi

end Cert.NA

end
-- ==== Proof.Table.lean ====
/- The stacked bias tables read at an index: the bias of a query against a key where the key lies in the query's window,
   minus infinity elsewhere. -/
module

public import proofs.«01_k».proof.Proof.Bias
public import proofs.«01_k».proof.Proof.Gath
public import Idealize.ShloMosaic.Lib.Pointwise
public import Idealize.ShloMosaic.PureOps.Ideal.Laws

@[expose] public section

set_option maxRecDepth 16384

noncomputable section

namespace Cert.NA

open Idealize.ShloMosaic Cert.KernelIdeal Cert.KernelIdeal.Gen

/-- A key's row lies in the window of a query's row. -/
def rowIn (q k : ℕ) : Prop := min (q - 4) 56 ≤ k ∧ k < min (q - 4) 56 + 8

/-- A key's column lies in the window of a query's column. -/
def colIn (q k : ℕ) : Prop := min (q - 8) 48 ≤ k ∧ k < min (q - 8) 48 + 16

instance (q k : ℕ) : Decidable (rowIn q k) := inferInstanceAs (Decidable (_ ∧ _))
instance (q k : ℕ) : Decidable (colIn q k) := inferInstanceAs (Decidable (_ ∧ _))

/-- The row of the bias table for a key's row against a query's. -/
def rowB (q k : ℕ) : ℕ := min (k + 7 - q) 14

/-- The column of the bias table for a key's column against a query's. -/
def colB (q k : ℕ) : ℕ := min (k + 15 - q) 30

/-- The bias at a head, a row and a column. -/
def biasAt (rpb : FVec Ideal S4x15x31 .f32) (h : Fin 4) (a b : ℕ) : EReal :=
  rpb (ix3 h (⟨min a 14, by omega⟩ : Fin 15) (⟨min b 30, by omega⟩ : Fin 31))

/-- The column test of the kernel's tables. -/
theorem colOk_at (q k : Fin 64) : colOk (ix2 q k) = if colIn q k then 1#1 else 0#1 := by
  revert q k; decide +kernel

/-- The row test of the table for the first block. -/
theorem rowOk_first (a : Fin 4) (b : Fin 12) : rowOk 0#32 0#32 (ix2 a b) = if rowIn a b then 1#1 else 0#1 := by
  revert a b; decide +kernel

/-- The row test of the table for the inner blocks. -/
theorem rowOk_inner (a : Fin 4) (b : Fin 12) : rowOk 4#32 0#32 (ix2 a b) = if rowIn (4 + a) b then 1#1 else 0#1 := by
  revert a b; decide +kernel

/-- The row test of the table for the last block. -/
theorem rowOk_last (a : Fin 4) (b : Fin 12) : rowOk 60#32 52#32 (ix2 a b) = if rowIn (60 + a) (52 + b) then 1#1 else 0#1 := by
  revert a b; decide +kernel

/-- The column of the bias the kernel's tables take. -/
theorem colIx_at (q k : Fin 64) : colIx (ix2 q k) = BitVec.ofNat 32 (colB q k) := by
  revert q k; decide +kernel

/-- The row of the bias the first table takes. -/
theorem rowIx_first (a : Fin 4) (b : Fin 12) : rowIx 0#32 0#32 (ix2 a b) = BitVec.ofNat 32 (rowB a b) := by
  revert a b; decide +kernel

/-- The row of the bias the inner table takes. -/
theorem rowIx_inner (a : Fin 4) (b : Fin 12) : rowIx 4#32 0#32 (ix2 a b) = BitVec.ofNat 32 (rowB (4 + a) b) := by
  revert a b; decide +kernel

/-- The row of the bias the last table takes. -/
theorem rowIx_last (a : Fin 4) (b : Fin 12) : rowIx 60#32 52#32 (ix2 a b) = BitVec.ofNat 32 (rowB (60 + a) (52 + b)) := by
  revert a b; decide +kernel

/-- The rows taken: for the query row `a` and the key row `b` of the table, the row of the bias. -/
theorem rowTake_at (r0 k0 : BitVec 32) (n : ℕ) (hn : n ≤ 14) (a : Fin 4) (b : Fin 12) (hw : rowIx r0 k0 (ix2 a b) = BitVec.ofNat 32 n)
    (t : Fin 48) (ht : t.val = a.val * 12 + b.val) : (rowTake r0 k0 (ix2 t 0)).toInt.toNat = n := by
  have hv : shapeCast S48 (rowIx r0 k0) shapeCasts_S4x12_S48 (ix1 t) = BitVec.ofNat 32 n := by
    rw [← hw]
    pointwise []
    congr 1
    funext z
    refine Fin.ext ?_
    match z with
    | ⟨0, _⟩ => show t.val / 12 = a.val; omega
    | ⟨1, _⟩ => show t.val % 12 = b.val; omega
  have e : rowTake r0 k0 (ix2 t 0) = (let v := shapeCast S48 (rowIx r0 k0) shapeCasts_S4x12_S48 (ix1 t);
      Scalar.select (IntOp.cmpi .slt v 0#32) (IntOp.addi v 15#32) v) := by
    unfold rowTake
    generalize shapeCast S48 (rowIx r0 k0) shapeCasts_S4x12_S48 = v
    pointwise []
  rw [e, hv]
  have : ∀ n : Fin 15, (let v := BitVec.ofNat 32 n.val; Scalar.select (IntOp.cmpi .slt v 0#32) (IntOp.addi v 15#32) v).toInt.toNat = n.val := by
    decide +kernel
  exact this ⟨n, by omega⟩

/-- The columns taken: for the query column `a` and the key column `b`, the column of the bias. -/
theorem colTake_at (a b : Fin 64) (t : Fin 4096) (ht : t.val = a.val * 64 + b.val) : (colTake (ix2 t 0)).toInt.toNat = colB a b := by
  have hv : shapeCast S4096 colIx shapeCasts_S64x64_S4096 (ix1 t) = BitVec.ofNat 32 (colB a b) := by
    rw [← colIx_at]
    pointwise []
    congr 1
    funext z
    refine Fin.ext ?_
    match z with
    | ⟨0, _⟩ => show t.val / 64 = a.val; omega
    | ⟨1, _⟩ => show t.val % 64 = b.val; omega
  have e : colTake (ix2 t 0) = (let v := shapeCast S4096 colIx shapeCasts_S64x64_S4096 (ix1 t);
      Scalar.select (IntOp.cmpi .slt v 0#32) (IntOp.addi v 31#32) v) := by
    unfold colTake
    generalize shapeCast S4096 colIx shapeCasts_S64x64_S4096 = v
    pointwise []
  rw [e, hv]
  have : ∀ n : Fin 31, (let v := BitVec.ofNat 32 n.val; Scalar.select (IntOp.cmpi .slt v 0#32) (IntOp.addi v 31#32) v).toInt.toNat = n.val := by
    decide +kernel
  exact this ⟨colB a b, by unfold colB; omega⟩

/-- Laying the gathered biases out by query and key. -/
theorem layout_at (y : FVec Ideal S4x48x4096 .f32) (h : Fin 4) (r : Fin 256) (e : Fin 768) :
    shapeCast S4x256x768 (transpose S4x4x64x12x64 [0, 1, 3, 2, 4] (shapeCast S4x4x12x64x64 y shapeCasts_S4x48x4096_S4x4x12x64x64)
      transposes_S4x4x12x64x64_S4x4x64x12x64_0_1_3_2_4) shapeCasts_S4x4x64x12x64_S4x256x768 (ix3 h r e)
      = y (ix3 h (⟨r.val / 64 * 12 + e.val / 64, by omega⟩ : Fin 48) (⟨r.val % 64 * 64 + e.val % 64, by omega⟩ : Fin 4096)) := by
  pointwise []

/-- The mask at a query and a key. -/
theorem maskTab_at (r0 k0 : BitVec 32) (r : Fin 256) (e : Fin 768) :
    maskTab r0 k0 (ix2 r e) = IntOp.andi (rowOk r0 k0 (ix2 (⟨r.val / 64, by omega⟩ : Fin 4) (⟨e.val / 64, by omega⟩ : Fin 12)))
      (colOk (ix2 (⟨r.val % 64, by omega⟩ : Fin 64) (⟨e.val % 64, by omega⟩ : Fin 64))) := by
  unfold maskTab
  generalize rowOk r0 k0 = u
  generalize colOk = w
  pointwise []

end Cert.NA

end
-- ==== Proof.BiasAt.lean ====
/- The stacked bias tables read at an index: the bias of a query against a key where the key lies in the query's window,
   minus infinity elsewhere. -/
module

public import proofs.«01_k».proof.Proof.Table
public import proofs.«01_k».proof.Proof.Reads

@[expose] public section

set_option maxRecDepth 16384

noncomputable section

namespace Cert.NA

open Idealize.ShloMosaic Cert.KernelIdeal Cert.KernelIdeal.Gen

/-- A key lies in a query's window. -/
def keyIn (q k : ℕ) : Prop := rowIn (q / 64) (k / 64) ∧ colIn (q % 64) (k % 64)

instance (q k : ℕ) : Decidable (keyIn q k) := inferInstanceAs (Decidable (_ ∧ _))

/-- The bias of a query against a key. -/
def bias (rpb : FVec Ideal S4x15x31 .f32) (h : Fin 4) (q k : ℕ) : EReal :=
  biasAt rpb h (rowB (q / 64) (k / 64)) (colB (q % 64) (k % 64))

/-- One kind of table at a head, a query and a key. -/
theorem biasTab_at (r0 k0 : BitVec 32) (rpb : FVec Ideal S4x15x31 .f32) (h : Fin 4) (r : Fin 256) (e : Fin 768) :
    biasTab (F := Ideal) r0 k0 rpb (ix3 h r e) = if maskTab r0 k0 (ix2 r e) = 1#1 then rawTab (F := Ideal) r0 k0 rpb (ix3 h r e) else ⊥ := by
  unfold biasTab
  generalize maskTab r0 k0 = u
  generalize rawTab (F := Ideal) r0 k0 rpb = w
  pointwise []
  rw [bot_f32]
  rfl

/-- The first table of a stack. -/
theorem stack3_0 (a b d : FVec Ideal S1x4x256x768 .f32) (h : Fin 4) (r : Fin 256) (e : Fin 768) :
    stack3 a b d (ix4 0 h r e) = a (ix4 0 h r e) := by
  pointwise [stack3]

/-- The second table of a stack. -/
theorem stack3_1 (a b d : FVec Ideal S1x4x256x768 .f32) (h : Fin 4) (r : Fin 256) (e : Fin 768) :
    stack3 a b d (ix4 1 h r e) = b (ix4 0 h r e) := by
  pointwise [stack3]

/-- The third table of a stack. -/
theorem stack3_2 (a b d : FVec Ideal S1x4x256x768 .f32) (h : Fin 4) (r : Fin 256) (e : Fin 768) :
    stack3 a b d (ix4 2 h r e) = d (ix4 0 h r e) := by
  pointwise [stack3]

/-- A table with a leading axis, at an index. -/
theorem lead_at (a : FVec Ideal S4x256x768 .f32) (h : Fin 4) (r : Fin 256) (e : Fin 768) : lead a (ix4 0 h r e) = a (ix3 h r e) := by
  pointwise [lead]

/-- The biases before the mask, at a head, a query and a key. -/
theorem rawTab_at (r0 k0 : BitVec 32) (rpb : FVec Ideal S4x15x31 .f32) (h : Fin 4) (r : Fin 256) (e : Fin 768) (n : ℕ) (hn : n ≤ 14)
    (hw : rowIx r0 k0 (ix2 (⟨r.val / 64, by omega⟩ : Fin 4) (⟨e.val / 64, by omega⟩ : Fin 12)) = BitVec.ofNat 32 n) :
    rawTab (F := Ideal) r0 k0 rpb (ix3 h r e) = biasAt rpb h n (colB (r.val % 64) (e.val % 64)) := by
  have hA : (rowTake r0 k0 (ix2 (⟨r.val / 64 * 12 + e.val / 64, by omega⟩ : Fin 48) 0)).toInt.toNat = n :=
    rowTake_at r0 k0 n hn (⟨r.val / 64, by omega⟩ : Fin 4) (⟨e.val / 64, by omega⟩ : Fin 12) hw _ rfl
  have hB : (colTake (ix2 (⟨r.val % 64 * 64 + e.val % 64, by omega⟩ : Fin 4096) 0)).toInt.toNat = colB (r.val % 64) (e.val % 64) :=
    colTake_at (⟨r.val % 64, by omega⟩ : Fin 64) (⟨e.val % 64, by omega⟩ : Fin 64) _ rfl
  unfold rawTab biasAt
  generalize rowTake r0 k0 = u at hA ⊢
  generalize colTake = w at hB ⊢
  rw [layout_at, gather_cols, gather_rows]
  simp only [hA, hB]

/-- Both of two tests hold. -/
theorem both (p q : Prop) [Decidable p] [Decidable q] :
    IntOp.andi (if p then 1#1 else 0#1) (if q then 1#1 else 0#1) = 1#1 ↔ p ∧ q := by
  by_cases hp : p <;> by_cases hq : q <;> simp [hp, hq, IntOp.andi]

/-- One kind of table, from its row test and its rows of biases. -/
theorem tab_at (r0 k0 : BitVec 32) (Q K : ℕ) (rpb : FVec Ideal S4x15x31 .f32)
    (hok : ∀ (a : Fin 4) (b : Fin 12), rowOk r0 k0 (ix2 a b) = if rowIn (Q + a) (K + b) then 1#1 else 0#1)
    (hix : ∀ (a : Fin 4) (b : Fin 12), rowIx r0 k0 (ix2 a b) = BitVec.ofNat 32 (rowB (Q + a) (K + b)))
    (h : Fin 4) (r : Fin 256) (e : Fin 768) :
    biasTab (F := Ideal) r0 k0 rpb (ix3 h r e)
      = if rowIn (Q + r.val / 64) (K + e.val / 64) ∧ colIn (r.val % 64) (e.val % 64)
        then biasAt rpb h (rowB (Q + r.val / 64) (K + e.val / 64)) (colB (r.val % 64) (e.val % 64)) else ⊥ := by
  rw [biasTab_at, maskTab_at, hok, colOk_at, rawTab_at r0 k0 rpb h r e (rowB (Q + r.val / 64) (K + e.val / 64)) (min_le_right _ _) (hix _ _)]
  exact if_congr (both _ _) rfl rfl

/-- The stacked tables at a query's block and a key of that block's window. -/
theorem biasAll_spec (rpb : FVec Ideal S4x15x31 .f32) (h : Fin 4) (i : ℕ) (hi : i < 4096) (e : Fin 768) :
    biasAll (F := Ideal) rpb (ix4 (kind (i / 256)) h (⟨i % 256, Nat.mod_lt _ (by norm_num)⟩ : Fin 256) e)
      = if keyIn i (256 * win (i / 256) + e.val) then bias rpb h i (256 * win (i / 256) + e.val) else ⊥ := by
  have ec : i % 256 % 64 = i % 64 := by omega
  have ek : (256 * win (i / 256) + e.val) % 64 = e.val % 64 := by omega
  have er : (256 * win (i / 256) + e.val) / 64 = 4 * win (i / 256) + e.val / 64 := by omega
  have eq : i / 64 = 4 * (i / 256) + i % 256 / 64 := by omega
  have he := e.isLt
  have key : ∀ Q K : ℕ, (rowIn (Q + i % 256 / 64) (K + e.val / 64) ↔ rowIn (4 * (i / 256) + i % 256 / 64) (4 * win (i / 256) + e.val / 64)) →
      rowB (Q + i % 256 / 64) (K + e.val / 64) = rowB (4 * (i / 256) + i % 256 / 64) (4 * win (i / 256) + e.val / 64) →
      (if rowIn (Q + i % 256 / 64) (K + e.val / 64) ∧ colIn (i % 256 % 64) (e.val % 64)
        then biasAt rpb h (rowB (Q + i % 256 / 64) (K + e.val / 64)) (colB (i % 256 % 64) (e.val % 64)) else ⊥)
      = if keyIn i (256 * win (i / 256) + e.val) then bias rpb h i (256 * win (i / 256) + e.val) else ⊥ := by
    intro Q K h1 h2
    refine if_congr ?_ ?_ rfl
    · unfold keyIn
      rw [ek, er, eq, ← ec, h1]
    · unfold bias
      rw [ek, er, h2, ec, ← eq]
  have ha : i % 256 / 64 < 4 := by omega
  have hb : e.val / 64 < 12 := by omega
  have hj : i / 256 < 16 := by omega
  rcases Nat.eq_zero_or_pos (i / 256) with h0 | h0
  · have hk : kind (i / 256) = 0 := by unfold kind; rw [if_pos h0]
    rw [hk, biasAll, stack3_0, lead_at]
    refine (tab_at 0#32 0#32 0 0 rpb (by simpa only [Nat.zero_add] using rowOk_first) (by simpa only [Nat.zero_add] using rowIx_first) h _ e).trans ?_
    exact key 0 0 (by unfold rowIn win; omega) (by unfold rowB win; omega)
  · rcases Nat.lt_or_ge (i / 256) 15 with h1 | h1
    · have hk : kind (i / 256) = 1 := by unfold kind; rw [if_neg (by omega), if_neg (by omega)]
      rw [hk, biasAll, stack3_1, lead_at]
      refine (tab_at 4#32 0#32 4 0 rpb (by simpa only [Nat.zero_add] using rowOk_inner) (by simpa only [Nat.zero_add] using rowIx_inner) h _ e).trans ?_
      exact key 4 0 (by unfold rowIn win; omega) (by unfold rowB win; omega)
    · have hk : kind (i / 256) = 2 := by unfold kind; rw [if_neg (by omega), if_pos h1]
      rw [hk, biasAll, stack3_2, lead_at]
      refine (tab_at 60#32 52#32 60 52 rpb rowOk_last rowIx_last h _ e).trans ?_
      exact key 60 52 (by unfold rowIn win; omega) (by unfold rowB win; omega)

end Cert.NA

end
-- ==== Proof.RefWords.lean ====
/- The reference's integer tables read at an index. -/
module

public import proofs.«01_k».proof.Proof.BiasAt
public import proofs.«01_k».proof.Proof.Gen.ReferenceIdeal.Read

@[expose] public section

set_option maxRecDepth 16384

noncomputable section

namespace Cert.NA

open Idealize.ShloMosaic Cert.ReferenceIdeal Cert.ReferenceIdeal.Gen Cert.ReferenceIdeal.Read

/-- The reference's row test. -/
theorem ref_rowOk (q k : Fin 64) : val_main_v38 (F := Ideal) (ix2 q k) = if rowIn q k then 1#1 else 0#1 := by
  revert q k; decide +kernel

/-- The reference's column test. -/
theorem ref_colOk (q k : Fin 64) : val_main_v49 (F := Ideal) (ix2 q k) = if colIn q k then 1#1 else 0#1 := by
  revert q k; decide +kernel

/-- The rows of the bias table the reference takes. -/
theorem ref_row (q k : Fin 64) : (val_main_v83 (F := Ideal) (ix4 q 0 k 0)).toInt.toNat = rowB q k := by
  revert q k; decide +kernel

/-- The columns of the bias table the reference takes. -/
theorem ref_col (q k : Fin 64) : (val_main_v88 (F := Ideal) (ix4 0 q 0 k)).toInt.toNat = colB q k := by
  revert q k; decide +kernel

end Cert.NA

end
-- ==== Proof.RefBias.lean ====
/- The reference's mask and biases read at an index. -/
module

public import proofs.«01_k».proof.Proof.RefWords

@[expose] public section

set_option maxRecDepth 16384

noncomputable section

namespace Cert.NA

open Idealize.ShloMosaic Cert.ReferenceIdeal Cert.ReferenceIdeal.Gen Cert.ReferenceIdeal.Read

/-- The reference's mask at a query and a key. -/
theorem ref_mask (q k : Fin 4096) : val_main_v55 (F := Ideal) (ix2 q k) = if keyIn q k then 1#1 else 0#1 := by
  have hq := q.isLt
  have hk := k.isLt
  rw [val_main_v55_apply, val_main_v54_apply, val_main_v52_apply, val_main_v53_apply, val_main_v50_apply, val_main_v51_apply]
  have e1 := ref_rowOk (⟨q.val / 64, by omega⟩ : Fin 64) (⟨k.val / 64, by omega⟩ : Fin 64)
  have e2 := ref_colOk (⟨q.val % 64, by omega⟩ : Fin 64) (⟨k.val % 64, by omega⟩ : Fin 64)
  have i1 : idx_main_v50 (idx_main_v52 (idx_main_v55 (ix2 q k))) = ix2 (⟨q.val / 64, by omega⟩ : Fin 64) (⟨k.val / 64, by omega⟩ : Fin 64) := by
    funext z; refine Fin.ext ?_
    match z with
    | ⟨0, _⟩ => show (q.val * 4096 + k.val) / 262144 = q.val / 64; omega
    | ⟨1, _⟩ => show (q.val * 4096 + k.val) / 64 % 64 = k.val / 64; omega
  have i2 : idx_main_v51 (idx_main_v53 (idx_main_v55 (ix2 q k))) = ix2 (⟨q.val % 64, by omega⟩ : Fin 64) (⟨k.val % 64, by omega⟩ : Fin 64) := by
    funext z; refine Fin.ext ?_
    match z with
    | ⟨0, _⟩ => show (q.val * 4096 + k.val) / 4096 % 64 = q.val % 64; omega
    | ⟨1, _⟩ => show (q.val * 4096 + k.val) % 64 = k.val % 64; omega
  rw [i1, i2, e1, e2]
  unfold keyIn
  show IntOp.andi (if rowIn (q.val / 64) (k.val / 64) then 1#1 else 0#1) (if colIn (q.val % 64) (k.val % 64) then 1#1 else 0#1) = _
  by_cases hp : rowIn (q.val / 64) (k.val / 64) <;> by_cases hq : colIn (q.val % 64) (k.val % 64) <;> simp [hp, hq, IntOp.andi]

/-- Two joined tables at the first place. -/
theorem pair_left (u w : IVec S64x64x64x64x1 32) (a b d e : Fin 64) :
    concatenate S64x64x64x64x2 4 [⟨S64x64x64x64x1, u⟩, ⟨S64x64x64x64x1, w⟩] concatenates_S64x64x64x64x1_S64x64x64x64x1_S64x64x64x64x2_d4 (ix5 a b d e 0)
      = u (ix5 a b d e 0) :=
  concatenate_pair_apply_left (4 : Fin S64x64x64x64x2.rank) u w _ (ix5 a b d e 0) rfl (ix5 a b d e 0) (fun z => match z with
    | ⟨0, _⟩ => rfl
    | ⟨1, _⟩ => rfl
    | ⟨2, _⟩ => rfl
    | ⟨3, _⟩ => rfl
    | ⟨4, _⟩ => rfl)

/-- Two joined tables at the second place. -/
theorem pair_right (u w : IVec S64x64x64x64x1 32) (a b d e : Fin 64) :
    concatenate S64x64x64x64x2 4 [⟨S64x64x64x64x1, u⟩, ⟨S64x64x64x64x1, w⟩] concatenates_S64x64x64x64x1_S64x64x64x64x1_S64x64x64x64x2_d4 (ix5 a b d e 1)
      = w (ix5 a b d e 0) :=
  concatenate_pair_apply_right (4 : Fin S64x64x64x64x2.rank) u w _ (ix5 a b d e 1) rfl rfl (ix5 a b d e 0) (fun z hz => match z, hz with
    | ⟨0, _⟩, _ => rfl
    | ⟨1, _⟩, _ => rfl
    | ⟨2, _⟩, _ => rfl
    | ⟨3, _⟩, _ => rfl
    | ⟨4, _⟩, hz => absurd rfl hz) rfl

/-- The pair of start indices, joined: the row first. -/
theorem ref_pair0 (a b d e : Fin 64) : val_main_v93 (F := Ideal) (ix5 a b d e 0) = val_main_v83 (F := Ideal) (ix4 a 0 d 0) := by
  have h : val_main_v93 (F := Ideal) (ix5 a b d e 0) = val_main_v91 (F := Ideal) (ix5 a b d e 0) := by
    unfold val_main_v93
    exact pair_left (val_main_v91 (F := Ideal)) (val_main_v92 (F := Ideal)) a b d e
  rw [h, val_main_v91_apply, val_main_v89_apply]
  exact congrArg (val_main_v83 (F := Ideal)) (funext fun z => Fin.ext (match z with
  | ⟨0, _⟩ => rfl
  | ⟨1, _⟩ => rfl
  | ⟨2, _⟩ => rfl
  | ⟨3, _⟩ => rfl))

/-- The pair of start indices, joined: the column second. -/
theorem ref_pair1 (a b d e : Fin 64) : val_main_v93 (F := Ideal) (ix5 a b d e 1) = val_main_v88 (F := Ideal) (ix4 0 b 0 e) := by
  have h : val_main_v93 (F := Ideal) (ix5 a b d e 1) = val_main_v92 (F := Ideal) (ix5 a b d e 0) := by
    unfold val_main_v93
    exact pair_right (val_main_v91 (F := Ideal)) (val_main_v92 (F := Ideal)) a b d e
  rw [h, val_main_v92_apply, val_main_v90_apply]
  exact congrArg (val_main_v88 (F := Ideal)) (funext fun z => Fin.ext (match z with
  | ⟨0, _⟩ => rfl
  | ⟨1, _⟩ => rfl
  | ⟨2, _⟩ => rfl
  | ⟨3, _⟩ => rfl))

/-- The reference's biases at a head, a query and a key. -/
theorem ref_bias (rpb : FVec Ideal ⟨3, ![4, 15, 31]⟩ .f32) (h : Fin 4) (q k : Fin 4096) :
    val_main_v95 (F := Ideal) rpb (ix3 h q k) = bias rpb h q k := by
  have hh := h.isLt
  have hq := q.isLt
  have hk := k.isLt
  rw [val_main_v95_apply]
  have i1 : idx_main_v95 (ix3 h q k) = ix5 h (⟨q.val / 64, by omega⟩ : Fin 64) (⟨q.val % 64, by omega⟩ : Fin 64) (⟨k.val / 64, by omega⟩ : Fin 64) (⟨k.val % 64, by omega⟩ : Fin 64) := by
    funext z; refine Fin.ext ?_
    match z with
    | ⟨0, _⟩ => show ((h.val * 4096 + q.val) * 4096 + k.val) / 16777216 = h.val; omega
    | ⟨1, _⟩ => show ((h.val * 4096 + q.val) * 4096 + k.val) / 262144 % 64 = q.val / 64; omega
    | ⟨2, _⟩ => show ((h.val * 4096 + q.val) * 4096 + k.val) / 4096 % 64 = q.val % 64; omega
    | ⟨3, _⟩ => show ((h.val * 4096 + q.val) * 4096 + k.val) / 64 % 64 = k.val / 64; omega
    | ⟨4, _⟩ => show ((h.val * 4096 + q.val) * 4096 + k.val) % 64 = k.val % 64; omega
  have hA : (val_main_v93 (F := Ideal) (ix5 (⟨q.val / 64, by omega⟩ : Fin 64) (⟨q.val % 64, by omega⟩ : Fin 64) (⟨k.val / 64, by omega⟩ : Fin 64) (⟨k.val % 64, by omega⟩ : Fin 64) 0)).toInt.toNat
      = rowB (q.val / 64) (k.val / 64) := by rw [ref_pair0, ref_row]
  have hB : (val_main_v93 (F := Ideal) (ix5 (⟨q.val / 64, by omega⟩ : Fin 64) (⟨q.val % 64, by omega⟩ : Fin 64) (⟨k.val / 64, by omega⟩ : Fin 64) (⟨k.val % 64, by omega⟩ : Fin 64) 1)).toInt.toNat
      = colB (q.val % 64) (k.val % 64) := by rw [ref_pair1, ref_col]
  rw [i1]
  unfold val_main_v94 bias biasAt
  generalize val_main_v93 (F := Ideal) = w at hA hB ⊢
  rw [gather_pairs]
  simp only [hA, hB]

end Cert.NA

end
-- ==== Proof.Ref.lean ====
/- The reference's output at an index. -/
module

public import proofs.«01_k».proof.Proof.RefBias

@[expose] public section

set_option maxRecDepth 16384

noncomputable section

namespace Cert.NA

open Idealize.ShloMosaic Cert.ReferenceIdeal Cert.ReferenceIdeal.Gen Cert.ReferenceIdeal.Read

/-- The biases' shape. -/
abbrev Biases : Type := FVec Ideal ⟨3, ![4, 15, 31]⟩ .f32

/-- The reference's score of a latent query against a latent key: minus infinity outside the query's window. -/
def rL (na : Packed) (rpb : Biases) (b i : ℕ) (h : Fin 4) (k : Fin 4096) : EReal :=
  if keyIn i k.val then
    (∑ x : Fin 64, rd na b i (64 * h.val + x.val) * rd na b k.val (256 + (64 * h.val + x.val))) * eighth + bias rpb h i k.val
  else ⊥

/-- The reference's score of a query against a key of the context. -/
def rC (na : Packed) (b i : ℕ) (h : Fin 4) (e : Fin 256) : EReal :=
  (∑ x : Fin 64, rd na b i (64 * h.val + x.val) * rd na b (4096 + e.val) (256 + (64 * h.val + x.val))) * eighth

variable (na : Packed) (rpb : Biases)

/-! ### Queries, keys and values -/

theorem ref_q (j : S16x4352x4x64.Idx) : val_main_v2 (F := Ideal) na j = rd na (j 0).val (j 1).val (64 * (j 2).val + (j 3).val) := by
  rw [val_main_v2_apply, val_main_v1_apply, val_main_v0_apply]
  have h0 : (j 0).val < 16 := (j 0).isLt
  have h1 : (j 1).val < 4352 := (j 1).isLt
  have h2 : (j 2).val < 4 := (j 2).isLt
  have h3 : (j 3).val < 64 := (j 3).isLt
  refine rd_eq na (idx_main_v1 (idx_main_v2 j)) ?_ ?_ ?_
  · show ((((j 0).val * 4352 + (j 1).val) * 4 + (j 2).val) * 64 + (j 3).val) / 1114112 = _; omega
  · show ((((j 0).val * 4352 + (j 1).val) * 4 + (j 2).val) * 64 + (j 3).val) / 256 % 4352 = _; omega
  · show ((((j 0).val * 4352 + (j 1).val) * 4 + (j 2).val) * 64 + (j 3).val) % 256 = _; omega

theorem ref_k (j : S16x4352x4x64.Idx) : val_main_v4 (F := Ideal) na j = rd na (j 0).val (j 1).val (256 + (64 * (j 2).val + (j 3).val)) := by
  rw [val_main_v4_apply, val_main_v3_apply, val_main_v0_apply]
  have h0 : (j 0).val < 16 := (j 0).isLt
  have h1 : (j 1).val < 4352 := (j 1).isLt
  have h2 : (j 2).val < 4 := (j 2).isLt
  have h3 : (j 3).val < 64 := (j 3).isLt
  refine rd_eq na (idx_main_v3 (idx_main_v4 j)) ?_ ?_ ?_
  · show ((((j 0).val * 4352 + (j 1).val) * 4 + (j 2).val) * 64 + (j 3).val) / 1114112 = _; omega
  · show ((((j 0).val * 4352 + (j 1).val) * 4 + (j 2).val) * 64 + (j 3).val) / 256 % 4352 = _; omega
  · show 256 + ((((j 0).val * 4352 + (j 1).val) * 4 + (j 2).val) * 64 + (j 3).val) % 256 = _; omega

theorem ref_v (j : S16x4352x4x64.Idx) : val_main_v6 (F := Ideal) na j = rd na (j 0).val (j 1).val (512 + (64 * (j 2).val + (j 3).val)) := by
  rw [val_main_v6_apply, val_main_v5_apply, val_main_v0_apply]
  have h0 : (j 0).val < 16 := (j 0).isLt
  have h1 : (j 1).val < 4352 := (j 1).isLt
  have h2 : (j 2).val < 4 := (j 2).isLt
  have h3 : (j 3).val < 64 := (j 3).isLt
  refine rd_eq na (idx_main_v5 (idx_main_v6 j)) ?_ ?_ ?_
  · show ((((j 0).val * 4352 + (j 1).val) * 4 + (j 2).val) * 64 + (j 3).val) / 1114112 = _; omega
  · show ((((j 0).val * 4352 + (j 1).val) * 4 + (j 2).val) * 64 + (j 3).val) / 256 % 4352 = _; omega
  · show 512 + ((((j 0).val * 4352 + (j 1).val) * 4 + (j 2).val) * 64 + (j 3).val) % 256 = _; omega

theorem ref_v7 (j : S16x4096x4x64.Idx) : val_main_v7 (F := Ideal) na j = rd na (j 0).val (j 1).val (64 * (j 2).val + (j 3).val) := by
  rw [val_main_v7_apply, ref_q]
theorem ref_v8 (j : S16x4096x4x64.Idx) : val_main_v8 (F := Ideal) na j = rd na (j 0).val (j 1).val (256 + (64 * (j 2).val + (j 3).val)) := by
  rw [val_main_v8_apply, ref_k]
theorem ref_v9 (j : S16x4096x4x64.Idx) : val_main_v9 (F := Ideal) na j = rd na (j 0).val (j 1).val (512 + (64 * (j 2).val + (j 3).val)) := by
  rw [val_main_v9_apply, ref_v]
theorem ref_v10 (j : S16x256x4x64.Idx) : val_main_v10 (F := Ideal) na j = rd na (j 0).val (4096 + (j 1).val) (64 * (j 2).val + (j 3).val) := by
  rw [val_main_v10_apply, ref_q]
theorem ref_v11 (j : S16x256x4x64.Idx) : val_main_v11 (F := Ideal) na j = rd na (j 0).val (4096 + (j 1).val) (256 + (64 * (j 2).val + (j 3).val)) := by
  rw [val_main_v11_apply, ref_k]
theorem ref_v12 (j : S16x256x4x64.Idx) : val_main_v12 (F := Ideal) na j = rd na (j 0).val (4096 + (j 1).val) (512 + (64 * (j 2).val + (j 3).val)) := by
  rw [val_main_v12_apply, ref_v]

/-! ### Scores -/

/-- The score of a latent query against a latent key. -/
theorem ref_sL (b : Fin 16) (h : Fin 4) (i k : Fin 4096) : val_main_v102 (F := Ideal) na rpb (ix4 b h i k) = rL na rpb b.val i.val h k := by
  rw [val_main_v102_apply, val_main_call0_v1_apply, val_main_v101_apply, val_main_v98_apply, val_main_v97_apply, val_main_cst_apply,
    val_main_v100_apply, val_main_v99_apply, val_main_call0_v2_apply, val_main_call0_v0_apply, val_main_cst_19_apply, val_main_v96_apply]
  have im : idx_main_call0_v1 (ix4 b h i k) = ix2 i k := funext fun z => Fin.ext (match z with | ⟨0, _⟩ => rfl | ⟨1, _⟩ => rfl)
  have ib : idx_main_v99 (idx_main_v100 (ix4 b h i k)) = ix3 h i k := funext fun z => Fin.ext (match z with | ⟨0, _⟩ => rfl | ⟨1, _⟩ => rfl | ⟨2, _⟩ => rfl)
  rw [im, ib, ref_mask, ref_bias]
  have hs : (∑ x : Fin 64, val_main_v7 (F := Ideal) na (lidx_main_v96 (ix4 b h i k) x) * val_main_v8 (F := Ideal) na (ridx_main_v96 (ix4 b h i k) x))
      = ∑ x : Fin 64, rd na b.val i.val (64 * h.val + x.val) * rd na b.val k.val (256 + (64 * h.val + x.val)) :=
    Finset.sum_congr rfl fun x _ => by rw [ref_v7, ref_v8]; rfl
  rw [hs]
  unfold rL
  show (if (if keyIn i.val k.val then 1#1 else 0#1) = 1#1 then _ * Ideal.ofBits .f32 0x3E000000#32 + _ else Ideal.ofBits .f32 0xFF800000#32) = _
  rw [eighth_f32, bot_f32]
  by_cases hk : keyIn i.val k.val
  · rw [if_pos hk, if_pos hk, if_pos rfl]
  · rw [if_neg hk, if_neg hk, if_neg (by decide)]

/-- The score of a latent query against a key of the context. -/
theorem ref_sC (b : Fin 16) (h : Fin 4) (i : Fin 4096) (e : Fin 256) : val_main_v105 (F := Ideal) na (ix4 b h i e) = rC na b.val i.val h e := by
  rw [val_main_v105_apply, val_main_v104_apply, val_main_cst_20_apply, val_main_v103_apply]
  have hs : (∑ x : Fin 64, val_main_v7 (F := Ideal) na (lidx_main_v103 (ix4 b h i e) x) * val_main_v11 (F := Ideal) na (ridx_main_v103 (ix4 b h i e) x))
      = ∑ x : Fin 64, rd na b.val i.val (64 * h.val + x.val) * rd na b.val (4096 + e.val) (256 + (64 * h.val + x.val)) :=
    Finset.sum_congr rfl fun x _ => by rw [ref_v7, ref_v11]; rfl
  rw [hs]
  unfold rC
  show _ * Ideal.ofBits .f32 0x3E000000#32 = _
  rw [eighth_f32]

/-- The score of a query of the context against a key of the context. -/
theorem ref_sCC (b : Fin 16) (h : Fin 4) (i e : Fin 256) : val_main_v127 (F := Ideal) na (ix4 b h i e) = rC na b.val (4096 + i.val) h e := by
  rw [val_main_v127_apply, val_main_v126_apply, val_main_cst_24_apply, val_main_v125_apply]
  have hs : (∑ x : Fin 64, val_main_v10 (F := Ideal) na (lidx_main_v125 (ix4 b h i e) x) * val_main_v11 (F := Ideal) na (ridx_main_v125 (ix4 b h i e) x))
      = ∑ x : Fin 64, rd na b.val (4096 + i.val) (64 * h.val + x.val) * rd na b.val (4096 + e.val) (256 + (64 * h.val + x.val)) :=
    Finset.sum_congr rfl fun x _ => by rw [ref_v10, ref_v11]; rfl
  rw [hs]
  unfold rC
  show _ * Ideal.ofBits .f32 0x3E000000#32 = _
  rw [eighth_f32]

/-! ### The joined axis and the largest score -/

/-- Two joined families of scores at a place of the first. -/
theorem join_left (u : FVec Ideal S16x4x4096x4096 .f32) (w : FVec Ideal S16x4x4096x256 .f32) (b : Fin 16) (h : Fin 4) (i k : Fin 4096) :
    concatenate S16x4x4096x4352 3 [⟨S16x4x4096x4096, u⟩, ⟨S16x4x4096x256, w⟩] concatenates_S16x4x4096x4096_S16x4x4096x256_S16x4x4096x4352_d3
      (ix4 b h i (⟨k.val, by omega⟩ : Fin 4352)) = u (ix4 b h i k) :=
  concatenate_pair_apply_left (3 : Fin S16x4x4096x4352.rank) u w _ _ rfl (ix4 b h i k) (fun z => match z with
    | ⟨0, _⟩ => rfl
    | ⟨1, _⟩ => rfl
    | ⟨2, _⟩ => rfl
    | ⟨3, _⟩ => rfl)

/-- Two joined families of scores at a place of the second. -/
theorem join_right (u : FVec Ideal S16x4x4096x4096 .f32) (w : FVec Ideal S16x4x4096x256 .f32) (b : Fin 16) (h : Fin 4) (i : Fin 4096) (e : Fin 256) :
    concatenate S16x4x4096x4352 3 [⟨S16x4x4096x4096, u⟩, ⟨S16x4x4096x256, w⟩] concatenates_S16x4x4096x4096_S16x4x4096x256_S16x4x4096x4352_d3
      (ix4 b h i (⟨4096 + e.val, by omega⟩ : Fin 4352)) = w (ix4 b h i e) :=
  concatenate_pair_apply_right (3 : Fin S16x4x4096x4352.rank) u w _ _ rfl rfl (ix4 b h i e) (fun z hz => match z, hz with
    | ⟨0, _⟩, _ => rfl
    | ⟨1, _⟩, _ => rfl
    | ⟨2, _⟩, _ => rfl
    | ⟨3, _⟩, hz => absurd rfl hz) (Nat.add_comm _ _)

theorem ref_join_left (b : Fin 16) (h : Fin 4) (i k : Fin 4096) :
    val_main_v106 (F := Ideal) na rpb (ix4 b h i (⟨k.val, by omega⟩ : Fin 4352)) = rL na rpb b.val i.val h k := by
  unfold val_main_v106
  rw [join_left, ref_sL]

theorem ref_join_right (b : Fin 16) (h : Fin 4) (i : Fin 4096) (e : Fin 256) :
    val_main_v106 (F := Ideal) na rpb (ix4 b h i (⟨4096 + e.val, by omega⟩ : Fin 4352)) = rC na b.val i.val h e := by
  unfold val_main_v106
  rw [join_right, ref_sC]

/-- The largest along the last axis of four, from minus infinity. -/
theorem reduce_top (u : FVec Ideal S16x4x4096x4352 .f32) (c : FVec Ideal S_ .f32) (hc : c (Shape.Idx.first h_S_) = ⊥) (b : Fin 16) (h : Fin 4) (i : Fin 4096) :
    Host.reduce FloatOps.maximumf u c reducesTo_S16x4x4096x4352_S16x4x4096_d3 h_S_ (ix3 b h i) = top fun k => u (ix4 b h i k) := by
  pointwise []
  rw [hc]
  rfl

/-- The largest along the last axis of four, from minus infinity. -/
theorem reduce_top' (u : FVec Ideal S16x4x256x256 .f32) (c : FVec Ideal S_ .f32) (hc : c (Shape.Idx.first h_S_) = ⊥) (b : Fin 16) (h : Fin 4) (i : Fin 256) :
    Host.reduce FloatOps.maximumf u c reducesTo_S16x4x256x256_S16x4x256_d3 h_S_ (ix3 b h i) = top fun k => u (ix4 b h i k) := by
  pointwise []
  rw [hc]
  rfl

/-- The largest score of a latent query. -/
theorem ref_top (b : Fin 16) (h : Fin 4) (i : Fin 4096) :
    val_main_v109 (F := Ideal) na rpb (ix3 b h i) = max (top (rL na rpb b.val i.val h)) (top (rC na b.val i.val h)) := by
  rw [val_main_v109_apply, val_main_v108_apply, val_main_cst_22_apply]
  unfold val_main_v107
  rw [reduce_top (val_main_v106 (F := Ideal) na rpb) (val_main_cst_21 (F := Ideal)) ((val_main_cst_21_apply _).trans bot_f32) b h i]
  show max (Ideal.ofBits .f32 0xFF800000#32) _ = _
  rw [bot_f32, max_eq_right bot_le]
  exact top_append (m := 4096) (n := 256) (by norm_num) (rL na rpb b.val i.val h) (rC na b.val i.val h) (fun k => val_main_v106 (F := Ideal) na rpb (ix4 b h i k))
    (fun k => ref_join_left na rpb b h i k) (fun k => ref_join_right na rpb b h i k)

/-- The largest score of a query of the context. -/
theorem ref_topC (b : Fin 16) (h : Fin 4) (i : Fin 256) :
    val_main_v130 (F := Ideal) na (ix3 b h i) = top (rC na b.val (4096 + i.val) h) := by
  rw [val_main_v130_apply, val_main_v129_apply, val_main_cst_26_apply]
  unfold val_main_v128
  rw [reduce_top' (val_main_v127 (F := Ideal) na) (val_main_cst_25 (F := Ideal)) ((val_main_cst_25_apply _).trans bot_f32) b h i]
  show max (Ideal.ofBits .f32 0xFF800000#32) _ = _
  rw [bot_f32, max_eq_right bot_le]
  exact congrArg top (funext (ref_sCC na b h i))

/-! ### The weights -/

/-- A weight before the division, at an entry of the joined scores. -/
theorem ref_w (b : Fin 16) (h : Fin 4) (i : Fin 4096) (k : Fin 4352) :
    val_main_v113 (F := Ideal) na rpb (ix4 b h i k)
      = Ideal.exp (val_main_v106 (F := Ideal) na rpb (ix4 b h i k) - max (top (rL na rpb b.val i.val h)) (top (rC na b.val i.val h))) := by
  rw [val_main_v113_apply, val_main_v112_apply, val_main_v111_apply, val_main_v110_apply]
  have ie : idx_main_v110 (idx_main_v111 (ix4 b h i k)) = ix3 b h i := funext fun z => Fin.ext (match z with | ⟨0, _⟩ => rfl | ⟨1, _⟩ => rfl | ⟨2, _⟩ => rfl)
  rw [ie, ref_top]
  rfl

/-- The sum of the weights of a latent query. -/
theorem ref_D (b : Fin 16) (h : Fin 4) (i : Fin 4096) :
    val_main_v114 (F := Ideal) na rpb (ix3 b h i)
      = ∑ x, Ideal.exp (rL na rpb b.val i.val h x - max (top (rL na rpb b.val i.val h)) (top (rC na b.val i.val h)))
        + ∑ x, Ideal.exp (rC na b.val i.val h x - max (top (rL na rpb b.val i.val h)) (top (rC na b.val i.val h))) := by
  rw [val_main_v114_apply, val_main_cst_23_apply]
  show Ideal.ofBits .f32 0#32 + _ = _
  rw [Ideal.ofBits_zero_f32, zero_add]
  refine (sum_append (m := 4096) (n := 256) (by norm_num) fun k => val_main_v113 (F := Ideal) na rpb (idx_main_v114 (ix3 b h i) k)).trans ?_
  refine congrArg₂ (· + ·) ?_ ?_
  · refine Finset.sum_congr rfl fun k _ => ?_
    have ie : idx_main_v114 (ix3 b h i) (⟨k.val, by omega⟩ : Fin 4352) = ix4 b h i (⟨k.val, by omega⟩ : Fin 4352) :=
      funext fun z => Fin.ext (match z with | ⟨0, _⟩ => rfl | ⟨1, _⟩ => rfl | ⟨2, _⟩ => rfl | ⟨3, _⟩ => rfl)
    rw [ie, ref_w, ref_join_left]
  · refine Finset.sum_congr rfl fun k _ => ?_
    have ie : idx_main_v114 (ix3 b h i) (⟨4096 + k.val, by omega⟩ : Fin 4352) = ix4 b h i (⟨4096 + k.val, by omega⟩ : Fin 4352) :=
      funext fun z => Fin.ext (match z with | ⟨0, _⟩ => rfl | ⟨1, _⟩ => rfl | ⟨2, _⟩ => rfl | ⟨3, _⟩ => rfl)
    rw [ie, ref_w, ref_join_right]

/-- A weight after the division. -/
theorem ref_p (b : Fin 16) (h : Fin 4) (i : Fin 4096) (k : Fin 4352) :
    val_main_v117 (F := Ideal) na rpb (ix4 b h i k)
      = Ideal.div (Ideal.exp (val_main_v106 (F := Ideal) na rpb (ix4 b h i k) - max (top (rL na rpb b.val i.val h)) (top (rC na b.val i.val h))))
        (∑ x, Ideal.exp (rL na rpb b.val i.val h x - max (top (rL na rpb b.val i.val h)) (top (rC na b.val i.val h)))
          + ∑ x, Ideal.exp (rC na b.val i.val h x - max (top (rL na rpb b.val i.val h)) (top (rC na b.val i.val h)))) := by
  rw [val_main_v117_apply, val_main_v116_apply, val_main_v115_apply]
  have ie : idx_main_v115 (idx_main_v116 (ix4 b h i k)) = ix3 b h i := funext fun z => Fin.ext (match z with | ⟨0, _⟩ => rfl | ⟨1, _⟩ => rfl | ⟨2, _⟩ => rfl)
  rw [ie, ref_w, ref_D]
  rfl

/-- A weight of a query of the context before the division. -/
theorem ref_wC (b : Fin 16) (h : Fin 4) (i k : Fin 256) :
    val_main_v134 (F := Ideal) na (ix4 b h i k) = Ideal.exp (rC na b.val (4096 + i.val) h k - top (rC na b.val (4096 + i.val) h)) := by
  rw [val_main_v134_apply, val_main_v133_apply, val_main_v132_apply, val_main_v131_apply]
  have ie : idx_main_v131 (idx_main_v132 (ix4 b h i k)) = ix3 b h i := funext fun z => Fin.ext (match z with | ⟨0, _⟩ => rfl | ⟨1, _⟩ => rfl | ⟨2, _⟩ => rfl)
  rw [ie, ref_topC, ref_sCC]
  rfl

/-- A weight of a query of the context after the division. -/
theorem ref_pC (b : Fin 16) (h : Fin 4) (i k : Fin 256) :
    val_main_v138 (F := Ideal) na (ix4 b h i k)
      = Ideal.div (Ideal.exp (rC na b.val (4096 + i.val) h k - top (rC na b.val (4096 + i.val) h)))
        (∑ x, Ideal.exp (rC na b.val (4096 + i.val) h x - top (rC na b.val (4096 + i.val) h))) := by
  rw [val_main_v138_apply, val_main_v137_apply, val_main_v136_apply, ref_wC]
  have ie : idx_main_v136 (idx_main_v137 (ix4 b h i k)) = ix3 b h i := funext fun z => Fin.ext (match z with | ⟨0, _⟩ => rfl | ⟨1, _⟩ => rfl | ⟨2, _⟩ => rfl)
  rw [ie, val_main_v135_apply, val_main_cst_27_apply]
  have hs : (∑ x : Fin 256, val_main_v134 (F := Ideal) na (idx_main_v135 (ix3 b h i) x))
      = ∑ x, Ideal.exp (rC na b.val (4096 + i.val) h x - top (rC na b.val (4096 + i.val) h)) :=
    Finset.sum_congr rfl fun x _ => by
      have ix : idx_main_v135 (ix3 b h i) x = ix4 b h i x :=
        funext fun z => Fin.ext (match z with | ⟨0, _⟩ => rfl | ⟨1, _⟩ => rfl | ⟨2, _⟩ => rfl | ⟨3, _⟩ => rfl)
      rw [ix, ref_wC]
  rw [hs]
  show Ideal.div _ (Ideal.ofBits .f32 0#32 + _) = _
  rw [Ideal.ofBits_zero_f32, zero_add]

/-! ### The averages -/

/-- The average of a latent query. -/
theorem ref_avg (b : Fin 16) (i : Fin 4096) (h : Fin 4) (d : Fin 64) :
    val_main_v124 (F := Ideal) na rpb (ix4 b i h d)
      = dense (rL na rpb b.val i.val h) (rC na b.val i.val h) (fun k => rd na b.val k.val (512 + (64 * h.val + d.val)))
        (fun e => rd na b.val (4096 + e.val) (512 + (64 * h.val + d.val))) := by
  rw [val_main_v124_apply, val_main_v120_apply, val_main_v123_apply, val_main_v119_apply, val_main_v122_apply]
  unfold dense
  show (_ : EReal) + _ = _
  congr 1
  · refine Finset.sum_congr rfl fun k _ => ?_
    rw [ref_v9, val_main_v118_apply]
    have ie : idx_main_v118 (ridx_main_v119 (idx_main_v120 (ix4 b i h d)) k) = ix4 b h i (⟨k.val, by omega⟩ : Fin 4352) :=
      funext fun z => Fin.ext (match z with | ⟨0, _⟩ => rfl | ⟨1, _⟩ => rfl | ⟨2, _⟩ => rfl | ⟨3, _⟩ => rfl)
    rw [ie, ref_p, ref_join_left]
    rfl
  · refine Finset.sum_congr rfl fun k _ => ?_
    rw [ref_v12, val_main_v121_apply]
    have ie : idx_main_v121 (ridx_main_v122 (idx_main_v123 (ix4 b i h d)) k) = ix4 b h i (⟨4096 + k.val, by omega⟩ : Fin 4352) :=
      funext fun z => Fin.ext (match z with | ⟨0, _⟩ => rfl | ⟨1, _⟩ => rfl | ⟨2, _⟩ => rfl | ⟨3, _⟩ => rfl)
    rw [ie, ref_p, ref_join_right]
    rfl

/-- The average of a query of the context. -/
theorem ref_avgC (b : Fin 16) (i : Fin 256) (h : Fin 4) (d : Fin 64) :
    val_main_v140 (F := Ideal) na (ix4 b i h d)
      = dense1 (rC na b.val (4096 + i.val) h) (fun e => rd na b.val (4096 + e.val) (512 + (64 * h.val + d.val))) := by
  rw [val_main_v140_apply, val_main_v139_apply]
  unfold dense1
  refine Finset.sum_congr rfl fun k _ => ?_
  have ie : ridx_main_v139 (idx_main_v140 (ix4 b i h d)) k = ix4 b h i k :=
    funext fun z => Fin.ext (match z with | ⟨0, _⟩ => rfl | ⟨1, _⟩ => rfl | ⟨2, _⟩ => rfl | ⟨3, _⟩ => rfl)
  rw [ref_v12, ie, ref_pC]
  rfl

/-- The latent rows of the output. -/
theorem rows_left (u : FVec Ideal S16x4096x4x64 .f32) (w : FVec Ideal S16x256x4x64 .f32) (b : Fin 16) (i : Fin 4352) (hi : i.val < 4096) (h : Fin 4) (d : Fin 64) :
    concatenate S16x4352x4x64 1 [⟨S16x4096x4x64, u⟩, ⟨S16x256x4x64, w⟩] concatenates_S16x4096x4x64_S16x256x4x64_S16x4352x4x64_d1 (ix4 b i h d)
      = u (ix4 b (⟨i.val, hi⟩ : Fin 4096) h d) :=
  concatenate_pair_apply_left (1 : Fin S16x4352x4x64.rank) u w _ _ rfl (ix4 b (⟨i.val, hi⟩ : Fin 4096) h d) (fun z => match z with
    | ⟨0, _⟩ => rfl
    | ⟨1, _⟩ => rfl
    | ⟨2, _⟩ => rfl
    | ⟨3, _⟩ => rfl)

/-- The rows of the context of the output. -/
theorem rows_right (u : FVec Ideal S16x4096x4x64 .f32) (w : FVec Ideal S16x256x4x64 .f32) (b : Fin 16) (i : Fin 4352) (hi : 4096 ≤ i.val) (h : Fin 4) (d : Fin 64) :
    concatenate S16x4352x4x64 1 [⟨S16x4096x4x64, u⟩, ⟨S16x256x4x64, w⟩] concatenates_S16x4096x4x64_S16x256x4x64_S16x4352x4x64_d1 (ix4 b i h d)
      = w (ix4 b (⟨i.val - 4096, by omega⟩ : Fin 256) h d) :=
  concatenate_pair_apply_right (1 : Fin S16x4352x4x64.rank) u w _ _ rfl rfl (ix4 b (⟨i.val - 4096, by omega⟩ : Fin 256) h d) (fun z hz => match z, hz with
    | ⟨0, _⟩, _ => rfl
    | ⟨1, _⟩, hz => absurd rfl hz
    | ⟨2, _⟩, _ => rfl
    | ⟨3, _⟩, _ => rfl) (Nat.sub_add_cancel hi)

/-- One entry of the reference's output. -/
def refAt (b i : ℕ) (h : Fin 4) (d : Fin 64) : EReal :=
  if i < 4096 then
    dense (rL na rpb b i h) (rC na b i h) (fun k => rd na b k.val (512 + (64 * h.val + d.val)))
      (fun e => rd na b (4096 + e.val) (512 + (64 * h.val + d.val)))
  else dense1 (rC na b i h) (fun e => rd na b (4096 + e.val) (512 + (64 * h.val + d.val)))

/-- The reference's output. -/
theorem ref_out (y : S16x4352x256.Idx) :
    val_main_v143 (F := Ideal) na rpb y = refAt na rpb (y 0).val (y 1).val (headOf (y 2)) (placeOf (y 2)) := by
  rw [val_main_v143_apply, val_main_v142_apply]
  have h0 : (y 0).val < 16 := (y 0).isLt
  have h1 : (y 1).val < 4352 := (y 1).isLt
  have h2 : (y 2).val < 256 := (y 2).isLt
  have ie : idx_main_v142 y = ix4 (⟨(y 0).val, h0⟩ : Fin 16) (⟨(y 1).val, h1⟩ : Fin 4352) (headOf (y 2)) (placeOf (y 2)) := by
    funext z; refine Fin.ext ?_
    match z with
    | ⟨0, _⟩ => show (((y 0).val * 4352 + (y 1).val) * 256 + (y 2).val) / 1114112 = (y 0).val; omega
    | ⟨1, _⟩ => show (((y 0).val * 4352 + (y 1).val) * 256 + (y 2).val) / 256 % 4352 = (y 1).val; omega
    | ⟨2, _⟩ => show (((y 0).val * 4352 + (y 1).val) * 256 + (y 2).val) / 64 % 4 = (y 2).val / 64; omega
    | ⟨3, _⟩ => show (((y 0).val * 4352 + (y 1).val) * 256 + (y 2).val) % 64 = (y 2).val % 64; omega
  rw [ie]
  unfold val_main_v141 refAt
  by_cases hi : (y 1).val < 4096
  · rw [if_pos hi]
    exact (rows_left (val_main_v124 (F := Ideal) na rpb) (val_main_v140 (F := Ideal) na) (⟨(y 0).val, h0⟩ : Fin 16) (⟨(y 1).val, h1⟩ : Fin 4352) hi
      (headOf (y 2)) (placeOf (y 2))).trans (ref_avg na rpb _ _ _ _)
  · rw [if_neg hi]
    refine (rows_right (val_main_v124 (F := Ideal) na rpb) (val_main_v140 (F := Ideal) na) (⟨(y 0).val, h0⟩ : Fin 16) (⟨(y 1).val, h1⟩ : Fin 4352)
      (Nat.le_of_not_lt hi) (headOf (y 2)) (placeOf (y 2))).trans ((ref_avgC na _ _ _ _).trans ?_)
    have e : 4096 + ((y 1).val - 4096) = (y 1).val := by omega
    exact congrArg (fun i => dense1 (rC na (y 0).val i (headOf (y 2)))
      (fun e => rd na (y 0).val (4096 + e.val) (512 + (64 * (headOf (y 2)).val + (placeOf (y 2)).val)))) e

end Cert.NA

end
-- ==== Proof.Equal.lean ====
/- The kernel's output is the reference's, where every projection and every bias is finite. -/
module

public import proofs.«01_k».proof.Proof.Ref
public import proofs.«01_k».proof.Pre_finite

@[expose] public section

set_option maxRecDepth 16384

noncomputable section

namespace Cert.NA

open Idealize.ShloMosaic

variable (na : Packed) (rpb : Biases)

/-- A read of finite projections is finite. -/
theorem fin_rd (hna : ∀ j, Fin' (na j)) (b i k : ℕ) : Fin' (rd na b i k) := by
  unfold rd
  split
  · exact hna _
  · exact ⟨EReal.bot_lt_zero, EReal.zero_lt_top⟩

/-- The context's scores are finite. -/
theorem fin_rC (hna : ∀ j, Fin' (na j)) (b i : ℕ) (h : Fin 4) (e : Fin 256) : Fin' (rC na b i h e) :=
  fin_mul (fin_sum fun _ => fin_mul (fin_rd na hna _ _ _) (fin_rd na hna _ _ _)) fin_eighth

/-- The latent scores are below plus infinity. -/
theorem lt_rL (hna : ∀ j, Fin' (na j)) (hb : ∀ j, Fin' (rpb j)) (b i : ℕ) (h : Fin 4) (k : Fin 4096) : rL na rpb b i h k < ⊤ := by
  unfold rL
  split
  · exact (fin_add (fin_mul (fin_sum fun _ => fin_mul (fin_rd na hna _ _ _) (fin_rd na hna _ _ _)) fin_eighth) (hb _)).2
  · exact bot_lt_top

/-- Scaling the queries is scaling the scores: the context. -/
theorem sC_eq (b i : ℕ) (h : Fin 4) : sC na b i h = rC na b i h :=
  funext fun e => sum_scaled (fun x : Fin 64 => rd na b i (64 * h.val + x.val)) fun x => rd na b (4096 + e.val) (256 + (64 * h.val + x.val))

/-- The latent keys a block of queries meets. -/
def place (i : ℕ) (e : Fin 768) : Fin 4096 := ⟨256 * win (i / 256) + e.val, by have := win_le (i / 256); omega⟩

theorem place_inj (i : ℕ) : Function.Injective (place i) := fun a b h => by
  have := congrArg Fin.val h
  unfold place at this
  exact Fin.ext (by simp only at this; omega)

/-- A key outside the blocks that a query's block meets is outside the query's window. -/
theorem off_place (i : ℕ) (hi : i < 4096) (t : Fin 4096) (ht : ∀ e, place i e ≠ t) : ¬ keyIn i t.val := by
  intro hk
  obtain ⟨h1, h2⟩ := hk.1
  have hw : 256 * win (i / 256) ≤ t.val ∧ t.val < 256 * win (i / 256) + 768 := by
    unfold win
    omega
  exact ht ⟨t.val - 256 * win (i / 256), by omega⟩ (Fin.ext (by show 256 * win (i / 256) + (t.val - 256 * win (i / 256)) = t.val; omega))

/-- The kernel's latent scores are the reference's at the keys the block meets. -/
theorem sL_eq (b i : ℕ) (hi : i < 4096) (h : Fin 4) :
    sL na (biasAll (F := Ideal) rpb) b i h = fun e => rL na rpb b i h (place i e) := by
  funext e
  unfold sL
  rw [sum_scaled (fun x : Fin 64 => rd na b i (64 * h.val + x.val)) fun x => rd na b (256 * win (i / 256) + e.val) (256 + (64 * h.val + x.val))]
  refine (congrArg (_ + ·) (biasAll_spec rpb h i hi e)).trans ?_
  show _ = if keyIn i (256 * win (i / 256) + e.val) then _ else _
  by_cases hk : keyIn i (256 * win (i / 256) + e.val)
  · rw [if_pos hk, if_pos hk]; rfl
  · rw [if_neg hk, if_neg hk, EReal.add_bot]

/-- One entry: dividing once by the sum of the weights is dividing every weight. -/
theorem at_eq (hna : ∀ j, Fin' (na j)) (hb : ∀ j, Fin' (rpb j)) (b i : ℕ) (h : Fin 4) (d : Fin 64) :
    outAt na (biasAll (F := Ideal) rpb) b i h d = refAt na rpb b i h d := by
  unfold outAt refAt
  rw [sC_eq]
  by_cases hi : i < 4096
  · rw [if_pos hi, if_pos hi, sL_eq na rpb b i hi h]
    refine (dense_eq (place i) (place_inj i) (rL na rpb b i h) (fun k => rd na b k.val (512 + (64 * h.val + d.val))) (rC na b i h) _ ?_
      (lt_rL na rpb hna hb b i h) (fun k => (fin_rC na hna b i h k).2) 0 (fin_rC na hna b i h 0).1).symm
    intro t ht
    unfold rL
    rw [if_neg (off_place i hi t ht)]
  · rw [if_neg hi, if_neg hi]
    exact (dense1_eq _ _ (fun k => (fin_rC na hna b i h k).2) 0 (fin_rC na hna b i h 0).1).symm

/-- The kernel's output is the reference's. -/
theorem out_eq (hna : ∀ j, Fin' (na j)) (hb : ∀ j, Fin' (rpb j)) :
    outK na (biasAll (F := Ideal) rpb) = Cert.ReferenceIdeal.Read.val_main_v143 (F := Ideal) na rpb :=
  funext fun y => (at_eq na rpb hna hb _ _ _ _).trans (ref_out na rpb y).symm

/-! ### The precondition -/

/-- The side conditions of the precondition. -/
theorem preFacts : Cert.Pre_finite.Facts where
  bitsLt_bf16_f32 := by decide
  shapeCasts_S16x4352x768_S53477376 := by decide
  shapeCasts_S4x15x31_S1860 := by decide
  concatenates_S53477376_S1860_S53479236_d0 := by decide
  bcast_S_S53479236 := by decide

/-- A number whose absolute value is below plus infinity is finite. -/
theorem fin_of_abs {x : EReal} (h : max x (-x) < ⊤) : Fin' x := by
  obtain ⟨h1, h2⟩ := max_lt_iff.1 h
  refine ⟨?_, h1⟩
  rw [bot_lt_iff_ne_bot]
  rintro rfl
  simp at h2

/-- A true comparison with plus infinity. -/
theorem lt_of_olt {x : EReal} (h : Ideal.cmp .olt x ⊤ = 1#1) : x < ⊤ := by
  by_contra hn
  simp [Ideal.cmp, hn] at h

/-- The first piece of the precondition's test. -/
theorem pre_left (u : FVec Ideal ⟨1, ![53477376]⟩ .f32) (w : FVec Ideal ⟨1, ![1860]⟩ .f32)
    (h : Shape.Concatenates [⟨1, ![53477376]⟩, ⟨1, ![1860]⟩] ⟨1, ![53479236]⟩ 0) (p : ℕ) (hp : p < 53477376) :
    concatenate (⟨1, ![53479236]⟩ : Shape) 0 [⟨⟨1, ![53477376]⟩, u⟩, ⟨⟨1, ![1860]⟩, w⟩] h (ix1 (⟨p, by omega⟩ : Fin 53479236))
      = u (ix1 (⟨p, hp⟩ : Fin 53477376)) :=
  concatenate_pair_apply_left (0 : Fin (⟨1, ![53479236]⟩ : Shape).rank) u w h _ rfl (ix1 (⟨p, hp⟩ : Fin 53477376)) (fun z => match z with
    | ⟨0, _⟩ => rfl)

/-- The second piece of the precondition's test. -/
theorem pre_right (u : FVec Ideal ⟨1, ![53477376]⟩ .f32) (w : FVec Ideal ⟨1, ![1860]⟩ .f32)
    (h : Shape.Concatenates [⟨1, ![53477376]⟩, ⟨1, ![1860]⟩] ⟨1, ![53479236]⟩ 0) (p : ℕ) (hp : p < 1860) :
    concatenate (⟨1, ![53479236]⟩ : Shape) 0 [⟨⟨1, ![53477376]⟩, u⟩, ⟨⟨1, ![1860]⟩, w⟩] h (ix1 (⟨53477376 + p, by omega⟩ : Fin 53479236))
      = w (ix1 (⟨p, hp⟩ : Fin 1860)) :=
  concatenate_pair_apply_right (0 : Fin (⟨1, ![53479236]⟩ : Shape).rank) u w h _ rfl rfl (ix1 (⟨p, hp⟩ : Fin 1860)) (fun z hz => match z, hz with
    | ⟨0, _⟩, hz => absurd rfl hz) (Nat.add_comm _ _)

/-- Under the precondition every projection is finite. -/
theorem fin_na [Cert.Pre_finite.Facts] (h : Cert.Pre_finite.fn (F := Ideal) na rpb = fun _ => 1#1) (j : (⟨3, ![16, 4352, 768]⟩ : Shape).Idx) : Fin' (na j) := by
  have h0 : (j 0).val < 16 := (j 0).isLt
  have h1 : (j 1).val < 4352 := (j 1).isLt
  have h2 : (j 2).val < 768 := (j 2).isLt
  have hp : ((j 0).val * 4352 + (j 1).val) * 768 + (j 2).val < 53477376 := by omega
  have e := congrFun h (ix1 (⟨((j 0).val * 4352 + (j 1).val) * 768 + (j 2).val, by omega⟩ : Fin 53479236))
  refine fin_of_abs (lt_of_olt ?_)
  rw [← e]
  unfold Cert.Pre_finite.fn
  show _ = Ideal.cmp .olt (concatenate _ _ _ _ _) (Ideal.ofBits .f32 0x7F800000#32)
  rw [top_f32, pre_left _ _ _ _ hp]
  refine congrArg (fun x => Ideal.cmp .olt x ⊤) ?_
  refine (shapeCast_apply (fun i : (⟨3, ![16, 4352, 768]⟩ : Shape).Idx => max (na i) (-na i)) _ _ j ?_).symm
  rw [Shape.rowMajor_val_three, Shape.rowMajor_val_one]
  rfl

/-- Under the precondition every bias is finite. -/
theorem fin_rpb [Cert.Pre_finite.Facts] (h : Cert.Pre_finite.fn (F := Ideal) na rpb = fun _ => 1#1) (j : (⟨3, ![4, 15, 31]⟩ : Shape).Idx) : Fin' (rpb j) := by
  have h0 : (j 0).val < 4 := (j 0).isLt
  have h1 : (j 1).val < 15 := (j 1).isLt
  have h2 : (j 2).val < 31 := (j 2).isLt
  have hp : ((j 0).val * 15 + (j 1).val) * 31 + (j 2).val < 1860 := by omega
  have e := congrFun h (ix1 (⟨53477376 + (((j 0).val * 15 + (j 1).val) * 31 + (j 2).val), by omega⟩ : Fin 53479236))
  refine fin_of_abs (lt_of_olt ?_)
  rw [← e]
  unfold Cert.Pre_finite.fn
  show _ = Ideal.cmp .olt (concatenate _ _ _ _ _) (Ideal.ofBits .f32 0x7F800000#32)
  rw [top_f32, pre_right _ _ _ _ hp]
  refine congrArg (fun x => Ideal.cmp .olt x ⊤) ?_
  refine (shapeCast_apply (fun i : (⟨3, ![4, 15, 31]⟩ : Shape).Idx => max (rpb i) (-rpb i)) _ _ j ?_).symm
  rw [Shape.rowMajor_val_three, Shape.rowMajor_val_one]
  rfl

end Cert.NA

end
-- ==== Proof.MoePre.lean ====
/- The precondition of the grouped experts: every tile's expert is one of the 64. -/
module

public import proofs.«01_k».proof.Pre_experts_in_range
public import Idealize.ShloMosaic.Lib.StableHlo.Predicate

@[expose] public section

noncomputable section

namespace Cert.Moe

open Idealize.ShloMosaic

/-- The side conditions of the precondition. -/
theorem preFacts : Cert.Pre_experts_in_range.Facts where
  bcast_S_S182 := by decide

/-- A word that is not negative and below 64 is a number below 64. -/
theorem word_range (v : BitVec 32) (h0 : (0#32).sle v = true) (h1 : v.slt 64#32 = true) : v.toNat < 64 := by
  have a : (0 : ℤ) ≤ v.toInt := by simpa [BitVec.sle] using h0
  have b : v.toInt < 64 := by simpa [BitVec.slt] using h1
  have e := BitVec.toInt_eq_toNat_cond v
  have := v.isLt
  split at e <;> omega

/-- Where the precondition holds, every tile's expert is below 64. -/
theorem pre_range {F : FTy → Type} [FloatOps F] (x0 : IVec ⟨1, ![182]⟩ 32) (x1 : IVec ⟨1, ![1]⟩ 32) (x2 : IVec ⟨2, ![186368, 640]⟩ 32)
    (x3 x4 : FVec F ⟨3, ![64, 1024, 512]⟩ .f32) (x5 : FVec F ⟨3, ![64, 512, 1024]⟩ .f32)
    (h : (letI := preFacts; Cert.Pre_experts_in_range.fn (F := F) x0 x1 x2 x3 x4 x5) = fun _ => 1#1) (x) : (x0 x).toNat < 64 := by
  have e : IntOp.andi (BitVec.ofBool ((0#32).sle (x0 x))) (BitVec.ofBool ((x0 x).slt 64#32)) = 1#1 := congrFun h x
  refine word_range (x0 x) ?_ ?_ <;> revert e <;> generalize (0#32).sle (x0 x) = a <;> generalize (x0 x).slt 64#32 = b <;> revert a b <;> decide

end Cert.Moe

end
-- ==== Proof.MoeBody.lean ====
/- What one point of the grouped experts' grid does with its buffers. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Value
public import Idealize.ShloMosaic.Lib.Pipeline.TableIdle
public import Idealize.ShloMosaic.Lib.Tactic
public import Idealize.ShloMosaic.Lib.WordCmp
public import Idealize.ShloMosaic.Lib.Claim

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

/-- The table of the experts of the tiles, and the number of tiles in use. -/
abbrev tabE : Memref sig .tc .smem S182 .i32 := Memref.whole main_arg0
abbrev tabN : Memref sig .tc .smem S1 .i32 := Memref.whole main_arg1

/-- A table held for reading. -/
abbrev held (c : Dev nD) {S : Shape} {e : EltTy} (M : Memref sig .tc .smem S e) (f : Buf (Elt F) (M.view.loc (c : Thread nD τ))) :
    sProp (MT nD τ sig Unit (Elt F) ℕ (UR sig nD τ) ℕ) :=
  M.view.loc (c : Thread nD τ) ↦{fullShare.right} f

/-- The word of the expert of a point, and of the point before. -/
def wordE (pf : pre0.Contents (Elt F)) (i : grid0.Coords) : BitVec 32 :=
  pf.at 0 (Rect.unit (s := S182) (k0_off1 i) S1.size (k0_off1_inb i)) numel1_S1
def wordP (pf : pre0.Contents (Elt F)) (i : grid0.Coords) : BitVec 32 :=
  pf.at 0 (Rect.unit (s := S182) (k0_off2 i) S1.size (k0_off2_inb i)) numel1_S1
/-- The word of the number of tiles in use. -/
def wordN (pf : pre0.Contents (Elt F)) : BitVec 32 :=
  pf.at 1 (Rect.unit (s := S1) ![0] S1.size inb_S1_S1_0) numel1_S1

/-- The condition under which a point loads weights anew. -/
def condF (i : grid0.Coords) (v2 v6 : BitVec 32) : BitVec 1 :=
  Scalar.cmpi .ne (Scalar.extui (Scalar.ori (Scalar.cmpi .eq (BitVec.ofNat 32 (i 0).val) 0#32) (Scalar.cmpi .ne v2 v6))) (0#32 : BitVec 32)

/-- The block a tile in use leaves, from the words of its rows and the weights held. -/
def tileOut (x0 : Vec F S1024x640 .i32) (w0 w1 : Vec F S1024x512 .bf16) (w2 : Vec F S512x1024 .bf16) : Vec F S1024x1024 .bf16 :=
  k0_pay5 (View.ld x0 (Rect.unit (s := S1024x640) ![0, 0] S1024x512.size inb_S1024x640_S1024x512_0_0))
    (View.ld x0 (Rect.unit (s := S1024x640) ![0, 512] S1024x1.size inb_S1024x640_S1024x1_0_512))
    (View.ld w0 (Rect.unit (s := S1024x512) ![0, 0] S512x512.size inb_S1024x512_S512x512_0_0))
    (View.ld w0 (Rect.unit (s := S1024x512) ![512, 0] S512x512.size inb_S1024x512_S512x512_512_0))
    (View.ld w1 (Rect.unit (s := S1024x512) ![0, 0] S512x512.size inb_S1024x512_S512x512_0_0))
    (View.ld w1 (Rect.unit (s := S1024x512) ![512, 0] S512x512.size inb_S1024x512_S512x512_512_0)) w2

theorem zeros2 : (![0, 0] : Fin 2 → ℕ) = fun _ => 0 := by decide
theorem zeros3 : (![0, 0, 0] : Fin 3 → ℕ) = fun _ => 0 := by decide

/-- What is read of a buffer written whole once. -/
theorem read_whole {κ : Kind} {sp : Space} {S : Shape} {e : EltTy} (v : View sig κ sp S e) (f : v.ty.Contents (Elt F)) {off : Fin S.rank → ℕ}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ fun y => ⟨_, List.mem_singleton_self _, View.mem_set_unit_zero h inb y⟩]
  exact View.canon_unit_zero h inb w

/-- A part loaded of a buffer written whole once. -/
theorem load_whole {κ : Kind} {sp : Space} {S : Shape} {e : EltTy} (v : View sig κ sp S e) {off : Fin S.rank → ℕ}
    (h : off = fun _ => 0) (inb : ∀ a, off a + S.size a ≤ S.size a) (w : S.Idx → Elt F e) (r : Rect S) :
    v.readCov [⟨Rect.unit off S.size inb, w⟩] r.toLoadRect = View.ld w r := by
  rw [View.readCov_eq_canon_ld _ _ _ fun y => ⟨_, List.mem_singleton_self _, View.mem_set_unit_zero h inb y⟩]
  rw [View.canon_unit_zero h inb w]

/-- A part loaded of a buffer at known contents. -/
theorem load_known {κ : Kind} {sp : Space} {S : Shape} {e : EltTy} (M : Memref sig κ sp S e) (hM : M.IsWhole) (x : S.Idx → Elt F e) (r : Rect S) :
    M.view.readAt (Elt F) r.toLoadRect (hM.unread x) = View.ld x r := by
  rw [View.readAt_eq_ld, hM.read_unread]

/-- The whole loaded of a buffer at known contents. -/
theorem load_all {κ : Kind} {sp : Space} {S : Shape} {e : EltTy} (M : Memref sig κ sp S e) (hM : M.IsWhole) (x : S.Idx → Elt F e) {off : Fin S.rank → ℕ}
    (h : off = fun _ => 0) (inb : ∀ a, off a + S.size a ≤ S.size a) :
    M.view.readAt (Elt F) (Rect.unit off S.size inb).toLoadRect (hM.unread x) = x := by
  rw [load_known, View.ld_unit_zero h]

set_option maxHeartbeats 4000000 in
/-- A tile in use of an expert not held yet. -/
theorem run_new_used (c : Dev nD) (i : grid0.Coords) (arg3 : Memref sig .tc .vmem S1024x640 .i32) (harg3 : arg3.IsWhole)
    (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole)
    (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S1024x640 .i32) (x1 x2 : Vec F S1x1024x512 .f32) (x3 : Vec F S1x512x1024 .f32) (s0 s1 : Vec F S1024x512 .bf16) (s2 : Vec F S512x1024 .bf16)
    (pf : pre0.Contents (Elt F)) (hF : condF i (wordE pf i) (wordP pf i) = 1#1) (hL : k0_cond2 i (wordN pf) = 1#1) (hL' : ¬ k0_cond3 i (wordN pf) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ held c tabE (pf 0) ∗ held c tabN (pf 1)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (tileOut x0 (k0_pay1 x1) (k0_pay2 x2) (k0_pay3 x3)) ∗ owns (c : Thread nD τ) arg8 fullShare (k0_pay1 x1) ∗ owns (c : Thread nD τ) arg9 fullShare (k0_pay2 x2) ∗ owns (c : Thread nD τ) arg10 fullShare (k0_pay3 x3)
            ∗ held c tabE (pf 0) ∗ held c tabN (pf 1)) -∗ K ⟨⟩))
      ⊢ wp frame (wpE (defs₀ (F := F)) Variants.none c none) E (cc0_moe_grouped i tabE (Memref.isWhole_whole _) tabN (Memref.isWhole_whole _) arg3 harg3 arg4 harg4 arg5 harg5 arg6 harg6 arg7 harg7 arg8 harg8 arg9 harg9 arg10 harg10) K := by
  simp only [cc0_moe_grouped_eq_skeleton]; unfold cc0_moe_grouped_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, HT0, HT1, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  sl_exec (disch := first | sl_exact hF | sl_exact hL | sl_exact hL')
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_whole _ _ zeros2 _ _).trans ?_
    unfold tileOut
    unfold run_new_used.sl.r_3 run_new_used.sl.v30 run_new_used.sl.v32 run_new_used.sl.v35 run_new_used.sl.v37 run_new_used.sl.v50 run_new_used.sl.S0_1 run_new_used.sl.S1_1 run_new_used.sl.S2_1
    rw [load_whole (S := S1024x512) arg8.view zeros2, load_whole (S := S1024x512) arg8.view zeros2, load_whole (S := S1024x512) arg9.view zeros2,
      load_whole (S := S1024x512) arg9.view zeros2, load_whole (S := S512x1024) arg10.view zeros2, View.ld_unit_zero (S := S512x1024) zeros2]
    simp only [load_known _ harg3, load_all _ harg4 _ zeros3, load_all _ harg5 _ zeros3, load_all _ harg6 _ zeros3]
  isplitl [S0]
  · iexists _; isplitr
    swap; · iexact S0
    ipureintro
    unfold run_new_used.sl.S0_1
    refine (read_whole _ _ zeros2 _ _).trans ?_
    rw [load_all _ harg4 _ zeros3]
  isplitl [S1]
  · iexists _; isplitr
    swap; · iexact S1
    ipureintro
    unfold run_new_used.sl.S1_1
    refine (read_whole _ _ zeros2 _ _).trans ?_
    rw [load_all _ harg5 _ zeros3]
  isplitl [S2]
  · iexists _; isplitr
    swap; · iexact S2
    ipureintro
    unfold run_new_used.sl.S2_1
    refine (read_whole _ _ zeros2 _ _).trans ?_
    rw [load_all _ harg6 _ zeros3]
  isplitl [HT0]; · iexact HT0
  iexact HT1

set_option maxHeartbeats 4000000 in
/-- A tile in use of the expert held. -/
theorem run_old_used (c : Dev nD) (i : grid0.Coords) (arg3 : Memref sig .tc .vmem S1024x640 .i32) (harg3 : arg3.IsWhole)
    (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole)
    (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S1024x640 .i32) (x1 x2 : Vec F S1x1024x512 .f32) (x3 : Vec F S1x512x1024 .f32) (s0 s1 : Vec F S1024x512 .bf16) (s2 : Vec F S512x1024 .bf16)
    (pf : pre0.Contents (Elt F)) (hF : ¬ condF i (wordE pf i) (wordP pf i) = 1#1) (hL : k0_cond2 i (wordN pf) = 1#1) (hL' : ¬ k0_cond3 i (wordN pf) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ held c tabE (pf 0) ∗ held c tabN (pf 1)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (tileOut x0 (s0) (s1) (s2)) ∗ owns (c : Thread nD τ) arg8 fullShare (s0) ∗ owns (c : Thread nD τ) arg9 fullShare (s1) ∗ owns (c : Thread nD τ) arg10 fullShare (s2)
            ∗ held c tabE (pf 0) ∗ held c tabN (pf 1)) -∗ K ⟨⟩))
      ⊢ wp frame (wpE (defs₀ (F := F)) Variants.none c none) E (cc0_moe_grouped i tabE (Memref.isWhole_whole _) tabN (Memref.isWhole_whole _) arg3 harg3 arg4 harg4 arg5 harg5 arg6 harg6 arg7 harg7 arg8 harg8 arg9 harg9 arg10 harg10) K := by
  simp only [cc0_moe_grouped_eq_skeleton]; unfold cc0_moe_grouped_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, HT0, HT1, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  sl_exec (disch := first | sl_exact hF | sl_exact hL | sl_exact hL')
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    refine (read_whole _ _ zeros2 _ _).trans ?_
    unfold tileOut
    unfold run_old_used.sl.r_3
    simp only [load_known _ harg3, load_known _ harg8, load_known _ harg9, load_all _ harg10 _ zeros2]
  isplitl [S0]
  · iexists _; isplitr; · ipureintro; exact hg0
    iexact S0
  isplitl [S1]
  · iexists _; isplitr; · ipureintro; exact hg1
    iexact S1
  isplitl [S2]
  · iexists _; isplitr; · ipureintro; exact hg2
    iexact S2
  isplitl [HT0]; · iexact HT0
  iexact HT1

set_option maxHeartbeats 4000000 in
/-- A tile past the last of an expert not held yet. -/
theorem run_new_past (c : Dev nD) (i : grid0.Coords) (arg3 : Memref sig .tc .vmem S1024x640 .i32) (harg3 : arg3.IsWhole)
    (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole)
    (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S1024x640 .i32) (x1 x2 : Vec F S1x1024x512 .f32) (x3 : Vec F S1x512x1024 .f32) (s0 s1 : Vec F S1024x512 .bf16) (s2 : Vec F S512x1024 .bf16)
    (pf : pre0.Contents (Elt F)) (hF : condF i (wordE pf i) (wordP pf i) = 1#1) (hL : ¬ k0_cond2 i (wordN pf) = 1#1) (hL' : k0_cond3 i (wordN pf) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ held c tabE (pf 0) ∗ held c tabN (pf 1)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay4) ∗ owns (c : Thread nD τ) arg8 fullShare (k0_pay1 x1) ∗ owns (c : Thread nD τ) arg9 fullShare (k0_pay2 x2) ∗ owns (c : Thread nD τ) arg10 fullShare (k0_pay3 x3)
            ∗ held c tabE (pf 0) ∗ held c tabN (pf 1)) -∗ K ⟨⟩))
      ⊢ wp frame (wpE (defs₀ (F := F)) Variants.none c none) E (cc0_moe_grouped i tabE (Memref.isWhole_whole _) tabN (Memref.isWhole_whole _) arg3 harg3 arg4 harg4 arg5 harg5 arg6 harg6 arg7 harg7 arg8 harg8 arg9 harg9 arg10 harg10) K := by
  simp only [cc0_moe_grouped_eq_skeleton]; unfold cc0_moe_grouped_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, HT0, HT1, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  sl_exec (disch := first | sl_exact hF | sl_exact hL | sl_exact hL')
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    exact read_whole _ _ zeros2 _ _
  isplitl [S0]
  · iexists _; isplitr
    swap; · iexact S0
    ipureintro
    refine (read_whole _ _ zeros2 _ _).trans ?_
    rw [load_all _ harg4 _ zeros3]
  isplitl [S1]
  · iexists _; isplitr
    swap; · iexact S1
    ipureintro
    refine (read_whole _ _ zeros2 _ _).trans ?_
    rw [load_all _ harg5 _ zeros3]
  isplitl [S2]
  · iexists _; isplitr
    swap; · iexact S2
    ipureintro
    refine (read_whole _ _ zeros2 _ _).trans ?_
    rw [load_all _ harg6 _ zeros3]
  isplitl [HT0]; · iexact HT0
  iexact HT1

set_option maxHeartbeats 4000000 in
/-- A tile past the last of the expert held. -/
theorem run_old_past (c : Dev nD) (i : grid0.Coords) (arg3 : Memref sig .tc .vmem S1024x640 .i32) (harg3 : arg3.IsWhole)
    (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole)
    (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S1024x640 .i32) (x1 x2 : Vec F S1x1024x512 .f32) (x3 : Vec F S1x512x1024 .f32) (s0 s1 : Vec F S1024x512 .bf16) (s2 : Vec F S512x1024 .bf16)
    (pf : pre0.Contents (Elt F)) (hF : ¬ condF i (wordE pf i) (wordP pf i) = 1#1) (hL : ¬ k0_cond2 i (wordN pf) = 1#1) (hL' : k0_cond3 i (wordN pf) = 1#1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ held c tabE (pf 0) ∗ held c tabN (pf 1)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (k0_pay4) ∗ owns (c : Thread nD τ) arg8 fullShare (s0) ∗ owns (c : Thread nD τ) arg9 fullShare (s1) ∗ owns (c : Thread nD τ) arg10 fullShare (s2)
            ∗ held c tabE (pf 0) ∗ held c tabN (pf 1)) -∗ K ⟨⟩))
      ⊢ wp frame (wpE (defs₀ (F := F)) Variants.none c none) E (cc0_moe_grouped i tabE (Memref.isWhole_whole _) tabN (Memref.isWhole_whole _) arg3 harg3 arg4 harg4 arg5 harg5 arg6 harg6 arg7 harg7 arg8 harg8 arg9 harg9 arg10 harg10) K := by
  simp only [cc0_moe_grouped_eq_skeleton]; unfold cc0_moe_grouped_skel
  unfold owns
  iintro ⟨⟨%f0, %hf0, H0⟩, ⟨%f1, %hf1, H1⟩, ⟨%f2, %hf2, H2⟩, ⟨%f3, %hf3, H3⟩, ⟨%d4, %f4, -, H4⟩, ⟨%g0, %hg0, S0⟩, ⟨%g1, %hg1, S1⟩, ⟨%g2, %hg2, S2⟩, HT0, HT1, Hk⟩
  obtain rfl := harg3.eq_unread hf0; obtain rfl := harg4.eq_unread hf1; obtain rfl := harg5.eq_unread hf2; obtain rfl := harg6.eq_unread hf3
  obtain rfl := harg8.eq_unread hg0; obtain rfl := harg9.eq_unread hg1; obtain rfl := harg10.eq_unread hg2
  sl_exec (disch := first | sl_exact hF | sl_exact hL | sl_exact hL')
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    exact read_whole _ _ zeros2 _ _
  isplitl [S0]
  · iexists _; isplitr; · ipureintro; exact hg0
    iexact S0
  isplitl [S1]
  · iexists _; isplitr; · ipureintro; exact hg1
    iexact S1
  isplitl [S2]
  · iexists _; isplitr; · ipureintro; exact hg2
    iexact S2
  isplitl [HT0]; · iexact HT0
  iexact HT1

/-- The two conditions on a tile's number are each other's opposite. -/
theorem cond_opp (i : grid0.Coords) (v : BitVec 32) : k0_cond3 i v = 1#1 ↔ ¬ k0_cond2 i v = 1#1 := by
  unfold k0_cond3 k0_cond2
  generalize BitVec.ofNat 32 (i 0).val = u
  show Scalar.cmpi .ne (Scalar.extui (BitVec.ofBool (decide (v.toInt ≤ u.toInt)))) 0#32 = 1#1 ↔ ¬ Scalar.cmpi .ne (Scalar.extui (BitVec.ofBool (decide (u.toInt < v.toInt)))) 0#32 = 1#1
  by_cases h : u.toInt < v.toInt
  · rw [decide_eq_true h, decide_eq_false (not_le.2 h)]; decide
  · rw [decide_eq_false h, decide_eq_true (not_lt.1 h)]; decide

/-- A point that keeps the weights held has its expert's word equal to the one before. -/
theorem keeps (i : grid0.Coords) (v w : BitVec 32) (h : ¬ condF i v w = 1#1) : v = w := by
  by_contra hne
  apply h
  unfold condF
  generalize Scalar.cmpi .eq (BitVec.ofNat 32 (i 0).val) 0#32 = b
  have hb : Scalar.cmpi .ne v w = 1#1 := by
    show BitVec.ofBool (v != w) = 1#1
    rw [bne_iff_ne.2 hne]; rfl
  rw [hb]
  revert b; decide

/-- A point's body: afterwards the weights held are its expert's, and the block is what the tile leaves. -/
theorem body (c : Dev nD) (i : grid0.Coords) (arg3 : Memref sig .tc .vmem S1024x640 .i32) (harg3 : arg3.IsWhole)
    (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole)
    (arg7 : Memref sig .tc .vmem S1024x1024 .bf16) (harg7 : arg7.IsWhole) (arg8 : Memref sig .tc .vmem S1024x512 .bf16) (harg8 : arg8.IsWhole) (arg9 : Memref sig .tc .vmem S1024x512 .bf16) (harg9 : arg9.IsWhole)
    (arg10 : Memref sig .tc .vmem S512x1024 .bf16) (harg10 : arg10.IsWhole)
    (x0 : Vec F S1024x640 .i32) (x1 x2 : Vec F S1x1024x512 .f32) (x3 : Vec F S1x512x1024 .f32) (s0 s1 : Vec F S1024x512 .bf16) (s2 : Vec F S512x1024 .bf16)
    (pf : pre0.Contents (Elt F)) (hk : ¬ condF i (wordE pf i) (wordP pf i) = 1#1 → s0 = k0_pay1 x1 ∧ s1 = k0_pay2 x2 ∧ s2 = k0_pay3 x3) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ owns (c : Thread nD τ) arg8 fullShare s0 ∗ owns (c : Thread nD τ) arg9 fullShare s1 ∗ owns (c : Thread nD τ) arg10 fullShare s2
        ∗ held c tabE (pf 0) ∗ held c tabN (pf 1)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (if k0_cond2 i (wordN pf) = 1#1 then tileOut x0 (k0_pay1 x1) (k0_pay2 x2) (k0_pay3 x3) else k0_pay4) ∗ owns (c : Thread nD τ) arg8 fullShare (k0_pay1 x1) ∗ owns (c : Thread nD τ) arg9 fullShare (k0_pay2 x2) ∗ owns (c : Thread nD τ) arg10 fullShare (k0_pay3 x3)
            ∗ held c tabE (pf 0) ∗ held c tabN (pf 1)) -∗ K ⟨⟩))
      ⊢ wp frame (wpE (defs₀ (F := F)) Variants.none c none) E (cc0_moe_grouped i tabE (Memref.isWhole_whole _) tabN (Memref.isWhole_whole _) arg3 harg3 arg4 harg4 arg5 harg5 arg6 harg6 arg7 harg7 arg8 harg8 arg9 harg9 arg10 harg10) K := by
  have ho := cond_opp i (wordN pf)
  by_cases hF : condF i (wordE pf i) (wordP pf i) = 1#1
  · by_cases hL : k0_cond2 i (wordN pf) = 1#1
    · rw [if_pos hL]
      exact run_new_used c i arg3 harg3 arg4 harg4 arg5 harg5 arg6 harg6 arg7 harg7 arg8 harg8 arg9 harg9 arg10 harg10 x0 x1 x2 x3 s0 s1 s2 pf hF hL (fun h => ho.1 h hL) E K
    · rw [if_neg hL]
      exact run_new_past c i arg3 harg3 arg4 harg4 arg5 harg5 arg6 harg6 arg7 harg7 arg8 harg8 arg9 harg9 arg10 harg10 x0 x1 x2 x3 s0 s1 s2 pf hF hL (ho.2 hL) E K
  · obtain ⟨rfl, rfl, rfl⟩ := hk hF
    by_cases hL : k0_cond2 i (wordN pf) = 1#1
    · rw [if_pos hL]
      exact run_old_used c i arg3 harg3 arg4 harg4 arg5 harg5 arg6 harg6 arg7 harg7 arg8 harg8 arg9 harg9 arg10 harg10 x0 x1 x2 x3 _ _ _ pf hF hL (fun h => ho.1 h hL) E K
    · rw [if_neg hL]
      exact run_old_past c i arg3 harg3 arg4 harg4 arg5 harg5 arg6 harg6 arg7 harg7 arg8 harg8 arg9 harg9 arg10 harg10 x0 x1 x2 x3 _ _ _ pf hF hL (ho.2 hL) E K

end Cert.Kernel2Ideal.Moe

end
-- ==== Proof.MoeRun.lean ====
/- The run of the grouped experts: what the arrays hold afterwards, and that the arguments are kept. -/
module

public import proofs.«01_k».proof.Proof.MoeBody
public import Idealize.ShloMosaic.Lib.Pointwise.Index

@[expose] public section

set_option maxRecDepth 16384

noncomputable section

namespace Cert.Kernel2Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

variable (m : (ℓ : Loc nD τ sig) → Buf (Elt F) ℓ) (ρ : Dev nD → PrngReg)

/-! ### The arrays and the tables at the start -/

/-- The arrays at the start. -/
abbrev arrs (c : Dev nD) (b : Ref sig .tc) : Buf (Elt F) ((c : Thread nD τ).loc b) := m ((c : Thread nD τ).loc b)

/-- The tables at the start. -/
def tabs : pre0.Contents (Elt F) := fun j => arrs m (0 : Dev nD) (pre0.ref j)

theorem arrs_tabs (c : Dev nD) (j : Fin 2) : arrs m c (pre0.ref j) = tabs m j := by
  obtain rfl : c = 0 := Subsingleton.elim _ _
  rfl

/-- Every expert named by the table is one of the experts. -/
abbrev InRange : Prop := ok0 (F := F) (tabs m)

abbrev adm (h : InRange m) : (pcfg0 (F := F)).Adm := ⟨tabs m, h⟩
abbrev cf (h : InRange m) : Pipeline.Cfg sig Λ₀ := cfg0 (adm m h)

theorem numPts (h : InRange m) : (cf m h).N = 182 := N_0

set_option maxHeartbeats 800000 in
theorem mainOf : Pipeline.HMainP (Ix := Unit) (Name := ℕ) (U := UR sig nD τ) (Lvl := ℕ) pcfgs 0 defs₀ Variants.none m (main (F := F)) (arrs m) :=
  Pipeline.hmainP_region pcfgs 0 defs₀ Variants.none m main fun c => (main_chain c).trans rfl

/-- The tables held for reading, one by one. -/
theorem tabs_held (c : Dev nD) :
    (Pipeline.ΦT pre0 (tabs m) c : sProp (MT nD τ sig Unit (Elt F) ℕ (UR sig nD τ) ℕ)) = iprop(held c tabE (tabs m 0) ∗ held c tabN (tabs m 1)) := by
  unfold Pipeline.ΦT Pipeline.prefHeld
  rw [show (Finset.univ : Finset (Fin 2)) = insert (0 : Fin 2) {(1 : Fin 2)} from by decide, bigSep_insert (by decide), bigSep_singleton]
  rfl

/-- The buffers of the weights. -/
abbrev bufG : Memref sig .tc .vmem S1024x512 .bf16 := Memref.whole cc0_scratch0
abbrev bufU : Memref sig .tc .vmem S1024x512 .bf16 := Memref.whole cc0_scratch1
abbrev bufD : Memref sig .tc .vmem S512x1024 .bf16 := Memref.whole cc0_scratch2

theorem bufs_any (c : Dev nD) :
    (Pipeline.ΦA spec0 c : sProp (MT nD τ sig Unit (Elt F) ℕ (UR sig nD τ) ℕ))
      = iprop(iprop((∃ d, owns (c : Thread nD τ) bufG fullShare d) ∗ (∃ d, owns (c : Thread nD τ) bufU fullShare d) ∗ (∃ d, owns (c : Thread nD τ) bufD fullShare d)) ∗ (∃ r, prngReg c r)) := by
  unfold Pipeline.ΦA; rw [scopedRest0_eq]; simp only [bufG, bufU, bufD, owns_whole]; try rfl

/-! ### The blocks of the windows -/

/-- The block of a window at a point, of the arrays at the start. -/
def blkAt (h : InRange m) (c : Dev nD) (w : Fin (cf m h).W) (t : Fin (cf m h).N) :
    (((cf m h).win w).xblock ((cf m h).grid.coords t)).Idx → Elt F ((cf m h).win w).elt :=
  (((cf m h).win w).blk t).view.read (Elt F) (arrs m c (Pipeline.arrRef spec0 w))

theorem found0 (h : InRange m) {c : Dev nD} (D : Dat τ (Elt F) Unit ℕ (UR sig nD τ) ℕ (cf m h) c) (hA : D.A 0 = arrs m c (Pipeline.arrRef spec0 0))
    (ha : ∀ t, D.after 0 t = blkAt m h c 0 t) (t : Fin (cf m h).N) (d) : D.before 0 t d = blkAt m h c 0 t :=
  (D.before_in_eq_fetched 0 rfl (fun _ => rfl) (fun _ _ _ => rfl) (fun t => by rw [ha]; unfold Dat.blockOf blkAt; rw [hA]; try rfl) t d).trans
    (by unfold Dat.fetched Dat.blockOf blkAt; rw [hA]; try rfl)
theorem found1 (h : InRange m) {c : Dev nD} (D : Dat τ (Elt F) Unit ℕ (UR sig nD τ) ℕ (cf m h) c) (hA : D.A 1 = arrs m c (Pipeline.arrRef spec0 1))
    (ha : ∀ t, D.after 1 t = blkAt m h c 1 t) (t : Fin (cf m h).N) (d) : D.before 1 t d = blkAt m h c 1 t :=
  (D.before_in_eq_fetched 1 rfl (fun _ => rfl) (fun _ _ _ => rfl) (fun t => by rw [ha]; unfold Dat.blockOf blkAt; rw [hA]; try rfl) t d).trans
    (by unfold Dat.fetched Dat.blockOf blkAt; rw [hA]; try rfl)
theorem found2 (h : InRange m) {c : Dev nD} (D : Dat τ (Elt F) Unit ℕ (UR sig nD τ) ℕ (cf m h) c) (hA : D.A 2 = arrs m c (Pipeline.arrRef spec0 2))
    (ha : ∀ t, D.after 2 t = blkAt m h c 2 t) (t : Fin (cf m h).N) (d) : D.before 2 t d = blkAt m h c 2 t :=
  (D.before_in_eq_fetched 2 rfl (fun _ => rfl) (fun _ _ _ => rfl) (fun t => by rw [ha]; unfold Dat.blockOf blkAt; rw [hA]; try rfl) t d).trans
    (by unfold Dat.fetched Dat.blockOf blkAt; rw [hA]; try rfl)
theorem found3 (h : InRange m) {c : Dev nD} (D : Dat τ (Elt F) Unit ℕ (UR sig nD τ) ℕ (cf m h) c) (hA : D.A 3 = arrs m c (Pipeline.arrRef spec0 3))
    (ha : ∀ t, D.after 3 t = blkAt m h c 3 t) (t : Fin (cf m h).N) (d) : D.before 3 t d = blkAt m h c 3 t :=
  (D.before_in_eq_fetched 3 rfl (fun _ => rfl) (fun _ _ _ => rfl) (fun t => by rw [ha]; unfold Dat.blockOf blkAt; rw [hA]; try rfl) t d).trans
    (by unfold Dat.fetched Dat.blockOf blkAt; rw [hA]; try rfl)

/-! ### Which expert a point has -/

/-- The expert of a point. -/
def expert (t : Fin grid0.N) : ℕ := (wordE (tabs m) (grid0.coords t)).toNat

theorem expert_lt (h : InRange m) (t : Fin grid0.N) : expert m t < 64 := by
  obtain ⟨q, -⟩ := h.1 (grid0.coords t)
  have := q 0
  change ((wordE (tabs m) (grid0.coords t)).toNat + 1) * 1 ≤ 64 at this
  unfold expert
  omega

/-- The matrix of an expert, as a block. -/
def wide (X : Vec F S64x1024x512 .f32) (e : ℕ) : Vec F S1x1024x512 .f32 := fun y => X (ix3 (⟨e % 64, Nat.mod_lt _ (by decide)⟩ : Fin 64) (y 1) (y 2))
def tall (X : Vec F S64x512x1024 .f32) (e : ℕ) : Vec F S1x512x1024 .f32 := fun y => X (ix3 (⟨e % 64, Nat.mod_lt _ (by decide)⟩ : Fin 64) (y 1) (y 2))

theorem blk1 (h : InRange m) (c : Dev nD) (t : Fin (cf m h).N) : blkAt m h c 1 t = wide (arrs m c main_arg3) (expert m t) := by
  have he := expert_lt m h t
  funext (y : S1x1024x512.Idx)
  refine congrArg (arrs m c main_arg3) (funext fun a => Fin.ext ?_)
  refine (((cf m h).win 1).rect_emb_val t y a).trans ?_
  match a with
  | ⟨0, _⟩ =>
    have : (y 0).val < 1 := (y 0).isLt
    show expert m t * 1 + (y 0).val = expert m t % 64
    omega
  | ⟨1, _⟩ => show 0 * 1024 + (y 1).val = (y 1).val; omega
  | ⟨2, _⟩ => show 0 * 512 + (y 2).val = (y 2).val; omega

theorem blk2 (h : InRange m) (c : Dev nD) (t : Fin (cf m h).N) : blkAt m h c 2 t = wide (arrs m c main_arg4) (expert m t) := by
  have he := expert_lt m h t
  funext (y : S1x1024x512.Idx)
  refine congrArg (arrs m c main_arg4) (funext fun a => Fin.ext ?_)
  refine (((cf m h).win 2).rect_emb_val t y a).trans ?_
  match a with
  | ⟨0, _⟩ =>
    have : (y 0).val < 1 := (y 0).isLt
    show expert m t * 1 + (y 0).val = expert m t % 64
    omega
  | ⟨1, _⟩ => show 0 * 1024 + (y 1).val = (y 1).val; omega
  | ⟨2, _⟩ => show 0 * 512 + (y 2).val = (y 2).val; omega

theorem blk3 (h : InRange m) (c : Dev nD) (t : Fin (cf m h).N) : blkAt m h c 3 t = tall (arrs m c main_arg5) (expert m t) := by
  have he := expert_lt m h t
  funext (y : S1x512x1024.Idx)
  refine congrArg (arrs m c main_arg5) (funext fun a => Fin.ext ?_)
  refine (((cf m h).win 3).rect_emb_val t y a).trans ?_
  match a with
  | ⟨0, _⟩ =>
    have : (y 0).val < 1 := (y 0).isLt
    show expert m t * 1 + (y 0).val = expert m t % 64
    omega
  | ⟨1, _⟩ => show 0 * 512 + (y 1).val = (y 1).val; omega
  | ⟨2, _⟩ => show 0 * 1024 + (y 2).val = (y 2).val; omega

theorem off_pred : ∀ t : Fin grid0.N, ∀ s : Fin grid0.N, t.val = s.val + 1 → k0_off2 (grid0.coords t) 0 = k0_off1 (grid0.coords s) 0 := by
  have key : ∀ s : Fin 181, k0_off2 (grid0.coords (⟨s.val + 1, by have := s.isLt; have := N_0; omega⟩ : Fin grid0.N)) 0
      = k0_off1 (grid0.coords (⟨s.val, by have := s.isLt; have := N_0; omega⟩ : Fin grid0.N)) 0 := by decide +kernel
  intro t s hts
  have hN : grid0.N = 182 := N_0
  have := key ⟨s.val, by have := t.isLt; omega⟩
  convert this using 3
  exact Fin.ext hts

theorem at_congr (pf : pre0.Contents (Elt F)) {o o' : Fin 1 → ℕ} (e : o = o') (hi : ∀ a, o a + S1.size a ≤ S182.size a) (hi' : ∀ a, o' a + S1.size a ≤ S182.size a) :
    pf.at 0 (Rect.unit (s := S182) o S1.size hi) numel1_S1 = pf.at 0 (Rect.unit (s := S182) o' S1.size hi') numel1_S1 := by
  subst e; rfl

/-- The expert's word of the point before. -/
theorem word_pred (pf : pre0.Contents (Elt F)) (t s : Fin grid0.N) (hts : t.val = s.val + 1) : wordP pf (grid0.coords t) = wordE pf (grid0.coords s) := by
  unfold wordP wordE
  refine at_congr pf ?_ _ _
  funext a
  obtain rfl : a = 0 := Subsingleton.elim _ _
  exact off_pred t s hts

/-- The first point loads weights. -/
theorem first_loads (t : Fin grid0.N) (ht : t.val = 0) (v w : BitVec 32) : condF (grid0.coords t) v w = 1#1 := by
  have e : (grid0.coords t 0).val = t.val / 1 % 182 := Pipeline.Grid.coords_val t 0 (by decide) rfl
  unfold condF
  rw [e, ht]
  generalize Scalar.cmpi .ne v w = b
  revert b; decide

/-- A point that loads no weights has the expert of the point before. -/
theorem same_expert (t s : Fin grid0.N) (hts : t.val = s.val + 1)
    (hk : ¬ condF (grid0.coords t) (wordE (tabs m) (grid0.coords t)) (wordP (tabs m) (grid0.coords t)) = 1#1) : expert m s = expert m t := by
  have := keeps _ _ _ hk
  rw [word_pred _ t s hts] at this
  unfold expert
  rw [this]

/-! ### What a point leaves -/

/-- The block a point writes. -/
def wrote (h : InRange m) (c : Dev nD) (t : Fin (cf m h).N) : Vec F S1024x1024 .bf16 :=
  if k0_cond2 (grid0.coords t) (wordN (tabs m)) = 1#1 then
    tileOut (blkAt m h c 0 t) (k0_pay1 (blkAt m h c 1 t)) (k0_pay2 (blkAt m h c 2 t)) (k0_pay3 (blkAt m h c 3 t))
  else k0_pay4

/-- Between points: before the first the weights held are anything, after a point they are its expert's. -/
def between (h : InRange m) (c : Dev nD) : (n : ℕ) → n ≤ (cf m h).N → sProp (MT nD τ sig Unit (Elt F) ℕ (UR sig nD τ) ℕ)
  | 0, _ => iprop(Pipeline.ΦA spec0 c ∗ Pipeline.ΦT pre0 (tabs m) c)
  | n + 1, hn => iprop(iprop(iprop(owns (c : Thread nD τ) bufG fullShare (k0_pay1 (blkAt m h c 1 ⟨n, hn⟩)) ∗ owns (c : Thread nD τ) bufU fullShare (k0_pay2 (blkAt m h c 2 ⟨n, hn⟩)) ∗ owns (c : Thread nD τ) bufD fullShare (k0_pay3 (blkAt m h c 3 ⟨n, hn⟩)))
      ∗ (∃ r, prngReg c r)) ∗ Pipeline.ΦT pre0 (tabs m) c)

/-- The run, described: each input window keeps its block, the output window takes what the point writes. -/
def plan (h : InRange m) (_ : Fin 1) (c : Dev nD) : Dat τ (Elt F) Unit ℕ (UR sig nD τ) ℕ (cf m h) c where
  A w := arrs m c (Pipeline.arrRef spec0 w)
  after w t := match w with
    | ⟨0, _⟩ => blkAt m h c 0 t
    | ⟨1, _⟩ => blkAt m h c 1 t
    | ⟨2, _⟩ => blkAt m h c 2 t
    | ⟨3, _⟩ => blkAt m h c 3 t
    | ⟨4, _⟩ => wrote m h c t
  Φ t := between m h c t.val (Nat.le_of_lt_succ t.isLt)
  q _ := fullShare
  owed _ := 0

theorem plan_A (h : InRange m) (c : Dev nD) (w : Fin (cf m h).W) : (plan m h 0 c).A w = arrs m c (Pipeline.arrRef spec0 w) := by
  dsimp only [plan]

theorem plan_start (h : InRange m) (c : Dev nD) (t : Fin (cf m h).N) :
    (plan m h 0 c).Φ t.castSucc = between m h c t.val (Nat.le_of_lt t.isLt) := by
  dsimp only [plan]; exact Pipeline.Dat.Φ_castSucc (between m h c) t

theorem after0 (h : InRange m) (c : Dev nD) (t : Fin (cf m h).N) : (plan m h 0 c).after 0 t = blkAt m h c 0 t := by dsimp only [plan]; try rfl
theorem after1 (h : InRange m) (c : Dev nD) (t : Fin (cf m h).N) : (plan m h 0 c).after 1 t = blkAt m h c 1 t := by dsimp only [plan]; try rfl
theorem after2 (h : InRange m) (c : Dev nD) (t : Fin (cf m h).N) : (plan m h 0 c).after 2 t = blkAt m h c 2 t := by dsimp only [plan]; try rfl
theorem after3 (h : InRange m) (c : Dev nD) (t : Fin (cf m h).N) : (plan m h 0 c).after 3 t = blkAt m h c 3 t := by dsimp only [plan]; try rfl
theorem after4 (h : InRange m) (c : Dev nD) (t : Fin (cf m h).N) : (plan m h 0 c).after 4 t = wrote m h c t := by dsimp only [plan]; try rfl

theorem before0 (h : InRange m) (c : Dev nD) (t : Fin (cf m h).N) (d) : (plan m h 0 c).before 0 t d = blkAt m h c 0 t := found0 m h (plan m h 0 c) (plan_A m h c 0) (after0 m h c) t d
theorem before1 (h : InRange m) (c : Dev nD) (t : Fin (cf m h).N) (d) : (plan m h 0 c).before 1 t d = blkAt m h c 1 t := found1 m h (plan m h 0 c) (plan_A m h c 1) (after1 m h c) t d
theorem before2 (h : InRange m) (c : Dev nD) (t : Fin (cf m h).N) (d) : (plan m h 0 c).before 2 t d = blkAt m h c 2 t := found2 m h (plan m h 0 c) (plan_A m h c 2) (after2 m h c) t d
theorem before3 (h : InRange m) (c : Dev nD) (t : Fin (cf m h).N) (d) : (plan m h 0 c).before 3 t d = blkAt m h c 3 t := found3 m h (plan m h 0 c) (plan_A m h c 3) (after3 m h c) t d

/-- The output window is written at every point. -/
theorem written (h : InRange m) (i : grid0.Coords) : (cf m h).idle 4 i = false := by
  show (!(k0_cond2 i ((tabs m).atD 1 ![0]) == 1#1) && !(k0_cond3 i ((tabs m).atD 1 ![0]) == 1#1)) = false
  have := cond_opp i ((tabs m).atD 1 ![0])
  by_cases h2 : k0_cond2 i ((tabs m).atD 1 ![0]) = 1#1
  · rw [h2]; rfl
  · rw [this.2 h2]; simp

/-! ### One point -/

/-- The buffers of a point's windows. -/
abbrev st0 (h : InRange m) (t : Fin (cf m h).N) : Memref sig .tc .vmem S1024x640 .i32 := spec0_0.stage ((cf m h).slots t 0)
abbrev st1 (h : InRange m) (t : Fin (cf m h).N) : Memref sig .tc .vmem S1x1024x512 .f32 := spec0_1.stage ((cf m h).slots t 1)
abbrev st2 (h : InRange m) (t : Fin (cf m h).N) : Memref sig .tc .vmem S1x1024x512 .f32 := spec0_2.stage ((cf m h).slots t 2)
abbrev st3 (h : InRange m) (t : Fin (cf m h).N) : Memref sig .tc .vmem S1x512x1024 .f32 := spec0_3.stage ((cf m h).slots t 3)
abbrev st4 (h : InRange m) (t : Fin (cf m h).N) : Memref sig .tc .vmem S1024x1024 .bf16 := spec0_4.stage ((cf m h).slots t 4)

/-- The program of a point. -/
abbrev pointProg (h : InRange m) (t : Fin (cf m h).N) : Prog (TpuEff nD τ sig (Elt F) Λ₀ .tc) PUnit :=
  cc0_moe_grouped (grid0.coords t) tabE (Memref.isWhole_whole _) tabN (Memref.isWhole_whole _) (st0 m h t) (hstage0_0 (((cf m h).slots t 0).cast nbuf0_0))
    (st1 m h t) (hstage0_1 (((cf m h).slots t 1).cast nbuf0_1)) (st2 m h t) (hstage0_2 (((cf m h).slots t 2).cast nbuf0_2)) (st3 m h t) (hstage0_3 (((cf m h).slots t 3).cast nbuf0_3))
    (st4 m h t) (hstage0_4 (((cf m h).slots t 4).cast nbuf0_4)) bufG (Memref.isWhole_whole _) bufU (Memref.isWhole_whole _) bufD (Memref.isWhole_whole _)

def pointPre (h : InRange m) (c : Dev nD) (t : Fin (cf m h).N) : sProp (MT nD τ sig Unit (Elt F) ℕ (UR sig nD τ) ℕ) :=
  iprop((plan m h 0 c).Φ t.castSucc ∗ (plan m h 0 c).owesAt () t.castSucc
    ∗ (∃ d, owns (c : Thread nD τ) (st0 m h t) fullShare ((plan m h 0 c).before 0 t d))
    ∗ (∃ d, owns (c : Thread nD τ) (st1 m h t) fullShare ((plan m h 0 c).before 1 t d))
    ∗ (∃ d, owns (c : Thread nD τ) (st2 m h t) fullShare ((plan m h 0 c).before 2 t d))
    ∗ (∃ d, owns (c : Thread nD τ) (st3 m h t) fullShare ((plan m h 0 c).before 3 t d))
    ∗ (∃ d, owns (c : Thread nD τ) (st4 m h t) fullShare ((plan m h 0 c).before 4 t d)))

def pointPost (h : InRange m) (c : Dev nD) (t : Fin (cf m h).N) : sProp (MT nD τ sig Unit (Elt F) ℕ (UR sig nD τ) ℕ) :=
  iprop((plan m h 0 c).Φ t.succ ∗ (plan m h 0 c).owesAt () t.succ
    ∗ owns (c : Thread nD τ) (st0 m h t) fullShare ((plan m h 0 c).after 0 t)
    ∗ owns (c : Thread nD τ) (st1 m h t) fullShare ((plan m h 0 c).after 1 t)
    ∗ owns (c : Thread nD τ) (st2 m h t) fullShare ((plan m h 0 c).after 2 t)
    ∗ owns (c : Thread nD τ) (st3 m h t) fullShare ((plan m h 0 c).after 3 t)
    ∗ owns (c : Thread nD τ) (st4 m h t) fullShare ((plan m h 0 c).after 4 t))

/-- The weights at the start of a point: at some contents, which are its expert's if it loads none. -/
theorem carried (h : InRange m) (c : Dev nD) (t : Fin (cf m h).N) :
    between m h c t.val (Nat.le_of_lt t.isLt) ⊢ (iprop(∃ s0 s1 s2, ⌜¬ condF (grid0.coords t) (wordE (tabs m) (grid0.coords t)) (wordP (tabs m) (grid0.coords t)) = 1#1 →
          s0 = k0_pay1 (blkAt m h c 1 t) ∧ s1 = k0_pay2 (blkAt m h c 2 t) ∧ s2 = k0_pay3 (blkAt m h c 3 t)⌝
        ∗ owns (c : Thread nD τ) bufG fullShare s0 ∗ owns (c : Thread nD τ) bufU fullShare s1 ∗ owns (c : Thread nD τ) bufD fullShare s2
        ∗ (∃ r, prngReg c r) ∗ held c tabE (tabs m 0) ∗ held c tabN (tabs m 1)) : sProp (MT nD τ sig Unit (Elt F) ℕ (UR sig nD τ) ℕ)) := by
  obtain ⟨n, hn⟩ := t
  cases n with
  | zero =>
    show iprop(Pipeline.ΦA spec0 c ∗ Pipeline.ΦT pre0 (tabs m) c) ⊢ _
    rw [bufs_any, tabs_held]
    iintro ⟨⟨⟨⟨%s0, S0⟩, ⟨%s1, S1⟩, ⟨%s2, S2⟩⟩, Hg⟩, T0, T1⟩
    iexists s0, s1, s2
    isplitr
    · ipureintro; exact fun hk => absurd (first_loads _ rfl _ _) hk
    isplitl [S0]; · iexact S0
    isplitl [S1]; · iexact S1
    isplitl [S2]; · iexact S2
    isplitl [Hg]; · iexact Hg
    isplitl [T0]; · iexact T0
    iexact T1
  | succ n =>
    have key : ¬ condF (grid0.coords ⟨n + 1, hn⟩) (wordE (tabs m) (grid0.coords ⟨n + 1, hn⟩)) (wordP (tabs m) (grid0.coords ⟨n + 1, hn⟩)) = 1#1 →
        k0_pay1 (blkAt m h c 1 ⟨n, Nat.lt_of_succ_lt hn⟩) = k0_pay1 (blkAt m h c 1 ⟨n + 1, hn⟩) ∧ k0_pay2 (blkAt m h c 2 ⟨n, Nat.lt_of_succ_lt hn⟩) = k0_pay2 (blkAt m h c 2 ⟨n + 1, hn⟩)
          ∧ k0_pay3 (blkAt m h c 3 ⟨n, Nat.lt_of_succ_lt hn⟩) = k0_pay3 (blkAt m h c 3 ⟨n + 1, hn⟩) := by
      intro hk
      have he := same_expert m ⟨n + 1, hn⟩ ⟨n, Nat.lt_of_succ_lt hn⟩ rfl hk
      refine ⟨congrArg k0_pay1 ?_, congrArg k0_pay2 ?_, congrArg k0_pay3 ?_⟩
      · rw [blk1, blk1, he]
      · rw [blk2, blk2, he]
      · rw [blk3, blk3, he]
    show iprop(iprop(iprop(owns (c : Thread nD τ) bufG fullShare (k0_pay1 (blkAt m h c 1 ⟨n, _⟩)) ∗ owns (c : Thread nD τ) bufU fullShare (k0_pay2 (blkAt m h c 2 ⟨n, _⟩)) ∗ owns (c : Thread nD τ) bufD fullShare (k0_pay3 (blkAt m h c 3 ⟨n, _⟩)))
      ∗ (∃ r, prngReg c r)) ∗ Pipeline.ΦT pre0 (tabs m) c) ⊢ _
    rw [tabs_held]
    iintro ⟨⟨⟨S0, S1, S2⟩, Hg⟩, T0, T1⟩
    iexists _, _, _
    isplitr
    · ipureintro; exact key
    isplitl [S0]; · iexact S0
    isplitl [S1]; · iexact S1
    isplitl [S2]; · iexact S2
    isplitl [Hg]; · iexact Hg
    isplitl [T0]; · iexact T0
    iexact T1

set_option maxHeartbeats 3200000 in
/-- The program of a point does what the plan says. -/
theorem point (h : InRange m) (c : Dev nD) (t : Fin (cf m h).N) :
    pointPre m h c t ⊢ wp frame (wpE (defs₀ (F := F)) Variants.none c none) Set.univ (pointProg m h t) (fun _ => pointPost m h c t) := by
  unfold pointPre pointPost
  simp only [before0, before1, before2, before3]
  rw [show (plan m h 0 c).owesAt () t.succ = (plan m h 0 c).owesAt () t.castSucc from rfl, after0, after1, after2, after3, after4]
  rw [show (plan m h 0 c).Φ t.succ = iprop(iprop(iprop(owns (c : Thread nD τ) bufG fullShare (k0_pay1 (blkAt m h c 1 t)) ∗ owns (c : Thread nD τ) bufU fullShare (k0_pay2 (blkAt m h c 2 t)) ∗ owns (c : Thread nD τ) bufD fullShare (k0_pay3 (blkAt m h c 3 t)))
      ∗ (∃ r, prngReg c r)) ∗ Pipeline.ΦT pre0 (tabs m) c) from rfl, plan_start, tabs_held]
  iintro ⟨HB, Ho, ⟨%d0, H0⟩, ⟨%d1, H1⟩, ⟨%d2, H2⟩, ⟨%d3, H3⟩, ⟨%d4, H4⟩⟩
  ihave HB := (carried m h c t) $$ HB
  icases HB with ⟨%s0, %s1, %s2, %hk, S0, S1, S2, Hg, T0, T1⟩
  iapply (body c (grid0.coords t) _ _ _ _ _ _ _ _ _ _ _ _ _ _ _ _ (blkAt m h c 0 t) (blkAt m h c 1 t) (blkAt m h c 2 t) (blkAt m h c 3 t) s0 s1 s2 (tabs m) hk Set.univ _)
  isplitl [H0]; · iexact H0
  isplitl [H1]; · iexact H1
  isplitl [H2]; · iexact H2
  isplitl [H3]; · iexact H3
  isplitl [H4]; · iexists _; iexact H4
  isplitl [S0]; · iexact S0
  isplitl [S1]; · iexact S1
  isplitl [S2]; · iexact S2
  isplitl [T0]; · iexact T0
  isplitl [T1]; · iexact T1
  iintro ⟨H0, H1, H2, H3, H4, S0, S1, S2, T0, T1⟩
  isplitl [S0 S1 S2 Hg T0 T1]
  · isplitl [S0 S1 S2 Hg]
    · isplitl [S0 S1 S2]
      · isplitl [S0]; · iexact S0
        isplitl [S1]; · iexact S1
        iexact S2
      iexact Hg
    isplitl [T0]; · iexact T0
    iexact T1
  isplitl [Ho]; · iexact Ho
  isplitl [H0]; · iexact H0
  isplitl [H1]; · iexact H1
  isplitl [H2]; · iexact H2
  isplitl [H3]; · iexact H3
  iexact H4

theorem prog_eq (h : InRange m) (t : Fin (cf m h).N) :
    defs₀ (F := F) .tc (cf m h).body ((cf m h).bodyArgs t ((cf m h).slots t)) = pointProg m h t := by
  unfold defs₀; rw [Defs.onTc_tc]

theorem points (h : InRange m) (c : Dev nD) : BodyObligation (plan (F := F) m h 0 c) (defs₀ (F := F)) Variants.none () Set.univ := fun t => by
  rw [bigSep_W0, bigSep_W0, prog_eq m h]
  refine triple_restated (point m h c t) rfl .rfl fun _ => ?_
  rw [written m h]
  exact .rfl

theorem enters (h : InRange m) (c : Dev nD) : iprop(Pipeline.ΦA spec0 c ∗ Pipeline.ΦT pre0 (tabs m) c) ⊢ (plan m h 0 c).Φ 0 :=
  Idealize.SL.BI.Entails.refl _

theorem leaves (h : InRange m) (c : Dev nD) : (plan m h 0 c).Φ (Fin.last (cf m h).N) ⊢ Pipeline.ΦA spec0 c := by
  have hb : ∀ (n : ℕ) (hn : n ≤ (cf m h).N), n ≠ 0 → between m h c n hn ⊢ (Pipeline.ΦA spec0 c : sProp (MT nD τ sig Unit (Elt F) ℕ (UR sig nD τ) ℕ)) := by
    intro n hn h0
    cases n with
    | zero => exact absurd rfl h0
    | succ n =>
      rw [bufs_any]
      unfold between
      iintro ⟨⟨⟨S0, S1, S2⟩, Hg⟩, -⟩
      isplitl [S0 S1 S2]
      · isplitl [S0]
        · iexists _; iexact S0
        isplitl [S1]
        · iexists _; iexact S1
        iexists _; iexact S2
      iexact Hg
  exact hb (cf m h).N le_rfl (by have := numPts m h; omega)

/-! ### The run -/

set_option backward.isDefEq.respectTransparency.types false in
theorem launched (h : InRange m) : θ_run defs (onTc (τ := τ) (main (F := F))) (s₀ m ρ) (fun r => (Pipeline.FramePost (Pipeline.pin pcfgs fun _ => adm m h) (plan m h) 0 (arrs m)) r ∧ r.2.sem = fun _ => 0) :=
  Pipeline.θ_run_frameP_track (Q' := _) pcfgs (fun _ => adm m h) (plan m h) (0 : Fin 1) launch0 defs₀ Variants.none m ρ main
    (hbody := fun c => (points m h c).loose) (hshare := fun c => (plan m h 0 c).share_full fun _ => rfl)
    (howed := fun _ _ => rfl) (V := arrs m) (hmain := mainOf m) (hA := plan_A m h) (hpf := arrs_tabs m)
    (hin := enters m h) (hout := leaves m h)

/-- The run ends with every semaphore at zero, every argument as it was, and the results at what the points wrote. -/
theorem ran (h : InRange m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)
      ∧ ∀ c : Dev nD, r.2.mem ((c.tc : Thread nD τ).loc main_v0) = (plan m h 0 c).arrAt 4 (cf m h).N) :=
  (θ_run defs _ _).mono (fun r q => ⟨⟨fun c =>
    ⟨(q.1 c).2 main_arg0 (by decide : main_arg0 ∈ Pipeline.restRefs sig spec0),
     (q.1 c).2 main_arg1 (by decide : main_arg1 ∈ Pipeline.restRefs sig spec0),
     ((q.1 c).1 0).trans (((plan m h 0 c).arrAt_in 0 rfl _).trans (plan_A m h c 0)),
     ((q.1 c).1 1).trans (((plan m h 0 c).arrAt_in 1 rfl _).trans (plan_A m h c 1)),
     ((q.1 c).1 2).trans (((plan m h 0 c).arrAt_in 2 rfl _).trans (plan_A m h c 2)),
     ((q.1 c).1 3).trans (((plan m h 0 c).arrAt_in 3 rfl _).trans (plan_A m h c 3))⟩, q.2⟩,
    fun c => (q.1 c).1 4⟩) (launched m ρ h)

/-- Where every tile's expert is one of the 64, each of its matrices' blocks lies in its array. -/
theorem inRange (hte : ∀ x : S182.Idx, ((m (((0 : Dev nD).tc : Thread nD τ).loc main_arg0) : IVec S182 32) x).toNat < 64) : InRange m := by
  have hw : ∀ i, (wordE (tabs m) i).toNat < 64 := fun i => hte _
  refine ⟨fun i => ⟨fun (a : Fin 3) => ?_, .inl rfl⟩, fun i => ⟨fun (a : Fin 3) => ?_, .inl rfl⟩, fun i => ⟨fun (a : Fin 3) => ?_, .inl rfl⟩⟩
  · match a with
    | ⟨0, _⟩ => show ((wordE (tabs m) i).toNat + 1) * 1 ≤ 64; have := hw i; omega
    | ⟨1, _⟩ => show (0 + 1) * 1024 ≤ 1024; omega
    | ⟨2, _⟩ => show (0 + 1) * 512 ≤ 512; omega
  · match a with
    | ⟨0, _⟩ => show ((wordE (tabs m) i).toNat + 1) * 1 ≤ 64; have := hw i; omega
    | ⟨1, _⟩ => show (0 + 1) * 1024 ≤ 1024; omega
    | ⟨2, _⟩ => show (0 + 1) * 512 ≤ 512; omega
  · match a with
    | ⟨0, _⟩ => show ((wordE (tabs m) i).toNat + 1) * 1 ≤ 64; have := hw i; omega
    | ⟨1, _⟩ => show (0 + 1) * 512 ≤ 512; omega
    | ⟨2, _⟩ => show (0 + 1) * 1024 ≤ 1024; omega

end Cert.Kernel2Ideal.Moe

end
-- ==== Proof.MoeTile.lean ====
/- One tile of the grouped experts: its block, entry by entry. -/
module

public import proofs.«01_k».proof.Proof.MoeRun
public import Idealize.ShloMosaic.Lib.Pointwise
public import Idealize.ShloMosaic.Lib.Pipeline.ValueKit

@[expose] public section

set_option maxRecDepth 16384

noncomputable section

namespace Cert.Moe

open Idealize.ShloMosaic Cert.Kernel2Ideal Cert.Kernel2Ideal.Gen

/-- A gate through its logistic. -/
def swish (g : EReal) : EReal := g * Ideal.div 1 (1 + Ideal.exp (-g))

theorem pay1_at (x : Vec Ideal S1x1024x512 .f32) (d : Fin 1024) (f : Fin 512) : k0_pay1 x (ix2 d f) = x (ix3 0 d f) := by
  pointwise [k0_pay1]
theorem pay2_at (x : Vec Ideal S1x1024x512 .f32) (d : Fin 1024) (f : Fin 512) : k0_pay2 x (ix2 d f) = x (ix3 0 d f) := by
  pointwise [k0_pay2]
theorem pay3_at (x : Vec Ideal S1x512x1024 .f32) (f : Fin 512) (k : Fin 1024) : k0_pay3 x (ix2 f k) = x (ix3 0 f k) := by
  pointwise [k0_pay3]
theorem pay4_at (r k : Fin 1024) : k0_pay4 (F := Ideal) (ix2 r k) = 0 := by
  pointwise [k0_pay4]

/-- The value of the lower half of a word. -/
def lowOf (w : BitVec 32) : EReal := (FloatOps.ofBits .f32 (w <<< 16#32) : Ideal .f32)
/-- The value of the upper half of a word. -/
def highOf (w : BitVec 32) : EReal := (FloatOps.ofBits .f32 (w &&& 4294901760#32) : Ideal .f32)
/-- The value of a word. -/
def valueOf (w : BitVec 32) : EReal := (FloatOps.ofBits .f32 w : Ideal .f32)

/-- An entry of a row of words: the lower halves of the first 512 words, then their upper halves. -/
def entry (row : Fin 640 → BitVec 32) (d : Fin 1024) : EReal :=
  if h : d.val < 512 then lowOf (row ⟨d.val, by omega⟩) else highOf (row ⟨d.val - 512, by omega⟩)

theorem entry_low (row : Fin 640 → BitVec 32) (d : Fin 512) : entry row ⟨d.val, by omega⟩ = lowOf (row ⟨d.val, by omega⟩) := dif_pos d.isLt

theorem entry_high (row : Fin 640 → BitVec 32) (d : Fin 512) : entry row ⟨512 + d.val, by omega⟩ = highOf (row ⟨d.val, by omega⟩) := by
  unfold entry
  rw [dif_neg (by show ¬ 512 + d.val < 512; omega)]
  exact congrArg (fun z => highOf (row z)) (Fin.ext (Nat.add_sub_cancel_left 512 d.val))

theorem shift_low (u : ArithUnit) (w : BitVec 32) : IntOp.shli u w 16#32 = w <<< 16#32 := if_pos (by decide)

theorem pay5_at (x0 : Vec Ideal S1024x512 .i32) (g : Vec Ideal S1024x1 .i32) (a0 a1 b0 b1 : Vec Ideal S512x512 .bf16) (w : Vec Ideal S512x1024 .bf16) (r k : Fin 1024) :
    k0_pay5 x0 g a0 a1 b0 b1 w (ix2 r k)
      = (∑ f : Fin 512, swish ((∑ d, lowOf (x0 (ix2 r d)) * a0 (ix2 d f)) + ∑ d, highOf (x0 (ix2 r d)) * a1 (ix2 d f))
          * ((∑ d, lowOf (x0 (ix2 r d)) * b0 (ix2 d f)) + ∑ d, highOf (x0 (ix2 r d)) * b1 (ix2 d f)) * w (ix2 f k)) * valueOf (g (ix2 r 0)) := by
  pointwise [k0_pay5]
  simp only [zero_sub, shift_low]
  rfl

/-- A sum over 1024 is the sum over the first half and over the second. -/
theorem halves (h : Fin 1024 → EReal) : (∑ d : Fin 512, h ⟨d.val, by omega⟩) + (∑ d : Fin 512, h ⟨512 + d.val, by omega⟩) = ∑ d, h d :=
  (Fin.sum_univ_add (a := 512) (b := 512) h).symm

theorem part_at {α : Type} {A B a b : ℕ} (x : (⟨2, ![A, B]⟩ : Shape).Idx → α) (o p : ℕ) (inb : ∀ z, (![o, p] : Fin 2 → ℕ) z + (![a, b] : Fin 2 → ℕ) z ≤ (![A, B] : Fin 2 → ℕ) z)
    (r : Fin a) (k : Fin b) (r' : Fin A) (k' : Fin B) (hr : o + r.val = r'.val) (hk : p + k.val = k'.val) :
    x ((Rect.unit (s := ⟨2, ![A, B]⟩) ![o, p] ![a, b] inb).emb (ix2 r k)) = x (ix2 r' k') := by
  refine congrArg x (funext fun z => Fin.ext ((ValueKit.rect_emb_unit_val _ _ inb (ix2 r k) z).trans ?_))
  match z with
  | ⟨0, _⟩ => exact hr
  | ⟨1, _⟩ => exact hk

/-- A row of a tile in use. -/
def tileRow (x : Fin 1024 → EReal) (wg wu : Fin 1024 → Fin 512 → EReal) (wd : Fin 512 → Fin 1024 → EReal) (gate : EReal) (k : Fin 1024) : EReal :=
  (∑ f : Fin 512, swish (∑ d, x d * wg d f) * (∑ d, x d * wu d f) * wd f k) * gate

open Cert.Kernel2Ideal.Moe in
theorem tile_at (x0 : Vec Ideal S1024x640 .i32) (w0 w1 : Vec Ideal S1x1024x512 .f32) (w2 : Vec Ideal S1x512x1024 .f32) (r k : Fin 1024) :
    tileOut x0 (k0_pay1 w0) (k0_pay2 w1) (k0_pay3 w2) (ix2 r k)
      = tileRow (entry fun d => x0 (ix2 r d)) (fun d f => w0 (ix3 0 d f)) (fun d f => w1 (ix3 0 d f)) (fun f k => w2 (ix3 0 f k)) (valueOf (x0 (ix2 r 512))) k := by
  have a0 : ∀ d : Fin 512, View.ld x0 (Rect.unit (s := S1024x640) ![0, 0] S1024x512.size inb_S1024x640_S1024x512_0_0) (ix2 r d) = x0 (ix2 r ⟨d.val, by omega⟩) := fun d =>
    part_at x0 0 0 inb_S1024x640_S1024x512_0_0 r d _ _ (Nat.zero_add _) (Nat.zero_add _)
  have g0 : View.ld x0 (Rect.unit (s := S1024x640) ![0, 512] S1024x1.size inb_S1024x640_S1024x1_0_512) (ix2 r 0) = x0 (ix2 r 512) :=
    part_at x0 0 512 inb_S1024x640_S1024x1_0_512 r 0 _ _ (Nat.zero_add _) rfl
  have al : ∀ d : Fin 512, lowOf (View.ld x0 (Rect.unit (s := S1024x640) ![0, 0] S1024x512.size inb_S1024x640_S1024x512_0_0) (ix2 r d))
      = entry (fun d => x0 (ix2 r d)) ⟨d.val, by omega⟩ := fun d => (congrArg lowOf (a0 d)).trans (entry_low (fun d => x0 (ix2 r d)) d).symm
  have ah : ∀ d : Fin 512, highOf (View.ld x0 (Rect.unit (s := S1024x640) ![0, 0] S1024x512.size inb_S1024x640_S1024x512_0_0) (ix2 r d))
      = entry (fun d => x0 (ix2 r d)) ⟨512 + d.val, by omega⟩ := fun d => (congrArg highOf (a0 d)).trans (entry_high (fun d => x0 (ix2 r d)) d).symm
  have b0 : ∀ (w : Vec Ideal S1024x512 .bf16) (d f : Fin 512), View.ld w (Rect.unit (s := S1024x512) ![0, 0] S512x512.size inb_S1024x512_S512x512_0_0) (ix2 d f) = w (ix2 ⟨d.val, by omega⟩ f) := fun w d f =>
    part_at w 0 0 inb_S1024x512_S512x512_0_0 d f _ _ (Nat.zero_add _) (Nat.zero_add _)
  have b1 : ∀ (w : Vec Ideal S1024x512 .bf16) (d f : Fin 512), View.ld w (Rect.unit (s := S1024x512) ![512, 0] S512x512.size inb_S1024x512_S512x512_512_0) (ix2 d f) = w (ix2 ⟨512 + d.val, by omega⟩ f) := fun w d f =>
    part_at w 512 0 inb_S1024x512_S512x512_512_0 d f _ _ rfl (Nat.zero_add _)
  unfold tileOut tileRow
  refine (pay5_at _ _ _ _ _ _ _ r k).trans ?_
  refine congrArg₂ (· * ·) (Finset.sum_congr rfl fun f _ => congrArg₂ (· * ·) (congrArg₂ (fun a b => swish a * b) ?_ ?_) (pay3_at w2 f k)) (congrArg valueOf g0)
  · exact (congrArg₂ (· + ·) (Finset.sum_congr rfl fun d _ => congrArg₂ (· * ·) (al d) ((b0 _ d f).trans (pay1_at w0 _ f)))
      (Finset.sum_congr rfl fun d _ => congrArg₂ (· * ·) (ah d) ((b1 _ d f).trans (pay1_at w0 _ f)))).trans (halves fun d => entry (fun d => x0 (ix2 r d)) d * w0 (ix3 0 d f))
  · exact (congrArg₂ (· + ·) (Finset.sum_congr rfl fun d _ => congrArg₂ (· * ·) (al d) ((b0 _ d f).trans (pay2_at w1 _ f)))
      (Finset.sum_congr rfl fun d _ => congrArg₂ (· * ·) (ah d) ((b1 _ d f).trans (pay2_at w1 _ f)))).trans (halves fun d => entry (fun d => x0 (ix2 r d)) d * w1 (ix3 0 d f))

end Cert.Moe

end
-- ==== Proof.MoeArray.lean ====
/- The grouped experts' output array after the run. -/
module

public import proofs.«01_k».proof.Proof.MoeTile
public import Idealize.ShloMosaic.Lib.Pipeline.Covers

@[expose] public section

set_option maxRecDepth 16384

noncomputable section

namespace Cert.Moe

open Idealize.ShloMosaic Idealize.ShloMosaic.TcCoe Cert.Kernel2Ideal Cert.Kernel2Ideal.Gen Cert.Kernel2Ideal.Moe

/-- A tile is in use when its number is below the count. -/
def inUse (nt : IVec ⟨1, ![1]⟩ 32) (n : ℕ) : Prop := (BitVec.ofNat 32 n).slt (nt (ix1 0)) = true

instance (nt : IVec ⟨1, ![1]⟩ 32) (n : ℕ) : Decidable (inUse nt n) := inferInstanceAs (Decidable (_ = true))

/-- The expert of a tile. -/
def expertOf (te : IVec ⟨1, ![182]⟩ 32) (n : Fin 182) : Fin 64 := ⟨(te (ix1 n)).toNat % 64, Nat.mod_lt _ (by decide)⟩

/-- A row's tile. -/
def tileOf (r : Fin 186368) : Fin 182 := ⟨r.val / 1024, by omega⟩

/-- The grouped experts: each row, read from its words, through its tile's expert, times its gate; nothing past the tiles in use. -/
def experts (te : IVec ⟨1, ![182]⟩ 32) (nt : IVec ⟨1, ![1]⟩ 32) (xs : IVec ⟨2, ![186368, 640]⟩ 32)
    (wg wu : FVec Ideal ⟨3, ![64, 1024, 512]⟩ .f32) (wd : FVec Ideal ⟨3, ![64, 512, 1024]⟩ .f32) (r : Fin 186368) (k : Fin 1024) : EReal :=
  if inUse nt (r.val / 1024) then
    tileRow (entry fun d => xs (ix2 r d)) (fun d f => wg (ix3 (expertOf te (tileOf r)) d f)) (fun d f => wu (ix3 (expertOf te (tileOf r)) d f))
      (fun f k => wd (ix3 (expertOf te (tileOf r)) f k)) (valueOf (xs (ix2 r 512))) k
  else 0

variable (m : (ℓ : Loc nD τ sig) → Buf (Elt Ideal) ℓ)

abbrev te0 (c : Dev nD) : IVec ⟨1, ![182]⟩ 32 := m ((c.tc : Thread nD τ).loc main_arg0)
abbrev nt0 (c : Dev nD) : IVec ⟨1, ![1]⟩ 32 := m ((c.tc : Thread nD τ).loc main_arg1)
abbrev xs0 (c : Dev nD) : IVec ⟨2, ![186368, 640]⟩ 32 := m ((c.tc : Thread nD τ).loc main_arg2)
abbrev wg0 (c : Dev nD) : FVec Ideal ⟨3, ![64, 1024, 512]⟩ .f32 := m ((c.tc : Thread nD τ).loc main_arg3)
abbrev wu0 (c : Dev nD) : FVec Ideal ⟨3, ![64, 1024, 512]⟩ .f32 := m ((c.tc : Thread nD τ).loc main_arg4)
abbrev wd0 (c : Dev nD) : FVec Ideal ⟨3, ![64, 512, 1024]⟩ .f32 := m ((c.tc : Thread nD τ).loc main_arg5)

theorem pos (t : Fin grid0.N) : t.val < 182 := lt_of_lt_of_eq t.isLt N_0

theorem coord (t : Fin grid0.N) : (grid0.coords t 0).val = t.val := by
  have e : (grid0.coords t 0).val = t.val / 1 % 182 := Pipeline.Grid.coords_val t 0 (by decide) rfl
  have := pos t
  omega

/-- A point's row of blocks is its own. -/
theorem coord_word (t : Fin grid0.N) : (BitVec.ofNat 32 (grid0.coords t 0).val).toNat = t.val := by
  rw [coord, BitVec.toNat_ofNat]
  have := pos t
  omega

theorem off_word (t : Fin grid0.N) : k0_off1 (grid0.coords t) 0 = t.val := by
  have key : ∀ s : Fin 182, k0_off1 (grid0.coords (⟨s.val, lt_of_lt_of_eq s.isLt N_0.symm⟩ : Fin grid0.N)) 0 = s.val := by decide +kernel
  exact key ⟨t.val, pos t⟩

/-- The word a point reads is the table's at the point. -/
theorem word_at (c : Dev nD) (t : Fin grid0.N) : wordE (tabs m) (grid0.coords t) = te0 m c (ix1 ⟨t.val, pos t⟩) := by
  obtain rfl : c = 0 := Subsingleton.elim _ _
  refine congrArg (te0 m 0) (funext fun (a : Fin 1) => Fin.ext ?_)
  refine (ValueKit.rect_emb_unit_val (s := S182) _ _ _ _ a).trans ?_
  obtain rfl : a = 0 := Subsingleton.elim _ _
  have e := off_word t
  show k0_off1 (grid0.coords t) 0 + 0 = t.val
  omega

theorem count_at (c : Dev nD) : wordN (tabs m) = nt0 m c (ix1 0) := by
  obtain rfl : c = 0 := Subsingleton.elim _ _
  refine congrArg (nt0 m 0) (funext fun (a : Fin 1) => ?_)
  obtain rfl : a = 0 := Subsingleton.elim _ _
  rfl

theorem used_iff (i : grid0.Coords) (v : BitVec 32) : k0_cond2 i v = 1#1 ↔ (BitVec.ofNat 32 (i 0).val).slt v = true := by
  have e : k0_cond2 i v = Scalar.cmpi .ne (Scalar.extui (BitVec.ofBool ((BitVec.ofNat 32 (i 0).val).slt v)) : BitVec 32) 0#32 := rfl
  rw [e]
  generalize (BitVec.ofNat 32 (i 0).val).slt v = b
  revert b; decide

/-- The rows of a point. -/
def rowOf (t : Fin grid0.N) (r : Fin 1024) : Fin 186368 := ⟨1024 * t.val + r.val, by have := pos t; omega⟩

theorem blk0 (h : InRange m) (c : Dev nD) (t : Fin (cf m h).N) (r : Fin 1024) (d : Fin 640) :
    (blkAt m h c 0 t : Vec Ideal S1024x640 .i32) (ix2 r d) = xs0 m c (ix2 (rowOf t r) d) := by
  refine congrArg (xs0 m c) (funext fun a => Fin.ext ?_)
  refine (((cf m h).win 0).rect_emb_val t (ix2 r d) a).trans ?_
  match a with
  | ⟨0, _⟩ =>
    show (BitVec.ofNat 32 (grid0.coords t 0).val).toNat * 1024 + r.val = 1024 * t.val + r.val
    rw [coord_word]; omega
  | ⟨1, _⟩ => show 0 * 640 + d.val = d.val; omega

/-- What a point writes, entry by entry. -/
theorem wrote_at (h : InRange m) (c : Dev nD) (t : Fin (cf m h).N) (r k : Fin 1024) :
    wrote m h c t (ix2 r k) = experts (te0 m c) (nt0 m c) (xs0 m c) (wg0 m c) (wu0 m c) (wd0 m c) (rowOf t r) k := by
  have ht := pos t
  have hq : (rowOf t r).val / 1024 = t.val := by show (1024 * t.val + r.val) / 1024 = t.val; omega
  have hT : tileOf (rowOf t r) = ⟨t.val, ht⟩ := Fin.ext hq
  have he : expert m t = (te0 m c (ix1 ⟨t.val, ht⟩)).toNat := by unfold expert; rw [word_at m c t]
  unfold wrote experts
  rw [hq, hT]
  have hc : k0_cond2 (grid0.coords t) (wordN (tabs m)) = 1#1 ↔ inUse (nt0 m c) t.val := by
    rw [used_iff, count_at m c, coord]; rfl
  by_cases hu : inUse (nt0 m c) t.val
  · rw [if_pos (hc.2 hu), if_pos hu]
    refine (tile_at _ _ _ _ r k).trans ?_
    rw [blk1, blk2, blk3, he]
    simp only [blk0]
    rfl
  · rw [if_neg (fun q => hu (hc.1 q)), if_neg hu]
    exact pay4_at r k

theorem covers (h : InRange m) : ((cf m h).win 4).Covers := by
  refine Pipeline.Window.covers_of_indexMap_surj _ rfl (by decide : ∀ a : Fin 2, 0 < (![1024, 1024] : Fin 2 → ℕ) a) fun β => ?_
  have b0 : (β (0 : Fin 2)).val < (186368 + 1024 - 1) / 1024 := (β (0 : Fin 2)).isLt
  have b1 : (β (1 : Fin 2)).val < (1024 + 1024 - 1) / 1024 := (β (1 : Fin 2)).isLt
  have hb : (β (0 : Fin 2)).val < 182 := lt_of_lt_of_eq b0 (by decide)
  refine ⟨grid0.coords ⟨(β (0 : Fin 2)).val, lt_of_lt_of_eq hb N_0.symm⟩, fun (a : Fin 2) => ?_⟩
  match a with
  | ⟨0, _⟩ => exact coord_word _
  | ⟨1, _⟩ => exact (Nat.lt_one_iff.1 (lt_of_lt_of_eq b1 (by decide))).symm

/-- Where an output block's element lies. -/
theorem place (h : InRange m) (t : Fin (cf m h).N) (y : S1024x1024.Idx) :
    ((((cf m h).win 4).blk t).view.emb y : S186368x1024.Idx) = ix2 (rowOf t (y 0)) (y 1) := by
  refine funext fun (a : Fin 2) => Fin.ext ?_
  refine (((cf m h).win 4).rect_emb_val t y a).trans ?_
  match a with
  | ⟨0, _⟩ =>
    show (BitVec.ofNat 32 (grid0.coords t 0).val).toNat * 1024 + (y 0).val = 1024 * t.val + (y 0).val
    rw [coord_word]; omega
  | ⟨1, _⟩ => show 0 * 1024 + (y 1).val = (y 1).val; omega

/-- After the run the output holds the experts' results. -/
theorem arr (h : InRange m) (c : Dev nD) :
    (plan m h 0 c).arrAt 4 (cf m h).N = fun j : S186368x1024.Idx => experts (te0 m c) (nt0 m c) (xs0 m c) (wg0 m c) (wu0 m c) (wd0 m c) (j 0) (j 1) := by
  refine (plan m h 0 c).arrAt_eq_of_covers 4 _ (covers m h) fun t hf y => ?_
  rw [after4]
  have key : ∀ y : S1024x1024.Idx, wrote m h c t y = (fun j : S186368x1024.Idx => experts (te0 m c) (nt0 m c) (xs0 m c) (wg0 m c) (wu0 m c) (wd0 m c) (j 0) (j 1))
      ((((cf m h).win 4).blk t).view.emb y) := by
    intro y
    rw [place]
    refine Eq.trans ?_ (wrote_at m h c t (y 0) (y 1))
    refine congrArg _ ?_
    idx_vars y
  exact key y

end Cert.Moe

end
-- ==== Proof.MoeRef.lean ====
/- The grouped experts' reference, element by element. -/
module

public import proofs.«01_k».proof.Proof.MoeArray
public import proofs.«01_k».proof.Proof.Gen.Reference2Ideal.Read
public import Idealize.ShloMosaic.Lib.StableHlo.Predicate

@[expose] public section

set_option maxRecDepth 16384

noncomputable section

namespace Cert.Moe

open Idealize.ShloMosaic Cert.Reference2Ideal Cert.Reference2Ideal.Gen Cert.Reference2Ideal.Read

/-! ### A row's tile -/

theorem small_msb {n : ℕ} (h : n < 186368) : (BitVec.ofNat 32 n).msb = false := by
  rw [BitVec.msb_eq_false_iff_two_mul_lt, BitVec.toNat_ofNat]
  omega

theorem quotient {n : ℕ} (h : n < 186368) : IntOp.divsi .host (BitVec.ofNat 32 n) 1024#32 = BitVec.ofNat 32 (n / 1024) := by
  have hc : ¬ IntOp.SDivCorner (BitVec.ofNat 32 n) 1024#32 := by simp [IntOp.SDivCorner]
  rw [IntOp.divsi, if_neg hc, BitVec.sdiv_eq, small_msb h, show (1024#32 : BitVec 32).msb = false from by decide]
  refine BitVec.eq_of_toNat_eq ?_
  show (BitVec.ofNat 32 n / 1024#32).toNat = (BitVec.ofNat 32 (n / 1024)).toNat
  have e : n % 2 ^ 32 = n := by omega
  rw [BitVec.toNat_udiv, BitVec.toNat_ofNat, BitVec.toNat_ofNat, BitVec.toNat_ofNat, e]
  show n / 1024 = _
  omega

/-- The sign test of a rounded-down division never asks for a correction here. -/
theorem no_correction {n : ℕ} (h : n < 186368) :
    IntOp.andi (IntOp.cmpi .ne (if BitVec.ofNat 32 n = 0 then (0 : BitVec 32) else if (BitVec.ofNat 32 n).msb then -1 else 1)
      (if (1024#32 : BitVec 32) = 0 then (0 : BitVec 32) else if (1024#32 : BitVec 32).msb then -1 else 1))
      (IntOp.cmpi .ne (IntOp.remsi .host (BitVec.ofNat 32 n) 1024#32) 0#32) = 0#1 := by
  by_cases hn : n = 0
  · subst hn; decide
  · have e : BitVec.ofNat 32 n ≠ 0 := fun q => by
      have := congrArg BitVec.toNat q
      rw [BitVec.toNat_ofNat] at this
      have z : n % 2 ^ 32 = 0 := this
      omega
    rw [if_neg e, small_msb h]
    generalize IntOp.cmpi .ne (IntOp.remsi .host (BitVec.ofNat 32 n) 1024#32) 0#32 = b
    revert b; decide

theorem tile_word (i : S186368.Idx) : val_main_v12 (F := Ideal) i = BitVec.ofNat 32 ((i 0).val / 1024) := by
  have h : (i 0).val < 186368 := (i 0).isLt
  have hc : val_main_call0_v11 (F := Ideal) i = 0#1 := by
    rw [val_main_call0_v11_apply, val_main_call0_v6_apply, val_main_call0_v10_apply, val_main_call0_v5_apply, val_main_call0_v8_apply,
      val_main_call0_v9_apply, val_main_call0_v7_apply, val_main_v11_apply]
    exact no_correction h
  have hd : val_main_call0_v2 (F := Ideal) i = BitVec.ofNat 32 ((i 0).val / 1024) := by
    rw [val_main_call0_v2_apply, val_main_call0_v1_apply, val_main_v11_apply]
    exact quotient h
  rw [val_main_v12_apply, hc, hd]
  rfl

/-! ### The gate of a row and an expert -/

theorem pick (c d : BitVec 1) (x y : EReal) (P Q : Prop) [Decidable P] [Decidable Q] (hP : c = 1#1 ↔ P) (hQ : d = 1#1 ↔ Q) :
    Scalar.select (IntOp.andi c d) x y = if P ∧ Q then x else y := by
  have key : IntOp.andi c d = 1#1 ↔ (c = 1#1 ∧ d = 1#1) := by clear hP hQ; revert c d; decide
  by_cases h : P ∧ Q
  · rw [if_pos h, key.2 ⟨hP.2 h.1, hQ.2 h.2⟩]; rfl
  · have : IntOp.andi c d = 0#1 := by
      have hne : ¬ IntOp.andi c d = 1#1 := fun q => h ⟨hP.1 (key.1 q).1, hQ.1 (key.1 q).2⟩
      revert hne; generalize IntOp.andi c d = b; revert b; decide
    rw [if_neg h, this]; rfl

variable (x0 : IVec ⟨1, ![182]⟩ 32) (x1 : IVec ⟨1, ![1]⟩ 32) (x2 : IVec ⟨2, ![186368, 640]⟩ 32)
  (x3 x4 : FVec Ideal ⟨3, ![64, 1024, 512]⟩ .f32) (x5 : FVec Ideal ⟨3, ![64, 512, 1024]⟩ .f32)

theorem ref_expert (r : Fin 186368) (e : Fin 64) : val_main_v18 (F := Ideal) x0 (ix2 r e) = x0 (ix1 (tileOf r)) := by
  rw [val_main_v18_apply, val_main_v15_apply, val_main_v14_apply, val_main_v13_apply]
  exact congrArg x0 (funext fun (a : Fin 1) => match a with | ⟨0, _⟩ => rfl)

theorem ref_count (i : S186368.Idx) : val_main_v22 (F := Ideal) x1 i = x1 (ix1 0) := by
  rw [val_main_v22_apply]
  refine congrArg x1 (funext fun (a : Fin 1) => Fin.ext ?_)
  obtain rfl : a = 0 := Subsingleton.elim _ _
  exact Nat.lt_one_iff.1 (Fin.isLt _)

theorem ref_gate (r : Fin 186368) (e : Fin 64) : val_main_v28 (F := Ideal) x0 x1 x2 (ix2 r e) =
    if x0 (ix1 (tileOf r)) = BitVec.ofNat 32 e.val ∧ inUse x1 (r.val / 1024) then valueOf (x2 (ix2 r 512)) else 0 := by
  rw [val_main_v28_apply, val_main_v26_apply, val_main_v20_apply, val_main_v25_apply, val_main_v24_apply, val_main_v23_apply, ref_expert,
    ref_count, tile_word, val_main_v19_apply, val_main_v17_apply, val_main_v16_apply, val_main_call1_v1_apply, val_main_v27_apply,
    val_main_call1_v2_apply]
  have hz : val_main_call1_v0 (F := Ideal) (idx_main_call1_v2 (ix2 r e)) = (0 : EReal) := Ideal.ofBits_zero_f32
  have hg : val_main_v10 (F := Ideal) x2 (idx_main_v27 (idx_main_call1_v1 (ix2 r e))) = valueOf (x2 (ix2 r 512)) := by
    rw [val_main_v10_apply, val_main_v9_apply, val_main_v8_apply]
    exact congrArg (fun j => valueOf (x2 j)) (funext fun (a : Fin 2) => match a with | ⟨0, _⟩ => Fin.ext (Nat.div_one r.val) | ⟨1, _⟩ => rfl)
  rw [hz, hg]
  exact pick _ _ _ _ _ _ StableHlo.Predicate.cmpi_eq_iff (by
    show BitVec.ofBool ((BitVec.ofNat 32 (r.val / 1024)).slt (x1 (ix1 0))) = 1#1 ↔ (BitVec.ofNat 32 (r.val / 1024)).slt (x1 (ix1 0)) = true
    generalize (BitVec.ofNat 32 (r.val / 1024)).slt (x1 (ix1 0)) = b
    revert b; decide)

/-! ### An expert's output -/

/-- A row's entries, read from its words. -/
theorem ref_entry (r : Fin 186368) (d : Fin 1024) : val_main_v7 (F := Ideal) x2 (ix2 r d) = entry (fun d => x2 (ix2 r d)) d := by
  unfold val_main_v7 entry
  by_cases h : d.val < 512
  · rw [dif_pos h]
    refine (concatenate_pair_apply_left (t := S186368x1024) (1 : Fin 2) _ _ concatenates_S186368x512_S186368x512_S186368x1024_d1 (ix2 r d) rfl (ix2 r ⟨d.val, h⟩)
      (fun (b : Fin 2) => match b with | ⟨0, _⟩ => rfl | ⟨1, _⟩ => rfl)).trans ?_
    rw [val_main_v3_apply, val_main_v2_apply, val_main_v1_apply, val_main_c_apply, val_main_v0_apply, shift_low]
    exact congrArg (fun j => lowOf (x2 j)) (funext fun (a : Fin 2) => match a with | ⟨0, _⟩ => rfl | ⟨1, _⟩ => rfl)
  · rw [dif_neg h]
    refine (concatenate_pair_apply_right (t := S186368x1024) (1 : Fin 2) _ _ concatenates_S186368x512_S186368x512_S186368x1024_d1 (ix2 r d) rfl rfl (ix2 r ⟨d.val - 512, by omega⟩)
      (fun (b : Fin 2) => match b with | ⟨0, _⟩ => fun _ => rfl | ⟨1, _⟩ => fun q => absurd rfl q) ?_).trans ?_
    · show d.val - 512 + 512 = d.val
      omega
    rw [val_main_v6_apply, val_main_v5_apply, val_main_v4_apply, val_main_c_0_apply, val_main_v0_apply]
    exact congrArg (fun j => highOf (x2 j)) (funext fun (a : Fin 2) => match a with | ⟨0, _⟩ => rfl | ⟨1, _⟩ => rfl)

theorem ref_in (w : FVec Ideal ⟨3, ![64, 1024, 512]⟩ .f32) (r : Fin 186368) (e : Fin 64) (f : Fin 512) :
    val_main_v29 (F := Ideal) x2 w (ix3 r e f) = ∑ d : Fin 1024, entry (fun d => x2 (ix2 r d)) d * w (ix3 e d f) := by
  have hl : ∀ d : Fin 1024, lidx_main_v29 (ix3 r e f) d = ix2 r d := fun d => funext fun (a : Fin 2) => match a with | ⟨0, _⟩ => rfl | ⟨1, _⟩ => rfl
  rw [val_main_v29_apply]
  refine Finset.sum_congr rfl fun d _ => ?_
  exact congrArg₂ (· * ·) ((congrArg (val_main_v7 (F := Ideal) x2) (hl d)).trans (ref_entry x2 r d))
    (congrArg w (funext fun (a : Fin 3) => match a with | ⟨0, _⟩ => rfl | ⟨1, _⟩ => rfl | ⟨2, _⟩ => rfl))

theorem ref_hidden (r : Fin 186368) (e : Fin 64) (f : Fin 512) :
    val_main_v32 (F := Ideal) x2 x3 x4 (ix3 r e f) = swish (∑ d : Fin 1024, entry (fun d => x2 (ix2 r d)) d * x3 (ix3 e d f)) * (∑ d : Fin 1024, entry (fun d => x2 (ix2 r d)) d * x4 (ix3 e d f)) := by
  have h5 : val_main_v31 (F := Ideal) x2 x4 (ix3 r e f) = val_main_v29 (F := Ideal) x2 x4 (ix3 r e f) := rfl
  rw [val_main_v32_apply, val_main_v30_apply, h5, ref_in x2 x4, val_main_call2_v5_apply, val_main_call2_v3_apply, val_main_call2_v4_apply,
    val_main_call2_v2_apply, val_main_call2_v1_apply, val_main_call2_v0_apply, ref_in x2 x3]
  have one : (FloatOps.ofBits .f32 0x3F800000#32 : Ideal .f32) = (1 : EReal) := Ideal.ofBits_one_f32
  rw [val_main_call2_cst_apply, val_main_call2_cst_0_apply, one]
  rfl

theorem ref_out (r : Fin 186368) (e : Fin 64) (k : Fin 1024) :
    val_main_v33 (F := Ideal) x2 x3 x4 x5 (ix3 e k r) =
      ∑ f : Fin 512, swish (∑ d : Fin 1024, entry (fun d => x2 (ix2 r d)) d * x3 (ix3 e d f)) * (∑ d : Fin 1024, entry (fun d => x2 (ix2 r d)) d * x4 (ix3 e d f)) * x5 (ix3 e f k) := by
  rw [val_main_v33_apply]
  refine Finset.sum_congr rfl fun f _ => ?_
  have hl : lidx_main_v33 (ix3 e k r) f = ix3 e f k := funext fun (a : Fin 3) => match a with | ⟨0, _⟩ => rfl | ⟨1, _⟩ => rfl | ⟨2, _⟩ => rfl
  have hr : ridx_main_v33 (ix3 e k r) f = ix3 r e f := funext fun (a : Fin 3) => match a with | ⟨0, _⟩ => rfl | ⟨1, _⟩ => rfl | ⟨2, _⟩ => rfl
  rw [hl, hr, ref_hidden]
  exact mul_comm _ _

theorem ref_term (r : Fin 186368) (k : Fin 1024) (e : Fin 64) :
    val_main_v37 (F := Ideal) x0 x1 x2 x3 x4 x5 (ix3 r e k) =
      (if x0 (ix1 (tileOf r)) = BitVec.ofNat 32 e.val ∧ inUse x1 (r.val / 1024) then valueOf (x2 (ix2 r 512)) else 0) *
      ∑ f : Fin 512, swish (∑ d : Fin 1024, entry (fun d => x2 (ix2 r d)) d * x3 (ix3 e d f)) * (∑ d : Fin 1024, entry (fun d => x2 (ix2 r d)) d * x4 (ix3 e d f)) * x5 (ix3 e f k) := by
  rw [val_main_v37_apply, val_main_v36_apply, val_main_v35_apply, val_main_v34_apply]
  have hg : idx_main_v35 (idx_main_v36 (ix3 r e k)) = ix2 r e := funext fun (a : Fin 2) => match a with | ⟨0, _⟩ => rfl | ⟨1, _⟩ => rfl
  have ho : idx_main_v34 (ix3 r e k) = ix3 e k r := funext fun (a : Fin 3) => match a with | ⟨0, _⟩ => rfl | ⟨1, _⟩ => rfl | ⟨2, _⟩ => rfl
  rw [hg, ho, ref_gate, ref_out]
  rfl

/-- The reference's output: the same rows through the same experts. -/
theorem ref_at (hte : ∀ n, (x0 (ix1 n)).toNat < 64) (r : Fin 186368) (k : Fin 1024) :
    val_main_v39 (F := Ideal) x0 x1 x2 x3 x4 x5 (ix2 r k) = experts x0 x1 x2 x3 x4 x5 r k := by
  have hs : val_main_v39 (F := Ideal) x0 x1 x2 x3 x4 x5 (ix2 r k) = ∑ e : Fin 64, val_main_v37 (F := Ideal) x0 x1 x2 x3 x4 x5 (ix3 r e k) := by
    rw [val_main_v39_apply]
    refine (val_main_v38_apply x0 x1 x2 x3 x4 x5 (ix2 r k)).trans ?_
    have hz : val_main_cst_2 (F := Ideal) (Shape.Idx.first h_S_) = (0 : EReal) := Ideal.ofBits_zero_f32
    rw [hz, zero_add]
    refine Finset.sum_congr rfl fun e _ => congrArg _ (funext fun (a : Fin 3) => match a with | ⟨0, _⟩ => rfl | ⟨1, _⟩ => rfl | ⟨2, _⟩ => rfl)
  have hE : (x0 (ix1 (tileOf r))).toNat < 64 := hte _
  rw [hs, experts]
  simp only [ref_term]
  by_cases hu : inUse x1 (r.val / 1024)
  · rw [if_pos hu, Finset.sum_eq_single (expertOf x0 (tileOf r))]
    · have hw : x0 (ix1 (tileOf r)) = BitVec.ofNat 32 (expertOf x0 (tileOf r)).val := by
        refine BitVec.eq_of_toNat_eq ?_
        rw [BitVec.toNat_ofNat]
        show _ = ((x0 (ix1 (tileOf r))).toNat % 64) % 2 ^ 32
        omega
      rw [if_pos ⟨hw, hu⟩]
      exact mul_comm _ _
    · intro e _ he
      have hw : ¬ x0 (ix1 (tileOf r)) = BitVec.ofNat 32 e.val := fun q => he (Fin.ext (by
        have q' := congrArg BitVec.toNat q
        rw [BitVec.toNat_ofNat] at q'
        have := e.isLt
        show e.val = (x0 (ix1 (tileOf r))).toNat % 64
        omega))
      rw [if_neg (fun q => hw q.1), zero_mul]
    · exact fun q => absurd (Finset.mem_univ _) q
  · rw [if_neg hu]
    refine Finset.sum_eq_zero fun e _ => ?_
    rw [if_neg (fun q => hu q.2), zero_mul]

end Cert.Moe

end
-- ==== Proof.MoeEqual.lean ====
/- The grouped experts: the two programs' outputs are equal. -/
module

public import proofs.«01_k».proof.Proof.MoeRef

@[expose] public section

set_option maxRecDepth 16384

noncomputable section

namespace Cert.Moe

open Idealize.ShloMosaic Idealize.ShloMosaic.TcCoe Cert.Kernel2Ideal Cert.Kernel2Ideal.Moe

variable (m : (ℓ : Loc nD τ sig) → Buf (Elt Ideal) ℓ)

/-- The reference's output, of the kernel's arguments, is what the kernel leaves. -/
theorem out_eq (h : InRange m) (c : Dev nD) (hte : ∀ x, (te0 m c x).toNat < 64) :
    Cert.Reference2Ideal.Read.val_main_v39 (F := Ideal) (te0 m c) (nt0 m c) (xs0 m c) (wg0 m c) (wu0 m c) (wd0 m c) =
      (plan m h 0 c).arrAt 4 (cf m h).N := by
  refine Eq.trans (funext fun (j : S186368x1024.Idx) => ?_) (arr m h c).symm
  have e : j = ix2 (j 0) (j 1) := funext fun (a : Fin 2) => match a with | ⟨0, _⟩ => rfl | ⟨1, _⟩ => rfl
  rw [e]
  exact ref_at _ _ _ _ _ _ (fun n => hte (ix1 n)) (j 0) (j 1)

end Cert.Moe

end
-- ==== Proof.ModRows.lean ====
/- The rows of the conditioning, as the kernel's host code sets them. -/
module

public import proofs.«01_k».proof.Proof.Gen.Kernel3Ideal.Value
public import Idealize.ShloMosaic.Lib.Claim
public import Idealize.ShloMosaic.Lib.Pointwise
public import Idealize.ShloMosaic.Lib.Pipeline.ValueKit
public import Idealize.ShloMosaic.Lib.Routing.OpsSet
public import Idealize.ShloMosaic.PureOps.Ideal.Laws

@[expose] public section

set_option maxRecDepth 16384

noncomputable section

namespace Cert.Mod

open Idealize.ShloMosaic Idealize.ShloMosaic.TcCoe Cert.Kernel3Ideal Cert.Kernel3Ideal.Gen

/-- A row of the conditioning: of a sequence, of the context, or empty. -/
def row (x : FVec Ideal ⟨2, ![16, 1024]⟩ .f32) (y : FVec Ideal ⟨1, ![1024]⟩ .f32) (r : Fin 24) (k : Fin 1024) : EReal :=
  if h : r.val < 16 then x (ix2 ⟨r.val, h⟩ k) else if r.val = 16 then y (ix1 k) else 0

theorem pair_eq {a b : ℕ} (j : (⟨2, ![a, b]⟩ : Shape).Idx) : j = ix2 (j 0) (j 1) :=
  funext fun (q : Fin 2) => match q with | ⟨0, _⟩ => rfl | ⟨1, _⟩ => rfl
theorem single_eq {a : ℕ} (j : (⟨1, ![a]⟩ : Shape).Idx) : j = ix1 (j 0) :=
  funext fun (q : Fin 1) => match q with | ⟨0, _⟩ => rfl

/-- An entry of the 16 rows lands at its own place. -/
theorem lands_rows (idx : IVec S1 32) (h0 : (idx (ix1 0)).toInt = 0) (a : Fin 16) (b : Fin 1024) (r : Fin 24) (k : Fin 1024) :
    scatter_S24x1024_S1_S16x1024_01_n_0_0.resultIdx? (ix2 a b) idx = some (ix2 r k) ↔ a.val = r.val ∧ b.val = k.val := by
  have w0 : scatter_S24x1024_S1_S16x1024_01_n_0_0.window (ix2 a b) 0 = a.val := rfl
  have w1 : scatter_S24x1024_S1_S16x1024_01_n_0_0.window (ix2 a b) 1 = b.val := rfl
  have s1 : scatter_S24x1024_S1_S16x1024_01_n_0_0.start (ix2 a b) idx 1 = 0 := rfl
  have s0 : scatter_S24x1024_S1_S16x1024_01_n_0_0.start (ix2 a b) idx 0 = 0 := by
    refine Eq.trans ?_ h0
    refine congrArg (fun j => (idx j).toInt) (funext fun (q : Fin 1) => match q with | ⟨0, _⟩ => Subsingleton.elim (α := Fin 1) _ _)
  have e : (ix2 r k : S24x1024.Idx) = ValueIdx.ix2 r k := funext fun (q : Fin 2) => match q with | ⟨0, _⟩ => rfl | ⟨1, _⟩ => rfl
  rw [e, Routing.resultIdx?_ix2, s0, s1, w0, w1]
  omega

/-- An entry of the context's row lands in row 16. -/
theorem lands_row (idx : IVec S1 32) (h0 : (idx (ix1 0)).toInt = 16) (b : Fin 1024) (r : Fin 24) (k : Fin 1024) :
    scatter_S24x1024_S1_S1024_0_0_0_0.resultIdx? (ix1 b) idx = some (ix2 r k) ↔ r.val = 16 ∧ b.val = k.val := by
  have w0 : scatter_S24x1024_S1_S1024_0_0_0_0.window (ix1 b) 0 = 0 := rfl
  have w1 : scatter_S24x1024_S1_S1024_0_0_0_0.window (ix1 b) 1 = b.val := rfl
  have s1 : scatter_S24x1024_S1_S1024_0_0_0_0.start (ix1 b) idx 1 = 0 := rfl
  have s0 : scatter_S24x1024_S1_S1024_0_0_0_0.start (ix1 b) idx 0 = 16 := by
    refine Eq.trans ?_ h0
    refine congrArg (fun j => (idx j).toInt) (funext fun (q : Fin 1) => match q with | ⟨0, _⟩ => Subsingleton.elim (α := Fin 1) _ _)
  have e : (ix2 r k : S24x1024.Idx) = ValueIdx.ix2 r k := funext fun (q : Fin 2) => match q with | ⟨0, _⟩ => rfl | ⟨1, _⟩ => rfl
  rw [e, Routing.resultIdx?_ix2, s0, s1, w0, w1]
  omega

/-- The 16 rows set into an array. -/
theorem set_rows (z : FVec Ideal S24x1024 .f32) (idx : IVec S1 32) (x : FVec Ideal S16x1024 .f32) (h0 : (idx (ix1 0)).toInt = 0) (r : Fin 24) (k : Fin 1024) :
    Host.scatter scatter_S24x1024_S1_S16x1024_01_n_0_0 (fun _ b => b) z idx x (ix2 r k) = if h : r.val < 16 then x (ix2 ⟨r.val, h⟩ k) else z (ix2 r k) := by
  have lands : ∀ j : S16x1024.Idx, scatter_S24x1024_S1_S16x1024_01_n_0_0.resultIdx? j idx = some (ix2 r k) → (j 0).val = r.val ∧ (j 1).val = k.val := fun j hj =>
    (lands_rows idx h0 (j 0) (j 1) r k).1 ((congrArg (fun t => scatter_S24x1024_S1_S16x1024_01_n_0_0.resultIdx? t idx) (pair_eq j).symm).trans hj)
  by_cases h : r.val < 16
  · rw [dif_pos h]
    refine Routing.scatter_set_hit _ z idx x _ _ (fun j hj => ?_) (ix2 ⟨r.val, h⟩ k) ((lands_rows idx h0 _ _ r k).2 ⟨rfl, rfl⟩)
    have e := lands j hj
    refine congrArg x ((pair_eq j).trans ?_)
    exact congrArg₂ ix2 (Fin.ext e.1) (Fin.ext e.2)
  · rw [dif_neg h]
    exact Routing.scatter_set_miss _ z idx x _ fun j hj => h (lt_of_eq_of_lt (lands j hj).1.symm (j 0).isLt)

/-- The context's row set into an array. -/
theorem set_row (z : FVec Ideal S24x1024 .f32) (idx : IVec S1 32) (y : FVec Ideal S1024 .f32) (h0 : (idx (ix1 0)).toInt = 16) (r : Fin 24) (k : Fin 1024) :
    Host.scatter scatter_S24x1024_S1_S1024_0_0_0_0 (fun _ b => b) z idx y (ix2 r k) = if r.val = 16 then y (ix1 k) else z (ix2 r k) := by
  have lands : ∀ j : S1024.Idx, scatter_S24x1024_S1_S1024_0_0_0_0.resultIdx? j idx = some (ix2 r k) → r.val = 16 ∧ (j 0).val = k.val := fun j hj =>
    (lands_row idx h0 (j 0) r k).1 ((congrArg (fun t => scatter_S24x1024_S1_S1024_0_0_0_0.resultIdx? t idx) (single_eq j).symm).trans hj)
  by_cases h : r.val = 16
  · rw [if_pos h]
    refine Routing.scatter_set_hit _ z idx y _ _ (fun j hj => ?_) (ix1 k) ((lands_row idx h0 _ r k).2 ⟨h, rfl⟩)
    exact congrArg y ((single_eq j).trans (congrArg ix1 (Fin.ext (lands j hj).2)))
  · rw [if_neg h]
    exact Routing.scatter_set_miss _ z idx y _ fun j hj => h (lands j hj).1

variable (m : (ℓ : Loc nD τ sig) → Buf (Elt Ideal) ℓ)

/-- What the region finds as the conditioning. -/
theorem cond_at (c : Dev nD) (r : Fin 24) (k : Fin 1024) :
    (V m c main_v4 : FVec Ideal S24x1024 .f32) (ix2 r k)
      = row (m ((c.tc : Thread nD τ).loc main_arg0)) (m ((c.tc : Thread nD τ).loc main_arg1)) r k := by
  entry_read
  refine (set_row _ _ _ (by rfl) r k).trans ?_
  unfold row
  by_cases h : r.val < 16
  · rw [if_neg (by omega), dif_pos h]
    refine (set_rows _ _ _ (by rfl) r k).trans ?_
    rw [dif_pos h]
  · rw [dif_neg h]
    by_cases h' : r.val = 16
    · rw [if_pos h', if_pos h']
    · rw [if_neg h', if_neg h']
      refine (set_rows _ _ _ (by rfl) r k).trans ?_
      rw [dif_neg h]
      exact Ideal.ofBits_zero_f32

end Cert.Mod

end
-- ==== Proof.ModRef.lean ====
/- The modulation's reference, entry by entry. -/
module

public import proofs.«01_k».proof.Proof.ModRows
public import proofs.«01_k».proof.Proof.Gen.Reference3Ideal.Read

@[expose] public section

set_option maxRecDepth 16384

noncomputable section

namespace Cert.Mod

open Idealize.ShloMosaic Cert.Reference3Ideal Cert.Reference3Ideal.Gen Cert.Reference3Ideal.Read

/-- A conditioning through its logistic. -/
def swish (g : EReal) : EReal := g * Ideal.div 1 (1 + Ideal.exp (-g))

/-- One entry of the modulation: a row of the conditioning through a layer's matrix, plus the layer's bias. -/
def entry (x : FVec Ideal ⟨2, ![16, 1024]⟩ .f32) (y : FVec Ideal ⟨1, ![1024]⟩ .f32) (w : FVec Ideal ⟨3, ![4, 1024, 6144]⟩ .f32) (b : FVec Ideal ⟨2, ![4, 6144]⟩ .f32)
    (l : Fin 4) (r : Fin 24) (n : Fin 6144) : EReal :=
  (∑ d : Fin 1024, swish (row x y r d) * w (ix3 l d n)) + b (ix2 l n)

variable (x0 : FVec Ideal ⟨2, ![16, 1024]⟩ .f32) (x1 : FVec Ideal ⟨1, ![1024]⟩ .f32) (x2 : FVec Ideal ⟨3, ![4, 1024, 6144]⟩ .f32) (x3 : FVec Ideal ⟨2, ![4, 6144]⟩ .f32)

theorem ref_row (r : Fin 24) (k : Fin 1024) : val_main_v3 (F := Ideal) x0 x1 (ix2 r k) = row x0 x1 r k := by
  unfold val_main_v3 row
  by_cases h : r.val < 17
  · refine (concatenate_pair_apply_left (t := S24x1024) (0 : Fin 2) _ _ concatenates_S17x1024_S7x1024_S24x1024_d0 (ix2 r k) rfl (ix2 ⟨r.val, h⟩ k)
      (fun (b : Fin 2) => match b with | ⟨0, _⟩ => rfl | ⟨1, _⟩ => rfl)).trans ?_
    unfold val_main_v1
    by_cases h' : r.val < 16
    · rw [dif_pos h']
      exact concatenate_pair_apply_left (t := S17x1024) (0 : Fin 2) _ _ concatenates_S16x1024_S1x1024_S17x1024_d0 (ix2 ⟨r.val, h⟩ k) rfl (ix2 ⟨r.val, h'⟩ k)
        (fun (b : Fin 2) => match b with | ⟨0, _⟩ => rfl | ⟨1, _⟩ => rfl)
    · rw [dif_neg h', if_pos (by omega)]
      refine (concatenate_pair_apply_right (t := S17x1024) (0 : Fin 2) _ _ concatenates_S16x1024_S1x1024_S17x1024_d0 (ix2 ⟨r.val, h⟩ k) rfl rfl (ix2 0 k)
        (fun (b : Fin 2) => match b with | ⟨0, _⟩ => fun q => absurd rfl q | ⟨1, _⟩ => fun _ => rfl) ?_).trans ?_
      · show 0 + 16 = r.val
        omega
      rw [val_main_v0_apply]
      exact congrArg x1 (funext fun (a : Fin 1) => match a with | ⟨0, _⟩ => rfl)
  · rw [dif_neg (by omega), if_neg (by omega)]
    refine (concatenate_pair_apply_right (t := S24x1024) (0 : Fin 2) _ _ concatenates_S17x1024_S7x1024_S24x1024_d0 (ix2 r k) rfl rfl (ix2 ⟨r.val - 17, by omega⟩ k)
      (fun (b : Fin 2) => match b with | ⟨0, _⟩ => fun q => absurd rfl q | ⟨1, _⟩ => fun _ => rfl) ?_).trans ?_
    · show r.val - 17 + 17 = r.val
      omega
    rw [val_main_v2_apply, val_main_cst_apply]
    exact Ideal.ofBits_zero_f32

theorem ref_swish (r : Fin 24) (k : Fin 1024) : val_main_v4 (F := Ideal) x0 x1 (ix2 r k) = swish (row x0 x1 r k) := by
  have one : (FloatOps.ofBits .f32 0x3F800000#32 : Ideal .f32) = (1 : EReal) := Ideal.ofBits_one_f32
  rw [val_main_v4_apply, val_main_call0_v5_apply, val_main_call0_v4_apply, val_main_call0_cst_0_apply, val_main_call0_v3_apply, val_main_call0_v2_apply,
    val_main_call0_cst_apply, val_main_call0_v1_apply, val_main_call0_v0_apply, ref_row, one]
  rfl

theorem ref_at (l : Fin 4) (r : Fin 24) (n : Fin 6144) : val_main_v9 (F := Ideal) x0 x1 x2 x3 (ix3 l r n) = entry x0 x1 x2 x3 l r n := by
  rw [val_main_v9_apply, val_main_v6_apply, val_main_v5_apply, val_main_v8_apply, val_main_v7_apply]
  unfold entry
  refine congrArg₂ (fun a b : EReal => a + b) (Finset.sum_congr rfl fun d _ => ?_) (congrArg x3 (funext fun (a : Fin 2) => match a with | ⟨0, _⟩ => rfl | ⟨1, _⟩ => rfl))
  refine (mul_comm _ _).trans (congrArg₂ (fun a b : EReal => a * b) ?_ (congrArg x2 (funext fun (a : Fin 3) => match a with | ⟨0, _⟩ => rfl | ⟨1, _⟩ => rfl | ⟨2, _⟩ => rfl)))
  refine Eq.trans (congrArg (val_main_v4 (F := Ideal) x0 x1) ?_) (ref_swish x0 x1 r d)
  exact funext fun (a : Fin 2) => match a with | ⟨0, _⟩ => rfl | ⟨1, _⟩ => rfl

end Cert.Mod

end
-- ==== Proof.ModArray.lean ====
/- The modulation's output array after the run, and its equality with the reference's. -/
module

public import proofs.«01_k».proof.Proof.ModRef
public import Idealize.ShloMosaic.Lib.Pipeline.Covers

@[expose] public section

set_option maxRecDepth 16384

noncomputable section

namespace Cert.Mod

open Idealize.ShloMosaic Idealize.ShloMosaic.TcCoe Cert.Kernel3Ideal Cert.Kernel3Ideal.Gen

theorem pay_at (s : Vec Ideal S24x1024 .f32) (w : Vec Ideal S1x1024x1024 .f32) (b : Vec Ideal S1x1x1024 .f32) (r : Fin 24) (n : Fin 1024) :
    k0_pay1 s w b (ix3 0 r n) = (∑ d : Fin 1024, swish (s (ix2 r d)) * w (ix3 0 d n)) + b (ix3 0 0 n) := by
  pointwise [k0_pay1]
  simp only [zero_sub]
  rfl

theorem place0 : ∀ t : Fin cfg0.N, win0_0.index t 0 = 0 ∧ win0_0.index t 1 = 0 := by decide +kernel
theorem place1 : ∀ t : Fin cfg0.N, win0_1.index t 0 = t.val / 6 ∧ win0_1.index t 1 = 0 ∧ win0_1.index t 2 = t.val % 6 := by decide +kernel
theorem place2 : ∀ t : Fin cfg0.N, win0_2.index t 0 = t.val / 6 ∧ win0_2.index t 1 = 0 ∧ win0_2.index t 2 = t.val % 6 := by decide +kernel
theorem place3 : ∀ t : Fin cfg0.N, win0_3.index t 0 = t.val / 6 ∧ win0_3.index t 1 = 0 ∧ win0_3.index t 2 = t.val % 6 := by decide +kernel

variable (m : (ℓ : Loc nD τ sig) → Buf (Elt Ideal) ℓ)

abbrev x0 (c : Dev nD) : FVec Ideal ⟨2, ![16, 1024]⟩ .f32 := m ((c.tc : Thread nD τ).loc main_arg0)
abbrev y0 (c : Dev nD) : FVec Ideal ⟨1, ![1024]⟩ .f32 := m ((c.tc : Thread nD τ).loc main_arg1)
abbrev w0 (c : Dev nD) : FVec Ideal ⟨3, ![4, 1024, 6144]⟩ .f32 := m ((c.tc : Thread nD τ).loc main_arg2)
abbrev b0 (c : Dev nD) : FVec Ideal ⟨2, ![4, 6144]⟩ .f32 := m ((c.tc : Thread nD τ).loc main_arg3)

/-- A point's layer. -/
def layer (t : Fin cfg0.N) : Fin 4 := ⟨t.val / 6, by have : t.val < 24 := t.isLt; omega⟩
/-- A point's columns. -/
def column (t : Fin cfg0.N) (n : Fin 1024) : Fin 6144 := ⟨1024 * (t.val % 6) + n.val, by omega⟩

theorem blk0 (c : Dev nD) (t : Fin cfg0.N) (r : Fin 24) (d : Fin 1024) :
    (iblk m c 0 t : Vec Ideal S24x1024 .f32) (ix2 r d) = row (x0 m c) (y0 m c) r d := by
  refine Eq.trans ?_ (cond_at m c r d)
  refine congrArg (V m c main_v4) (funext fun (a : Fin 2) => Fin.ext ((win0_0.rect_emb_val t (ix2 r d) a).trans ?_))
  have := place0 t
  match a with
  | ⟨0, _⟩ => show win0_0.index t 0 * 24 + r.val = r.val; omega
  | ⟨1, _⟩ => show win0_0.index t 1 * 1024 + d.val = d.val; omega

theorem blk1 (c : Dev nD) (t : Fin cfg0.N) (d n : Fin 1024) :
    (iblk m c 1 t : Vec Ideal S1x1024x1024 .f32) (ix3 0 d n) = w0 m c (ix3 (layer t) d (column t n)) := by
  refine Eq.trans ?_ (congrFun (V_main_arg2 m c) (ix3 (layer t) d (column t n)))
  refine congrArg (V m c main_arg2) (funext fun (a : Fin 3) => Fin.ext ((win0_1.rect_emb_val t (ix3 0 d n) a).trans ?_))
  have := place1 t
  match a with
  | ⟨0, _⟩ => show win0_1.index t 0 * 1 + 0 = t.val / 6; omega
  | ⟨1, _⟩ => show win0_1.index t 1 * 1024 + d.val = d.val; omega
  | ⟨2, _⟩ => show win0_1.index t 2 * 1024 + n.val = 1024 * (t.val % 6) + n.val; omega

theorem bias_at (c : Dev nD) (l : Fin 4) (n : Fin 6144) : (V m c main_v5 : FVec Ideal S4x1x6144 .f32) (ix3 l 0 n) = b0 m c (ix2 l n) := by
  entry_read
  pointwise

theorem blk2 (c : Dev nD) (t : Fin cfg0.N) (n : Fin 1024) :
    (iblk m c 2 t : Vec Ideal S1x1x1024 .f32) (ix3 0 0 n) = b0 m c (ix2 (layer t) (column t n)) := by
  refine Eq.trans ?_ (bias_at m c (layer t) (column t n))
  refine congrArg (V m c main_v5) (funext fun (a : Fin 3) => Fin.ext ((win0_2.rect_emb_val t (ix3 0 0 n) a).trans ?_))
  have := place2 t
  match a with
  | ⟨0, _⟩ => show win0_2.index t 0 * 1 + 0 = t.val / 6; omega
  | ⟨1, _⟩ => show win0_2.index t 1 * 1 + 0 = 0; omega
  | ⟨2, _⟩ => show win0_2.index t 2 * 1024 + n.val = 1024 * (t.val % 6) + n.val; omega

/-- What a point leaves, entry by entry. -/
theorem out_at (c : Dev nD) (t : Fin cfg0.N) (r : Fin 24) (n : Fin 1024) :
    k0_pay1 (iblk m c 0 t) (iblk m c 1 t) (iblk m c 2 t) (ix3 0 r n) = entry (x0 m c) (y0 m c) (w0 m c) (b0 m c) (layer t) r (column t n) := by
  refine (pay_at _ _ _ r n).trans ?_
  unfold entry
  exact congrArg₂ (fun a b : EReal => a + b) (Finset.sum_congr rfl fun d _ => congrArg₂ (fun a b : EReal => swish a * b) (blk0 m c t r d) (blk1 m c t d n)) (blk2 m c t n)

/-- Where an output block's element lies. -/
theorem place (t : Fin cfg0.N) (r : Fin 24) (n : Fin 1024) : (win0_3.blk t).view.emb (ix3 0 r n) = ix3 (layer t) r (column t n) := by
  refine funext fun (a : Fin 3) => Fin.ext ((win0_3.rect_emb_val t (ix3 0 r n) a).trans ?_)
  have := place3 t
  match a with
  | ⟨0, _⟩ => show win0_3.index t 0 * 1 + 0 = t.val / 6; omega
  | ⟨1, _⟩ => show win0_3.index t 1 * 24 + r.val = r.val; omega
  | ⟨2, _⟩ => show win0_3.index t 2 * 1024 + n.val = 1024 * (t.val % 6) + n.val; omega

/-- After the run the output holds the modulation. -/
theorem arr (c : Dev nD) :
    (dats m 0 c).arrAt 3 cfg0.N = fun j : S4x24x6144.Idx => entry (x0 m c) (y0 m c) (w0 m c) (b0 m c) (j 0) (j 1) (j 2) := by
  refine (dats m 0 c).arrAt_eq_of_covers 3 _ (by decide +kernel) fun t hf y => ?_
  blk_simp
  rw [after0_3]
  frame_out
  have key : ∀ y : S1x24x1024.Idx, k0_pay1 (iblk m c 0 t) (iblk m c 1 t) (iblk m c 2 t) y
      = (fun j : S4x24x6144.Idx => entry (x0 m c) (y0 m c) (w0 m c) (b0 m c) (j 0) (j 1) (j 2)) ((win0_3.blk t).view.emb y) := by
    intro y
    obtain ⟨r, n, rfl⟩ : ∃ (r : Fin 24) (n : Fin 1024), y = ix3 0 r n := ⟨y 1, y 2, by idx_vars y; rw [Subsingleton.elim y0 0]⟩
    rw [place]
    exact out_at m c t r n
  exact key y

/-- The reference's output is the kernel's, at the kernel's arguments. -/
theorem out_eq (c : Dev nD) : Cert.Reference3Ideal.Read.val_main_v9 (F := Ideal) (x0 m c) (y0 m c) (w0 m c) (b0 m c) = (dats m 0 c).arrAt 3 cfg0.N := by
  rw [arr]
  funext j
  have e : j = ix3 (j 0) (j 1) (j 2) := funext fun (a : Fin 3) => match a with | ⟨0, _⟩ => rfl | ⟨1, _⟩ => rfl | ⟨2, _⟩ => rfl
  rw [e]
  exact ref_at _ _ _ _ (j 0) (j 1) (j 2)

end Cert.Mod

end
-- ==== Proof.InRef.lean ====
/- The input projection's reference, entry by entry. -/
module

public import proofs.«01_k».proof.Proof.Gen.Reference4Ideal.Read
public import Idealize.ShloMosaic.Lib.Claim
public import Idealize.ShloMosaic.Lib.Pointwise
public import Idealize.ShloMosaic.Lib.ValueIdxRank6
public import Idealize.ShloMosaic.Lib.Pipeline.ValueKit
public import Idealize.ShloMosaic.PureOps.Ideal.Laws

@[expose] public section

set_option maxRecDepth 16384

noncomputable section

namespace Cert.In

open Idealize.ShloMosaic Cert.Reference4Ideal Cert.Reference4Ideal.Gen Cert.Reference4Ideal.Read

/-- A token's row over its root mean square, times the norm's weights. -/
def normed (h : FVec Ideal ⟨3, ![16, 4352, 1024]⟩ .f32) (g : FVec Ideal ⟨1, ![1024]⟩ .f32) (b : Fin 16) (t : Fin 4352) (d : Fin 1024) : EReal :=
  h (ix3 b t d) * Ideal.rsqrt (Ideal.div (∑ k : Fin 1024, h (ix3 b t k) * h (ix3 b t k)) (Ideal.ofBits .f32 0x44800000#32) + Ideal.ofBits .f32 0x358637BD#32)
    * g (ix1 d)

/-- The row of the modulation a token reads: its sequence's, or the context's. -/
def line (b : Fin 16) (t : Fin 4352) : Fin 24 := if t.val < 4096 then ⟨b.val, by omega⟩ else 16

/-- A token's modulated row. -/
def act (h : FVec Ideal ⟨3, ![16, 4352, 1024]⟩ .f32) (md : FVec Ideal ⟨3, ![24, 6, 1024]⟩ .f32) (g : FVec Ideal ⟨1, ![1024]⟩ .f32)
    (b : Fin 16) (t : Fin 4352) (d : Fin 1024) : EReal :=
  normed h g b t d * (Ideal.ofBits .f32 0x3F800000#32 + md (ix3 (line b t) 1 d)) + md (ix3 (line b t) 0 d)

/-- The matrix's column, zero past the last. -/
def wcol (w : FVec Ideal ⟨2, ![1024, 3088]⟩ .f32) (d : Fin 1024) (n : ℕ) : EReal := if q : n < 3088 then w (ix2 d ⟨n, q⟩) else 0

/-- A token's row through the matrix. -/
def proj (h : FVec Ideal ⟨3, ![16, 4352, 1024]⟩ .f32) (md : FVec Ideal ⟨3, ![24, 6, 1024]⟩ .f32) (g : FVec Ideal ⟨1, ![1024]⟩ .f32)
    (w : FVec Ideal ⟨2, ![1024, 3088]⟩ .f32) (b : Fin 16) (t : Fin 4352) (n : ℕ) : EReal :=
  ∑ d : Fin 1024, act h md g b t d * wcol w d n

/-- The cosine of a position's angle. -/
def cosAt (t l : ℕ) : EReal := if q : t < 4096 then val_main_v60 (F := Ideal) (ix3 (⟨t, q⟩ : Fin 4096) (⟨l % 64 / 32, by omega⟩ : Fin 2) (⟨l % 16, by omega⟩ : Fin 16)) else 1
/-- The sine of a position's angle. -/
def sinAt (t l : ℕ) : EReal := if q : t < 4096 then val_main_v61 (F := Ideal) (ix3 (⟨t, q⟩ : Fin 4096) (⟨l % 64 / 32, by omega⟩ : Fin 2) (⟨l % 16, by omega⟩ : Fin 16)) else 0

/-- A row turned by its position: a lane of the first sixteen with the sixteenth after it, a lane of the second with the sixteenth before; the context's rows stay. -/
def turned (f : ℕ → EReal) (t l : ℕ) : EReal :=
  if t < 4096 then if l % 32 < 16 then f l * cosAt t l - f (l + 16) * sinAt t l else f l * cosAt t l + f (l - 16) * sinAt t l else f l

variable (x0 : FVec Ideal ⟨3, ![16, 4352, 1024]⟩ .f32) (x1 : FVec Ideal ⟨3, ![24, 6, 1024]⟩ .f32) (x2 : FVec Ideal ⟨1, ![1024]⟩ .f32) (x3 : FVec Ideal ⟨2, ![1024, 3088]⟩ .f32)

theorem ref_normed (b : Fin 16) (t : Fin 4352) (d : Fin 1024) : val_main_v12 (F := Ideal) x0 x2 (ix3 b t d) = normed x0 x2 b t d := by
  rw [val_main_v12_apply, val_main_v9_apply, val_main_v8_apply, val_main_v7_apply, val_main_v6_apply, val_main_v4_apply, val_main_v2_apply, val_main_v1_apply,
    val_main_v3_apply, val_main_cst_0_apply, val_main_v5_apply, val_main_cst_1_apply, val_main_v11_apply, val_main_v10_apply, val_main_cst_apply]
  have z : (FloatOps.ofBits .f32 0x00000000#32 : Ideal .f32) = (0 : EReal) := Ideal.ofBits_zero_f32
  rw [z, zero_add]
  unfold normed
  have e : ∀ k : Fin 1024, val_main_v0 (F := Ideal) x0 (idx_main_v1 (idx_main_v2 (idx_main_v8 (ix3 b t d))) k) = x0 (ix3 b t k) * x0 (ix3 b t k) := fun k => by
    rw [val_main_v0_apply]
    have : idx_main_v1 (idx_main_v2 (idx_main_v8 (ix3 b t d))) k = ix3 b t k := funext fun (a : Fin 3) => match a with | ⟨0, _⟩ => rfl | ⟨1, _⟩ => rfl | ⟨2, _⟩ => rfl
    rw [this]
    rfl
  rw [Finset.sum_congr rfl fun k _ => e k]
  have e2 : idx_main_v10 (idx_main_v11 (ix3 b t d)) = ix1 d := funext fun (a : Fin 1) => match a with | ⟨0, _⟩ => rfl
  rw [e2]
  rfl

theorem ref_act (b : Fin 16) (t : Fin 4352) (d : Fin 1024) : val_main_v39 (F := Ideal) x0 x1 x2 (ix3 b t d) = act x0 x1 x2 b t d := by
  unfold val_main_v39 act line
  by_cases h : t.val < 4096
  · rw [if_pos h]
    refine (concatenate_pair_apply_left (t := S16x4352x1024) (1 : Fin 3) _ _ concatenates_S16x4096x1024_S16x256x1024_S16x4352x1024_d1 (ix3 b t d) rfl (ix3 b ⟨t.val, h⟩ d)
      (fun (a : Fin 3) => match a with | ⟨0, _⟩ => rfl | ⟨1, _⟩ => rfl | ⟨2, _⟩ => rfl)).trans ?_
    rw [val_main_v25_apply, val_main_v23_apply, val_main_v13_apply, val_main_v22_apply, val_main_v21_apply, val_main_v20_apply, val_main_cst_2_apply,
      val_main_v19_apply, val_main_v18_apply, val_main_v17_apply, val_main_v24_apply, val_main_v16_apply, val_main_v15_apply, val_main_v14_apply]
    have e0 : idx_main_v13 (ix3 b ⟨t.val, h⟩ d) = ix3 b t d := funext fun (a : Fin 3) => match a with | ⟨0, _⟩ => rfl | ⟨1, _⟩ => rfl | ⟨2, _⟩ => rfl
    have e1 : idx_main_v17 (idx_main_v18 (idx_main_v19 (idx_main_v22 (ix3 b ⟨t.val, h⟩ d)))) = ix3 (⟨b.val, by omega⟩ : Fin 24) 1 d :=
      funext fun (a : Fin 3) => Fin.ext (match a with
        | ⟨0, _⟩ => by show (b.val * 1024 + d.val) / 1024 = b.val; omega
        | ⟨1, _⟩ => rfl
        | ⟨2, _⟩ => by show (b.val * 1024 + d.val) % 1024 = d.val; omega)
    have e2 : idx_main_v14 (idx_main_v15 (idx_main_v16 (idx_main_v24 (ix3 b ⟨t.val, h⟩ d)))) = ix3 (⟨b.val, by omega⟩ : Fin 24) 0 d :=
      funext fun (a : Fin 3) => Fin.ext (match a with
        | ⟨0, _⟩ => by show (b.val * 1024 + d.val) / 1024 = b.val; omega
        | ⟨1, _⟩ => rfl
        | ⟨2, _⟩ => by show (b.val * 1024 + d.val) % 1024 = d.val; omega)
    rw [e0, e1, e2, ref_normed]
    rfl
  · rw [if_neg h]
    refine (concatenate_pair_apply_right (t := S16x4352x1024) (1 : Fin 3) _ _ concatenates_S16x4096x1024_S16x256x1024_S16x4352x1024_d1 (ix3 b t d) rfl rfl (ix3 b (⟨t.val - 4096, by omega⟩ : Fin 256) d)
      (fun (a : Fin 3) => match a with | ⟨0, _⟩ => fun _ => rfl | ⟨1, _⟩ => fun q => absurd rfl q | ⟨2, _⟩ => fun _ => rfl) ?_).trans ?_
    · show t.val - 4096 + 4096 = t.val
      omega
    rw [val_main_v38_apply, val_main_v35_apply, val_main_v26_apply, val_main_v34_apply, val_main_v33_apply, val_main_v32_apply, val_main_v31_apply, val_main_cst_3_apply,
      val_main_v30_apply, val_main_v29_apply, val_main_v37_apply, val_main_v36_apply, val_main_v28_apply, val_main_v27_apply]
    have e0 : idx_main_v26 (ix3 b (⟨t.val - 4096, by omega⟩ : Fin 256) d) = ix3 b t d := funext fun (a : Fin 3) => Fin.ext (match a with
        | ⟨0, _⟩ => rfl
        | ⟨1, _⟩ => by show 4096 + (t.val - 4096) = t.val; omega
        | ⟨2, _⟩ => rfl)
    have e1 : idx_main_v29 (idx_main_v30 (idx_main_v33 (idx_main_v34 (ix3 b (⟨t.val - 4096, by omega⟩ : Fin 256) d)))) = ix3 (16 : Fin 24) 1 d :=
      funext fun (a : Fin 3) => Fin.ext (match a with
        | ⟨0, _⟩ => rfl
        | ⟨1, _⟩ => rfl
        | ⟨2, _⟩ => by show d.val % 1024 = d.val; omega)
    have e2 : idx_main_v27 (idx_main_v28 (idx_main_v36 (idx_main_v37 (ix3 b (⟨t.val - 4096, by omega⟩ : Fin 256) d)))) = ix3 (16 : Fin 24) 0 d :=
      funext fun (a : Fin 3) => Fin.ext (match a with
        | ⟨0, _⟩ => rfl
        | ⟨1, _⟩ => rfl
        | ⟨2, _⟩ => by show d.val % 1024 = d.val; omega)
    rw [e0, e1, e2, ref_normed]
    rfl

theorem ref_proj (b : Fin 16) (t : Fin 4352) (n : ℕ) (hn : n < 3088) : val_main_v40 (F := Ideal) x0 x1 x2 x3 (ix3 b t ⟨n, hn⟩) = proj x0 x1 x2 x3 b t n := by
  rw [val_main_v40_apply]
  unfold proj wcol
  refine Finset.sum_congr rfl fun d _ => ?_
  rw [dif_pos hn]
  have e0 : lidx_main_v40 (ix3 b t ⟨n, hn⟩) d = ix3 b t d := funext fun (a : Fin 3) => match a with | ⟨0, _⟩ => rfl | ⟨1, _⟩ => rfl | ⟨2, _⟩ => rfl
  have e1 : ridx_main_v40 (ix3 b t ⟨n, hn⟩) d = ix2 d ⟨n, hn⟩ := funext fun (a : Fin 2) => match a with | ⟨0, _⟩ => rfl | ⟨1, _⟩ => rfl
  rw [e0, e1, ref_act]

theorem ref_z (b : Fin 16) (t : Fin 4352) (n : Fin 512) : val_main_v120 (F := Ideal) x0 x1 x2 x3 (ix3 b t n) = proj x0 x1 x2 x3 b t (1024 + n.val) := by
  rw [val_main_v120_apply, ← ref_proj _ _ _ _ b t (1024 + n.val) (by omega)]
  exact congrArg (val_main_v40 (F := Ideal) x0 x1 x2 x3) (funext fun (a : Fin 3) => match a with | ⟨0, _⟩ => rfl | ⟨1, _⟩ => rfl | ⟨2, _⟩ => rfl)

theorem ref_xbc (b : Fin 16) (t : Fin 4352) (n : Fin 768) : val_main_v121 (F := Ideal) x0 x1 x2 x3 (ix3 b t n) = proj x0 x1 x2 x3 b t (1536 + n.val) := by
  rw [val_main_v121_apply, ← ref_proj _ _ _ _ b t (1536 + n.val) (by omega)]
  exact congrArg (val_main_v40 (F := Ideal) x0 x1 x2 x3) (funext fun (a : Fin 3) => match a with | ⟨0, _⟩ => rfl | ⟨1, _⟩ => rfl | ⟨2, _⟩ => rfl)

theorem ref_dt (b : Fin 16) (t : Fin 4352) (n : Fin 16) : val_main_v122 (F := Ideal) x0 x1 x2 x3 (ix3 b t n) = proj x0 x1 x2 x3 b t (2304 + n.val) := by
  rw [val_main_v122_apply, ← ref_proj _ _ _ _ b t (2304 + n.val) (by omega)]
  exact congrArg (val_main_v40 (F := Ideal) x0 x1 x2 x3) (funext fun (a : Fin 3) => match a with | ⟨0, _⟩ => rfl | ⟨1, _⟩ => rfl | ⟨2, _⟩ => rfl)

end Cert.In

end
-- ==== Proof.InRope.lean ====
/- The input projection's reference: the queries and keys turned by their position, and the retention's part put together. -/
module

public import proofs.«01_k».proof.Proof.InRef

@[expose] public section

set_option maxRecDepth 16384

noncomputable section

namespace Cert.In

open Idealize.ShloMosaic Cert.Reference4Ideal Cert.Reference4Ideal.Gen Cert.Reference4Ideal.Read

variable (x0 : FVec Ideal ⟨3, ![16, 4352, 1024]⟩ .f32) (x1 : FVec Ideal ⟨3, ![24, 6, 1024]⟩ .f32) (x2 : FVec Ideal ⟨1, ![1024]⟩ .f32) (x3 : FVec Ideal ⟨2, ![1024, 3088]⟩ .f32)

theorem q_heads (b : Fin 16) (t : Fin 4352) (k : Fin 4) (c : Fin 64) : val_main_v63 (F := Ideal) x0 x1 x2 x3 (ix4 b t k c) = proj x0 x1 x2 x3 b t (0 + (64 * k.val + c.val)) := by
  have e : val_main_v63 (F := Ideal) x0 x1 x2 x3 (ix4 b t k c) = val_main_v62 (F := Ideal) x0 x1 x2 x3 (ix3 b t (⟨64 * k.val + c.val, by omega⟩ : Fin 256)) := by
    unfold val_main_v63
    refine shapeCast_apply _ _ _ _ ?_
    rw [Shape.rowMajor_val_three, Shape.rowMajor_val_four]
    show (b.val * 4352 + t.val) * 256 + (64 * k.val + c.val) = ((b.val * 4352 + t.val) * 4 + k.val) * 64 + c.val
    omega
  rw [e, val_main_v62_apply, ← ref_proj _ _ _ _ b t (0 + (64 * k.val + c.val)) (by omega)]
  exact congrArg (val_main_v40 (F := Ideal) x0 x1 x2 x3) (funext fun (a : Fin 3) => Fin.ext (match a with
    | ⟨0, _⟩ => rfl
    | ⟨1, _⟩ => rfl
    | ⟨2, _⟩ => by show 64 * k.val + c.val = 0 + (64 * k.val + c.val); omega))

theorem q_split (b : Fin 16) (t : Fin 4096) (k : Fin 4) (i s : Fin 2) (j : Fin 16) :
    val_main_v65 (F := Ideal) x0 x1 x2 x3 (ix6 b t k i s j) = proj x0 x1 x2 x3 b ⟨t.val, by omega⟩ (0 + (64 * k.val + (32 * i.val + 16 * s.val + j.val))) := by
  have e : val_main_v65 (F := Ideal) x0 x1 x2 x3 (ix6 b t k i s j) = val_main_v64 (F := Ideal) x0 x1 x2 x3 (ix4 b t k (⟨32 * i.val + 16 * s.val + j.val, by omega⟩ : Fin 64)) := by
    unfold val_main_v65
    refine shapeCast_apply _ _ _ _ ?_
    rw [Shape.rowMajor_val_four, Shape.rowMajor_val_six]
    show ((b.val * 4096 + t.val) * 4 + k.val) * 64 + (32 * i.val + 16 * s.val + j.val) = ((((b.val * 4096 + t.val) * 4 + k.val) * 2 + i.val) * 2 + s.val) * 16 + j.val
    omega
  rw [e, val_main_v64_apply]
  refine Eq.trans (congrArg (val_main_v63 (F := Ideal) x0 x1 x2 x3) ?_) (q_heads x0 x1 x2 x3 b ⟨t.val, by omega⟩ k ⟨32 * i.val + 16 * s.val + j.val, by omega⟩)
  exact funext fun (a : Fin 4) => match a with | ⟨0, _⟩ => rfl | ⟨1, _⟩ => rfl | ⟨2, _⟩ => rfl | ⟨3, _⟩ => rfl

theorem q_first (b : Fin 16) (t : Fin 4096) (k : Fin 4) (i : Fin 2) (j : Fin 16) :
    val_main_v67 (F := Ideal) x0 x1 x2 x3 (ix5 b t k i j) = proj x0 x1 x2 x3 b ⟨t.val, by omega⟩ (0 + (64 * k.val + (32 * i.val + j.val))) := by
  have e : val_main_v67 (F := Ideal) x0 x1 x2 x3 (ix5 b t k i j) = val_main_v66 (F := Ideal) x0 x1 x2 x3 (ix6 b t k i (0 : Fin 1) j) := by
    unfold val_main_v67
    refine shapeCast_apply _ _ _ _ ?_
    rw [Shape.rowMajor_val_five, Shape.rowMajor_val_six]
    show ((((b.val * 4096 + t.val) * 4 + k.val) * 2 + i.val) * 1 + 0) * 16 + j.val = (((b.val * 4096 + t.val) * 4 + k.val) * 2 + i.val) * 16 + j.val
    omega
  rw [e, val_main_v66_apply]
  refine Eq.trans (congrArg (val_main_v65 (F := Ideal) x0 x1 x2 x3) ?_) (q_split x0 x1 x2 x3 b t k i 0 j)
  exact funext fun (a : Fin 6) => match a with | ⟨0, _⟩ => rfl | ⟨1, _⟩ => rfl | ⟨2, _⟩ => rfl | ⟨3, _⟩ => rfl | ⟨4, _⟩ => rfl | ⟨5, _⟩ => rfl

theorem q_second (b : Fin 16) (t : Fin 4096) (k : Fin 4) (i : Fin 2) (j : Fin 16) :
    val_main_v69 (F := Ideal) x0 x1 x2 x3 (ix5 b t k i j) = proj x0 x1 x2 x3 b ⟨t.val, by omega⟩ (0 + (64 * k.val + (32 * i.val + 16 + j.val))) := by
  have e : val_main_v69 (F := Ideal) x0 x1 x2 x3 (ix5 b t k i j) = val_main_v68 (F := Ideal) x0 x1 x2 x3 (ix6 b t k i (0 : Fin 1) j) := by
    unfold val_main_v69
    refine shapeCast_apply _ _ _ _ ?_
    rw [Shape.rowMajor_val_five, Shape.rowMajor_val_six]
    show ((((b.val * 4096 + t.val) * 4 + k.val) * 2 + i.val) * 1 + 0) * 16 + j.val = (((b.val * 4096 + t.val) * 4 + k.val) * 2 + i.val) * 16 + j.val
    omega
  rw [e, val_main_v68_apply]
  refine Eq.trans (congrArg (val_main_v65 (F := Ideal) x0 x1 x2 x3) ?_) (q_split x0 x1 x2 x3 b t k i 1 j)
  exact funext fun (a : Fin 6) => match a with | ⟨0, _⟩ => rfl | ⟨1, _⟩ => rfl | ⟨2, _⟩ => rfl | ⟨3, _⟩ => rfl | ⟨4, _⟩ => rfl | ⟨5, _⟩ => rfl

theorem q_pair (b : Fin 16) (t : Fin 4096) (k : Fin 4) (i s : Fin 2) (j : Fin 16) :
    val_main_v84 (F := Ideal) x0 x1 x2 x3 (ix6 b t k i s j)
      = if s.val = 0 then val_main_v67 (F := Ideal) x0 x1 x2 x3 (ix5 b t k i j) * val_main_v60 (F := Ideal) (ix3 t i j) - val_main_v69 (F := Ideal) x0 x1 x2 x3 (ix5 b t k i j) * val_main_v61 (F := Ideal) (ix3 t i j)
        else val_main_v69 (F := Ideal) x0 x1 x2 x3 (ix5 b t k i j) * val_main_v60 (F := Ideal) (ix3 t i j) + val_main_v67 (F := Ideal) x0 x1 x2 x3 (ix5 b t k i j) * val_main_v61 (F := Ideal) (ix3 t i j) := by
  unfold val_main_v84
  by_cases hs : s.val = 0
  · rw [if_pos hs]
    refine (concatenate_pair_apply_left (t := S16x4096x4x2x2x16) (4 : Fin 6) _ _ concatenates_S16x4096x4x2x1x16_S16x4096x4x2x1x16_S16x4096x4x2x2x16_d4 (ix6 b t k i s j) rfl (ix6 b t k i (0 : Fin 1) j)
      (fun (a : Fin 6) => match a with | ⟨0, _⟩ => rfl | ⟨1, _⟩ => rfl | ⟨2, _⟩ => rfl | ⟨3, _⟩ => rfl | ⟨4, _⟩ => hs.symm | ⟨5, _⟩ => rfl)).trans ?_
    rw [val_main_v82_apply]
    have e : idx_main_v82 (ix6 b t k i (0 : Fin 1) j) = ix5 b t k i j := funext fun (a : Fin 5) => match a with | ⟨0, _⟩ => rfl | ⟨1, _⟩ => rfl | ⟨2, _⟩ => rfl | ⟨3, _⟩ => rfl | ⟨4, _⟩ => rfl
    rw [e, val_main_v76_apply, val_main_v73_apply, val_main_v75_apply, val_main_v72_apply, val_main_v70_apply, val_main_v74_apply, val_main_v71_apply]
    have ec : idx_main_v70 (idx_main_v72 (ix5 b t k i j)) = ix3 t i j := funext fun (a : Fin 3) => match a with | ⟨0, _⟩ => rfl | ⟨1, _⟩ => rfl | ⟨2, _⟩ => rfl
    have es : idx_main_v71 (idx_main_v74 (ix5 b t k i j)) = ix3 t i j := funext fun (a : Fin 3) => match a with | ⟨0, _⟩ => rfl | ⟨1, _⟩ => rfl | ⟨2, _⟩ => rfl
    rw [ec, es]
    rfl
  · rw [if_neg hs]
    refine (concatenate_pair_apply_right (t := S16x4096x4x2x2x16) (4 : Fin 6) _ _ concatenates_S16x4096x4x2x1x16_S16x4096x4x2x1x16_S16x4096x4x2x2x16_d4 (ix6 b t k i s j) rfl rfl (ix6 b t k i (0 : Fin 1) j)
      (fun (a : Fin 6) => match a with | ⟨0, _⟩ => fun _ => rfl | ⟨1, _⟩ => fun _ => rfl | ⟨2, _⟩ => fun _ => rfl | ⟨3, _⟩ => fun _ => rfl | ⟨4, _⟩ => fun q => absurd rfl q | ⟨5, _⟩ => fun _ => rfl) ?_).trans ?_
    · show 0 + 1 = s.val
      omega
    rw [val_main_v83_apply]
    have e : idx_main_v83 (ix6 b t k i (0 : Fin 1) j) = ix5 b t k i j := funext fun (a : Fin 5) => match a with | ⟨0, _⟩ => rfl | ⟨1, _⟩ => rfl | ⟨2, _⟩ => rfl | ⟨3, _⟩ => rfl | ⟨4, _⟩ => rfl
    rw [e, val_main_v81_apply, val_main_v78_apply, val_main_v80_apply, val_main_v77_apply, val_main_v70_apply, val_main_v79_apply, val_main_v71_apply]
    have ec : idx_main_v70 (idx_main_v77 (ix5 b t k i j)) = ix3 t i j := funext fun (a : Fin 3) => match a with | ⟨0, _⟩ => rfl | ⟨1, _⟩ => rfl | ⟨2, _⟩ => rfl
    have es : idx_main_v71 (idx_main_v79 (ix5 b t k i j)) = ix3 t i j := funext fun (a : Fin 3) => match a with | ⟨0, _⟩ => rfl | ⟨1, _⟩ => rfl | ⟨2, _⟩ => rfl
    rw [ec, es]
    rfl

theorem q_latent (b : Fin 16) (t : Fin 4096) (k : Fin 4) (c : Fin 64) :
    val_main_v85 (F := Ideal) x0 x1 x2 x3 (ix4 b t k c) = turned (fun n => proj x0 x1 x2 x3 b ⟨t.val, by omega⟩ (0 + n)) t.val (64 * k.val + c.val) := by
  have e : val_main_v85 (F := Ideal) x0 x1 x2 x3 (ix4 b t k c)
      = val_main_v84 (F := Ideal) x0 x1 x2 x3 (ix6 b t k (⟨c.val / 32, by omega⟩ : Fin 2) (⟨c.val % 32 / 16, by omega⟩ : Fin 2) (⟨c.val % 16, by omega⟩ : Fin 16)) := by
    unfold val_main_v85
    refine shapeCast_apply _ _ _ _ ?_
    rw [Shape.rowMajor_val_four, Shape.rowMajor_val_six]
    show ((((b.val * 4096 + t.val) * 4 + k.val) * 2 + c.val / 32) * 2 + c.val % 32 / 16) * 16 + c.val % 16 = ((b.val * 4096 + t.val) * 4 + k.val) * 64 + c.val
    omega
  rw [e, q_pair, q_first, q_second]
  unfold turned cosAt sinAt
  rw [if_pos t.isLt, dif_pos t.isLt, dif_pos t.isLt]
  have ei : (⟨(64 * k.val + c.val) % 64 / 32, by omega⟩ : Fin 2) = ⟨c.val / 32, by omega⟩ := Fin.ext (by show (64 * k.val + c.val) % 64 / 32 = c.val / 32; omega)
  have ej : (⟨(64 * k.val + c.val) % 16, by omega⟩ : Fin 16) = ⟨c.val % 16, by omega⟩ := Fin.ext (by show (64 * k.val + c.val) % 16 = c.val % 16; omega)
  rw [ei, ej]
  by_cases hs : c.val % 32 < 16
  · rw [if_pos (show c.val % 32 / 16 = 0 by omega), if_pos (by omega)]
    have a1 : 0 + (64 * k.val + (32 * (c.val / 32) + c.val % 16)) = 0 + (64 * k.val + c.val) := by omega
    have a2 : 0 + (64 * k.val + (32 * (c.val / 32) + 16 + c.val % 16)) = 0 + (64 * k.val + c.val + 16) := by omega
    simp only [a1, a2]
  · rw [if_neg (show ¬c.val % 32 / 16 = 0 by omega), if_neg (by omega)]
    have a1 : 0 + (64 * k.val + (32 * (c.val / 32) + c.val % 16)) = 0 + (64 * k.val + c.val - 16) := by omega
    have a2 : 0 + (64 * k.val + (32 * (c.val / 32) + 16 + c.val % 16)) = 0 + (64 * k.val + c.val) := by omega
    simp only [a1, a2]

theorem q_all (b : Fin 16) (t : Fin 4352) (k : Fin 4) (c : Fin 64) :
    val_main_v87 (F := Ideal) x0 x1 x2 x3 (ix4 b t k c) = turned (fun n => proj x0 x1 x2 x3 b t (0 + n)) t.val (64 * k.val + c.val) := by
  unfold val_main_v87
  by_cases h : t.val < 4096
  · refine (concatenate_pair_apply_left (t := S16x4352x4x64) (1 : Fin 4) _ _ concatenates_S16x4096x4x64_S16x256x4x64_S16x4352x4x64_d1 (ix4 b t k c) rfl (ix4 b ⟨t.val, h⟩ k c)
      (fun (a : Fin 4) => match a with | ⟨0, _⟩ => rfl | ⟨1, _⟩ => rfl | ⟨2, _⟩ => rfl | ⟨3, _⟩ => rfl)).trans ?_
    exact q_latent x0 x1 x2 x3 b ⟨t.val, h⟩ k c
  · refine (concatenate_pair_apply_right (t := S16x4352x4x64) (1 : Fin 4) _ _ concatenates_S16x4096x4x64_S16x256x4x64_S16x4352x4x64_d1 (ix4 b t k c) rfl rfl (ix4 b (⟨t.val - 4096, by omega⟩ : Fin 256) k c)
      (fun (a : Fin 4) => match a with | ⟨0, _⟩ => fun _ => rfl | ⟨1, _⟩ => fun q => absurd rfl q | ⟨2, _⟩ => fun _ => rfl | ⟨3, _⟩ => fun _ => rfl) ?_).trans ?_
    · show t.val - 4096 + 4096 = t.val
      omega
    unfold turned
    rw [if_neg h, val_main_v86_apply]
    refine Eq.trans (congrArg (val_main_v63 (F := Ideal) x0 x1 x2 x3) ?_) (q_heads x0 x1 x2 x3 b t k c)
    exact funext fun (a : Fin 4) => Fin.ext (match a with
      | ⟨0, _⟩ => rfl
      | ⟨1, _⟩ => by show 4096 + (t.val - 4096) = t.val; omega
      | ⟨2, _⟩ => rfl
      | ⟨3, _⟩ => rfl)

theorem k_heads (b : Fin 16) (t : Fin 4352) (k : Fin 4) (c : Fin 64) : val_main_v89 (F := Ideal) x0 x1 x2 x3 (ix4 b t k c) = proj x0 x1 x2 x3 b t (256 + (64 * k.val + c.val)) := by
  have e : val_main_v89 (F := Ideal) x0 x1 x2 x3 (ix4 b t k c) = val_main_v88 (F := Ideal) x0 x1 x2 x3 (ix3 b t (⟨64 * k.val + c.val, by omega⟩ : Fin 256)) := by
    unfold val_main_v89
    refine shapeCast_apply _ _ _ _ ?_
    rw [Shape.rowMajor_val_three, Shape.rowMajor_val_four]
    show (b.val * 4352 + t.val) * 256 + (64 * k.val + c.val) = ((b.val * 4352 + t.val) * 4 + k.val) * 64 + c.val
    omega
  rw [e, val_main_v88_apply, ← ref_proj _ _ _ _ b t (256 + (64 * k.val + c.val)) (by omega)]
  exact congrArg (val_main_v40 (F := Ideal) x0 x1 x2 x3) (funext fun (a : Fin 3) => Fin.ext (match a with
    | ⟨0, _⟩ => rfl
    | ⟨1, _⟩ => rfl
    | ⟨2, _⟩ => by show 256 + (64 * k.val + c.val) = 256 + (64 * k.val + c.val); omega))

theorem k_split (b : Fin 16) (t : Fin 4096) (k : Fin 4) (i s : Fin 2) (j : Fin 16) :
    val_main_v91 (F := Ideal) x0 x1 x2 x3 (ix6 b t k i s j) = proj x0 x1 x2 x3 b ⟨t.val, by omega⟩ (256 + (64 * k.val + (32 * i.val + 16 * s.val + j.val))) := by
  have e : val_main_v91 (F := Ideal) x0 x1 x2 x3 (ix6 b t k i s j) = val_main_v90 (F := Ideal) x0 x1 x2 x3 (ix4 b t k (⟨32 * i.val + 16 * s.val + j.val, by omega⟩ : Fin 64)) := by
    unfold val_main_v91
    refine shapeCast_apply _ _ _ _ ?_
    rw [Shape.rowMajor_val_four, Shape.rowMajor_val_six]
    show ((b.val * 4096 + t.val) * 4 + k.val) * 64 + (32 * i.val + 16 * s.val + j.val) = ((((b.val * 4096 + t.val) * 4 + k.val) * 2 + i.val) * 2 + s.val) * 16 + j.val
    omega
  rw [e, val_main_v90_apply]
  refine Eq.trans (congrArg (val_main_v89 (F := Ideal) x0 x1 x2 x3) ?_) (k_heads x0 x1 x2 x3 b ⟨t.val, by omega⟩ k ⟨32 * i.val + 16 * s.val + j.val, by omega⟩)
  exact funext fun (a : Fin 4) => match a with | ⟨0, _⟩ => rfl | ⟨1, _⟩ => rfl | ⟨2, _⟩ => rfl | ⟨3, _⟩ => rfl

theorem k_first (b : Fin 16) (t : Fin 4096) (k : Fin 4) (i : Fin 2) (j : Fin 16) :
    val_main_v93 (F := Ideal) x0 x1 x2 x3 (ix5 b t k i j) = proj x0 x1 x2 x3 b ⟨t.val, by omega⟩ (256 + (64 * k.val + (32 * i.val + j.val))) := by
  have e : val_main_v93 (F := Ideal) x0 x1 x2 x3 (ix5 b t k i j) = val_main_v92 (F := Ideal) x0 x1 x2 x3 (ix6 b t k i (0 : Fin 1) j) := by
    unfold val_main_v93
    refine shapeCast_apply _ _ _ _ ?_
    rw [Shape.rowMajor_val_five, Shape.rowMajor_val_six]
    show ((((b.val * 4096 + t.val) * 4 + k.val) * 2 + i.val) * 1 + 0) * 16 + j.val = (((b.val * 4096 + t.val) * 4 + k.val) * 2 + i.val) * 16 + j.val
    omega
  rw [e, val_main_v92_apply]
  refine Eq.trans (congrArg (val_main_v91 (F := Ideal) x0 x1 x2 x3) ?_) (k_split x0 x1 x2 x3 b t k i 0 j)
  exact funext fun (a : Fin 6) => match a with | ⟨0, _⟩ => rfl | ⟨1, _⟩ => rfl | ⟨2, _⟩ => rfl | ⟨3, _⟩ => rfl | ⟨4, _⟩ => rfl | ⟨5, _⟩ => rfl

theorem k_second (b : Fin 16) (t : Fin 4096) (k : Fin 4) (i : Fin 2) (j : Fin 16) :
    val_main_v95 (F := Ideal) x0 x1 x2 x3 (ix5 b t k i j) = proj x0 x1 x2 x3 b ⟨t.val, by omega⟩ (256 + (64 * k.val + (32 * i.val + 16 + j.val))) := by
  have e : val_main_v95 (F := Ideal) x0 x1 x2 x3 (ix5 b t k i j) = val_main_v94 (F := Ideal) x0 x1 x2 x3 (ix6 b t k i (0 : Fin 1) j) := by
    unfold val_main_v95
    refine shapeCast_apply _ _ _ _ ?_
    rw [Shape.rowMajor_val_five, Shape.rowMajor_val_six]
    show ((((b.val * 4096 + t.val) * 4 + k.val) * 2 + i.val) * 1 + 0) * 16 + j.val = (((b.val * 4096 + t.val) * 4 + k.val) * 2 + i.val) * 16 + j.val
    omega
  rw [e, val_main_v94_apply]
  refine Eq.trans (congrArg (val_main_v91 (F := Ideal) x0 x1 x2 x3) ?_) (k_split x0 x1 x2 x3 b t k i 1 j)
  exact funext fun (a : Fin 6) => match a with | ⟨0, _⟩ => rfl | ⟨1, _⟩ => rfl | ⟨2, _⟩ => rfl | ⟨3, _⟩ => rfl | ⟨4, _⟩ => rfl | ⟨5, _⟩ => rfl

theorem k_pair (b : Fin 16) (t : Fin 4096) (k : Fin 4) (i s : Fin 2) (j : Fin 16) :
    val_main_v110 (F := Ideal) x0 x1 x2 x3 (ix6 b t k i s j)
      = if s.val = 0 then val_main_v93 (F := Ideal) x0 x1 x2 x3 (ix5 b t k i j) * val_main_v60 (F := Ideal) (ix3 t i j) - val_main_v95 (F := Ideal) x0 x1 x2 x3 (ix5 b t k i j) * val_main_v61 (F := Ideal) (ix3 t i j)
        else val_main_v95 (F := Ideal) x0 x1 x2 x3 (ix5 b t k i j) * val_main_v60 (F := Ideal) (ix3 t i j) + val_main_v93 (F := Ideal) x0 x1 x2 x3 (ix5 b t k i j) * val_main_v61 (F := Ideal) (ix3 t i j) := by
  unfold val_main_v110
  by_cases hs : s.val = 0
  · rw [if_pos hs]
    refine (concatenate_pair_apply_left (t := S16x4096x4x2x2x16) (4 : Fin 6) _ _ concatenates_S16x4096x4x2x1x16_S16x4096x4x2x1x16_S16x4096x4x2x2x16_d4 (ix6 b t k i s j) rfl (ix6 b t k i (0 : Fin 1) j)
      (fun (a : Fin 6) => match a with | ⟨0, _⟩ => rfl | ⟨1, _⟩ => rfl | ⟨2, _⟩ => rfl | ⟨3, _⟩ => rfl | ⟨4, _⟩ => hs.symm | ⟨5, _⟩ => rfl)).trans ?_
    rw [val_main_v108_apply]
    have e : idx_main_v108 (ix6 b t k i (0 : Fin 1) j) = ix5 b t k i j := funext fun (a : Fin 5) => match a with | ⟨0, _⟩ => rfl | ⟨1, _⟩ => rfl | ⟨2, _⟩ => rfl | ⟨3, _⟩ => rfl | ⟨4, _⟩ => rfl
    rw [e, val_main_v102_apply, val_main_v99_apply, val_main_v101_apply, val_main_v98_apply, val_main_v96_apply, val_main_v100_apply, val_main_v97_apply]
    have ec : idx_main_v96 (idx_main_v98 (ix5 b t k i j)) = ix3 t i j := funext fun (a : Fin 3) => match a with | ⟨0, _⟩ => rfl | ⟨1, _⟩ => rfl | ⟨2, _⟩ => rfl
    have es : idx_main_v97 (idx_main_v100 (ix5 b t k i j)) = ix3 t i j := funext fun (a : Fin 3) => match a with | ⟨0, _⟩ => rfl | ⟨1, _⟩ => rfl | ⟨2, _⟩ => rfl
    rw [ec, es]
    rfl
  · rw [if_neg hs]
    refine (concatenate_pair_apply_right (t := S16x4096x4x2x2x16) (4 : Fin 6) _ _ concatenates_S16x4096x4x2x1x16_S16x4096x4x2x1x16_S16x4096x4x2x2x16_d4 (ix6 b t k i s j) rfl rfl (ix6 b t k i (0 : Fin 1) j)
      (fun (a : Fin 6) => match a with | ⟨0, _⟩ => fun _ => rfl | ⟨1, _⟩ => fun _ => rfl | ⟨2, _⟩ => fun _ => rfl | ⟨3, _⟩ => fun _ => rfl | ⟨4, _⟩ => fun q => absurd rfl q | ⟨5, _⟩ => fun _ => rfl) ?_).trans ?_
    · show 0 + 1 = s.val
      omega
    rw [val_main_v109_apply]
    have e : idx_main_v109 (ix6 b t k i (0 : Fin 1) j) = ix5 b t k i j := funext fun (a : Fin 5) => match a with | ⟨0, _⟩ => rfl | ⟨1, _⟩ => rfl | ⟨2, _⟩ => rfl | ⟨3, _⟩ => rfl | ⟨4, _⟩ => rfl
    rw [e, val_main_v107_apply, val_main_v104_apply, val_main_v106_apply, val_main_v103_apply, val_main_v96_apply, val_main_v105_apply, val_main_v97_apply]
    have ec : idx_main_v96 (idx_main_v103 (ix5 b t k i j)) = ix3 t i j := funext fun (a : Fin 3) => match a with | ⟨0, _⟩ => rfl | ⟨1, _⟩ => rfl | ⟨2, _⟩ => rfl
    have es : idx_main_v97 (idx_main_v105 (ix5 b t k i j)) = ix3 t i j := funext fun (a : Fin 3) => match a with | ⟨0, _⟩ => rfl | ⟨1, _⟩ => rfl | ⟨2, _⟩ => rfl
    rw [ec, es]
    rfl

theorem k_latent (b : Fin 16) (t : Fin 4096) (k : Fin 4) (c : Fin 64) :
    val_main_v111 (F := Ideal) x0 x1 x2 x3 (ix4 b t k c) = turned (fun n => proj x0 x1 x2 x3 b ⟨t.val, by omega⟩ (256 + n)) t.val (64 * k.val + c.val) := by
  have e : val_main_v111 (F := Ideal) x0 x1 x2 x3 (ix4 b t k c)
      = val_main_v110 (F := Ideal) x0 x1 x2 x3 (ix6 b t k (⟨c.val / 32, by omega⟩ : Fin 2) (⟨c.val % 32 / 16, by omega⟩ : Fin 2) (⟨c.val % 16, by omega⟩ : Fin 16)) := by
    unfold val_main_v111
    refine shapeCast_apply _ _ _ _ ?_
    rw [Shape.rowMajor_val_four, Shape.rowMajor_val_six]
    show ((((b.val * 4096 + t.val) * 4 + k.val) * 2 + c.val / 32) * 2 + c.val % 32 / 16) * 16 + c.val % 16 = ((b.val * 4096 + t.val) * 4 + k.val) * 64 + c.val
    omega
  rw [e, k_pair, k_first, k_second]
  unfold turned cosAt sinAt
  rw [if_pos t.isLt, dif_pos t.isLt, dif_pos t.isLt]
  have ei : (⟨(64 * k.val + c.val) % 64 / 32, by omega⟩ : Fin 2) = ⟨c.val / 32, by omega⟩ := Fin.ext (by show (64 * k.val + c.val) % 64 / 32 = c.val / 32; omega)
  have ej : (⟨(64 * k.val + c.val) % 16, by omega⟩ : Fin 16) = ⟨c.val % 16, by omega⟩ := Fin.ext (by show (64 * k.val + c.val) % 16 = c.val % 16; omega)
  rw [ei, ej]
  by_cases hs : c.val % 32 < 16
  · rw [if_pos (show c.val % 32 / 16 = 0 by omega), if_pos (by omega)]
    have a1 : 256 + (64 * k.val + (32 * (c.val / 32) + c.val % 16)) = 256 + (64 * k.val + c.val) := by omega
    have a2 : 256 + (64 * k.val + (32 * (c.val / 32) + 16 + c.val % 16)) = 256 + (64 * k.val + c.val + 16) := by omega
    simp only [a1, a2]
  · rw [if_neg (show ¬c.val % 32 / 16 = 0 by omega), if_neg (by omega)]
    have a1 : 256 + (64 * k.val + (32 * (c.val / 32) + c.val % 16)) = 256 + (64 * k.val + c.val - 16) := by omega
    have a2 : 256 + (64 * k.val + (32 * (c.val / 32) + 16 + c.val % 16)) = 256 + (64 * k.val + c.val) := by omega
    simp only [a1, a2]

theorem k_all (b : Fin 16) (t : Fin 4352) (k : Fin 4) (c : Fin 64) :
    val_main_v113 (F := Ideal) x0 x1 x2 x3 (ix4 b t k c) = turned (fun n => proj x0 x1 x2 x3 b t (256 + n)) t.val (64 * k.val + c.val) := by
  unfold val_main_v113
  by_cases h : t.val < 4096
  · refine (concatenate_pair_apply_left (t := S16x4352x4x64) (1 : Fin 4) _ _ concatenates_S16x4096x4x64_S16x256x4x64_S16x4352x4x64_d1 (ix4 b t k c) rfl (ix4 b ⟨t.val, h⟩ k c)
      (fun (a : Fin 4) => match a with | ⟨0, _⟩ => rfl | ⟨1, _⟩ => rfl | ⟨2, _⟩ => rfl | ⟨3, _⟩ => rfl)).trans ?_
    exact k_latent x0 x1 x2 x3 b ⟨t.val, h⟩ k c
  · refine (concatenate_pair_apply_right (t := S16x4352x4x64) (1 : Fin 4) _ _ concatenates_S16x4096x4x64_S16x256x4x64_S16x4352x4x64_d1 (ix4 b t k c) rfl rfl (ix4 b (⟨t.val - 4096, by omega⟩ : Fin 256) k c)
      (fun (a : Fin 4) => match a with | ⟨0, _⟩ => fun _ => rfl | ⟨1, _⟩ => fun q => absurd rfl q | ⟨2, _⟩ => fun _ => rfl | ⟨3, _⟩ => fun _ => rfl) ?_).trans ?_
    · show t.val - 4096 + 4096 = t.val
      omega
    unfold turned
    rw [if_neg h, val_main_v112_apply]
    refine Eq.trans (congrArg (val_main_v89 (F := Ideal) x0 x1 x2 x3) ?_) (k_heads x0 x1 x2 x3 b t k c)
    exact funext fun (a : Fin 4) => Fin.ext (match a with
      | ⟨0, _⟩ => rfl
      | ⟨1, _⟩ => by show 4096 + (t.val - 4096) = t.val; omega
      | ⟨2, _⟩ => rfl
      | ⟨3, _⟩ => rfl)

/-- The retention's part: queries, keys over the root of their length, values and gates. -/
def retAt (f : ℕ → EReal) (t n : ℕ) : EReal :=
  if n < 256 then turned (fun l => f (0 + l)) t n else if n < 512 then turned (fun l => f (256 + l)) t (n - 256) * Ideal.ofBits .f32 0x3E000000#32 else f n

theorem ref_ret (b : Fin 16) (t : Fin 4352) (n : Fin 1024) : val_main_v119 (F := Ideal) x0 x1 x2 x3 (ix3 b t n) = retAt (proj x0 x1 x2 x3 b t) t.val n.val := by
  unfold val_main_v119 retAt
  by_cases h : n.val < 256
  · rw [if_pos h]
    refine (concatenate_apply_piece (t := S16x4352x1024) (2 : Fin 3) [⟨S16x4352x256, val_main_v116 (F := Ideal) x0 x1 x2 x3⟩, ⟨S16x4352x256, val_main_v117 (F := Ideal) x0 x1 x2 x3⟩, ⟨S16x4352x512, val_main_v118 (F := Ideal) x0 x1 x2 x3⟩]
      concatenates_S16x4352x256_S16x4352x256_S16x4352x512_S16x4352x1024_d2 (ix3 b t n) 0 (by show 0 < 3; decide) S16x4352x256 _ rfl rfl 0 rfl
      (ix3 b t ⟨n.val, h⟩) (fun (a : Fin 3) => match a with | ⟨0, _⟩ => fun _ => rfl | ⟨1, _⟩ => fun _ => rfl | ⟨2, _⟩ => fun q => absurd rfl q) (by show 0 + n.val = n.val; omega)).trans ?_
    have e : val_main_v116 (F := Ideal) x0 x1 x2 x3 (ix3 b t ⟨n.val, h⟩) = val_main_v87 (F := Ideal) x0 x1 x2 x3 (ix4 b t (⟨n.val / 64, by omega⟩ : Fin 4) (⟨n.val % 64, by omega⟩ : Fin 64)) := by
      unfold val_main_v116
      refine shapeCast_apply _ _ _ _ ?_
      rw [Shape.rowMajor_val_four, Shape.rowMajor_val_three]
      show ((b.val * 4352 + t.val) * 4 + n.val / 64) * 64 + n.val % 64 = (b.val * 4352 + t.val) * 256 + n.val
      omega
    rw [e, q_all]
    exact congrArg (turned _ t.val) (by show 64 * (n.val / 64) + n.val % 64 = n.val; omega)
  · rw [if_neg h]
    by_cases h2 : n.val < 512
    · rw [if_pos h2]
      refine (concatenate_apply_piece (t := S16x4352x1024) (2 : Fin 3) [⟨S16x4352x256, val_main_v116 (F := Ideal) x0 x1 x2 x3⟩, ⟨S16x4352x256, val_main_v117 (F := Ideal) x0 x1 x2 x3⟩, ⟨S16x4352x512, val_main_v118 (F := Ideal) x0 x1 x2 x3⟩]
      concatenates_S16x4352x256_S16x4352x256_S16x4352x512_S16x4352x1024_d2 (ix3 b t n) 1 (by show 1 < 3; decide) S16x4352x256 _ rfl rfl 256 rfl
        (ix3 b t (⟨n.val - 256, by omega⟩ : Fin 256)) (fun (a : Fin 3) => match a with | ⟨0, _⟩ => fun _ => rfl | ⟨1, _⟩ => fun _ => rfl | ⟨2, _⟩ => fun q => absurd rfl q) (by show 256 + (n.val - 256) = n.val; omega)).trans ?_
      have e : val_main_v117 (F := Ideal) x0 x1 x2 x3 (ix3 b t (⟨n.val - 256, by omega⟩ : Fin 256))
          = val_main_v115 (F := Ideal) x0 x1 x2 x3 (ix4 b t (⟨(n.val - 256) / 64, by omega⟩ : Fin 4) (⟨(n.val - 256) % 64, by omega⟩ : Fin 64)) := by
        unfold val_main_v117
        refine shapeCast_apply _ _ _ _ ?_
        rw [Shape.rowMajor_val_four, Shape.rowMajor_val_three]
        show ((b.val * 4352 + t.val) * 4 + (n.val - 256) / 64) * 64 + (n.val - 256) % 64 = (b.val * 4352 + t.val) * 256 + (n.val - 256)
        omega
      rw [e, val_main_v115_apply, k_all, val_main_v114_apply, val_main_cst_8_apply]
      exact congrArg (fun l : ℕ => turned (fun n => proj x0 x1 x2 x3 b t (256 + n)) t.val l * Ideal.ofBits .f32 0x3E000000#32) (by show 64 * ((n.val - 256) / 64) + (n.val - 256) % 64 = n.val - 256; omega)
    · rw [if_neg h2]
      refine (concatenate_apply_piece (t := S16x4352x1024) (2 : Fin 3) [⟨S16x4352x256, val_main_v116 (F := Ideal) x0 x1 x2 x3⟩, ⟨S16x4352x256, val_main_v117 (F := Ideal) x0 x1 x2 x3⟩, ⟨S16x4352x512, val_main_v118 (F := Ideal) x0 x1 x2 x3⟩]
      concatenates_S16x4352x256_S16x4352x256_S16x4352x512_S16x4352x1024_d2 (ix3 b t n) 2 (by show 2 < 3; decide) S16x4352x512 _ rfl rfl 512 rfl
        (ix3 b t (⟨n.val - 512, by omega⟩ : Fin 512)) (fun (a : Fin 3) => match a with | ⟨0, _⟩ => fun _ => rfl | ⟨1, _⟩ => fun _ => rfl | ⟨2, _⟩ => fun q => absurd rfl q) (by show 512 + (n.val - 512) = n.val; omega)).trans ?_
      rw [val_main_v118_apply, ← ref_proj _ _ _ _ b t n.val (by omega)]
      exact congrArg (val_main_v40 (F := Ideal) x0 x1 x2 x3) (funext fun (a : Fin 3) => Fin.ext (match a with
        | ⟨0, _⟩ => rfl
        | ⟨1, _⟩ => rfl
        | ⟨2, _⟩ => by show 512 + (n.val - 512) = n.val; omega))

end Cert.In

end
-- ==== Proof.InHost.lean ====
/- The input projection's operands, as the kernel's host code sets them. -/
module

public import proofs.«01_k».proof.Proof.InRope
public import proofs.«01_k».proof.Proof.Gen.Kernel4Ideal.Value
public import Idealize.ShloMosaic.Lib.StableHlo.RunRead

@[expose] public section

set_option maxRecDepth 16384

noncomputable section

namespace Cert.In

open Idealize.ShloMosaic Idealize.ShloMosaic.TcCoe Cert.Kernel4Ideal Cert.Kernel4Ideal.Gen

/-- The first axis's sixteen lanes. -/
def rowLanes (x : FVec Ideal S4096x2x16 .f32) : FVec Ideal S4096x16 .f32 :=
  shapeCast S4096x16 (extractStridedSlice S4096x1x16 ![0, 0, 0] x slices_S4096x2x16_S4096x1x16_0_0_0) shapeCasts_S4096x1x16_S4096x16
/-- The second axis's sixteen lanes. -/
def colLanes (x : FVec Ideal S4096x2x16 .f32) : FVec Ideal S4096x16 .f32 :=
  shapeCast S4096x16 (extractStridedSlice S4096x1x16 ![0, 1, 0] x slices_S4096x2x16_S4096x1x16_0_1_0) shapeCasts_S4096x1x16_S4096x16
/-- Four groups of sixteen lanes side by side. -/
def join4 (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1
theorem join4_congr {a b c d a' b' c' d' : FVec Ideal S4096x16 .f32} (h1 : a = a') (h2 : b = b') (h3 : c = c') (h4 : d = d') : join4 a b c d = join4 a' b' c' d' := by
  rw [h1, h2, h3, h4]
/-- The context's rows below, and four heads side by side. -/
def heads4 (x : FVec Ideal S4096x64 .f32) (y : BitVec 32) : FVec Ideal S4352x256 .f32 :=
  shapeCast S4352x256 (broadcastInDim S1x4352x4x64 ![0, 1, 2, 3] bcast_S1x4352x1x64_S1x4352x4x64_0_1_2_3 (shapeCast S1x4352x1x64
    (concatenate S4352x64 0 [⟨S4096x64, x⟩, ⟨S256x64, broadcastInDim S256x64 ![] bcast_S_S256x64 (constant S_ .f32 y)⟩] concatenates_S4096x64_S256x64_S4352x64_d0)
    shapeCasts_S4352x64_S1x4352x1x64)) shapeCasts_S1x4352x4x64_S4352x256

/-- The matrix's groups of columns side by side. -/
def join13 (a0 : FVec Ideal S1024x256 .f32) (a1 : FVec Ideal S1024x256 .f32) (a2 : FVec Ideal S1024x256 .f32) (a3 : FVec Ideal S1024x256 .f32) (a4 : FVec Ideal S1024x512 .f32) (a5 : FVec Ideal S1024x512 .f32) (a6 : FVec Ideal S1024x128 .f32) (a7 : FVec Ideal S1024x128 .f32) (a8 : FVec Ideal S1024x256 .f32) (a9 : FVec Ideal S1024x256 .f32) (a10 : FVec Ideal S1024x256 .f32) (a11 : FVec Ideal S1024x16 .f32) (a12 : FVec Ideal S1024x112 .f32) : FVec Ideal S1024x3200 .f32 :=
  concatenate S1024x3200 1 [⟨S1024x256, a0⟩, ⟨S1024x256, a1⟩, ⟨S1024x256, a2⟩, ⟨S1024x256, a3⟩, ⟨S1024x512, a4⟩, ⟨S1024x512, a5⟩, ⟨S1024x128, a6⟩, ⟨S1024x128, a7⟩, ⟨S1024x256, a8⟩, ⟨S1024x256, a9⟩, ⟨S1024x256, a10⟩, ⟨S1024x16, a11⟩, ⟨S1024x112, a12⟩] concatenates_S1024x256_S1024x256_S1024x256_S1024x256_S1024x512_S1024x512_S1024x128_S1024x128_S1024x256_S1024x256_S1024x256_S1024x16_S1024x112_S1024x3200_d1
/-- The matrix as the kernel reads it: the steps' columns last, and padded. -/
def packed (w : FVec Ideal S1024x3088 .f32) : FVec Ideal S1024x3200 .f32 :=
  join13 (extractStridedSlice S1024x256 ![0, 0] w slices_S1024x3088_S1024x256_0_0) (extractStridedSlice S1024x256 ![0, 256] w slices_S1024x3088_S1024x256_0_256) (extractStridedSlice S1024x256 ![0, 512] w slices_S1024x3088_S1024x256_0_512) (extractStridedSlice S1024x256 ![0, 768] w slices_S1024x3088_S1024x256_0_768) (extractStridedSlice S1024x512 ![0, 1024] w slices_S1024x3088_S1024x512_0_1024) (extractStridedSlice S1024x512 ![0, 1536] w slices_S1024x3088_S1024x512_0_1536) (extractStridedSlice S1024x128 ![0, 2048] w slices_S1024x3088_S1024x128_0_2048) (extractStridedSlice S1024x128 ![0, 2176] w slices_S1024x3088_S1024x128_0_2176) (extractStridedSlice S1024x256 ![0, 2320] w slices_S1024x3088_S1024x256_0_2320) (extractStridedSlice S1024x256 ![0, 2576] w slices_S1024x3088_S1024x256_0_2576) (extractStridedSlice S1024x256 ![0, 2832] w slices_S1024x3088_S1024x256_0_2832) (extractStridedSlice S1024x16 ![0, 2304] w slices_S1024x3088_S1024x16_0_2304) (broadcastInDim S1024x112 ![] bcast_S_S1024x112 (constant S_ .f32 0x00000000#32))
theorem join13_congr {a0 b0 : FVec Ideal S1024x256 .f32} {a1 b1 : FVec Ideal S1024x256 .f32} {a2 b2 : FVec Ideal S1024x256 .f32} {a3 b3 : FVec Ideal S1024x256 .f32} {a4 b4 : FVec Ideal S1024x512 .f32} {a5 b5 : FVec Ideal S1024x512 .f32} {a6 b6 : FVec Ideal S1024x128 .f32} {a7 b7 : FVec Ideal S1024x128 .f32} {a8 b8 : FVec Ideal S1024x256 .f32} {a9 b9 : FVec Ideal S1024x256 .f32} {a10 b10 : FVec Ideal S1024x256 .f32} {a11 b11 : FVec Ideal S1024x16 .f32} {a12 b12 : FVec Ideal S1024x112 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    join13 a0 a1 a2 a3 a4 a5 a6 a7 a8 a9 a10 a11 a12 = join13 b0 b1 b2 b3 b4 b5 b6 b7 b8 b9 b10 b11 b12 := by
  rw [h0, h1, h2, h3, h4, h5, h6, h7, h8, h9, h10, h11, h12]

variable (m : (ℓ : Loc nD τ sig) → Buf (Elt Ideal) ℓ)

abbrev C0 : FVec Ideal S4096x2x16 .f32 := Cert.Reference4Ideal.Read.val_main_v60 (F := Ideal)
abbrev S0 : FVec Ideal S4096x2x16 .f32 := Cert.Reference4Ideal.Read.val_main_v61 (F := Ideal)

set_option maxHeartbeats 4000000 in
theorem cos_head (c : Dev nD) : (V m c main_v47 : FVec Ideal S4352x256 .f32) = heads4 (V m c main_v29) 0x3F800000#32 := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  rfl

set_option maxHeartbeats 4000000 in
theorem cos_join (c : Dev nD) : (V m c main_v29 : FVec Ideal S4096x64 .f32) = join4 (rowLanes C0) (rowLanes C0) (colLanes C0) (colLanes C0) := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  show join4 _ _ _ _ = _
  refine join4_congr ?_ ?_ ?_ ?_
  · show StableHlo.upto _ _ _ (Proc.devRef .tc main_v22) = _
    after_reads_simp
    rfl
  · show StableHlo.upto _ _ _ (Proc.devRef .tc main_v24) = _
    after_reads_simp
    rfl
  · show StableHlo.upto _ _ _ (Proc.devRef .tc main_v26) = _
    after_reads_simp
    rfl
  · show StableHlo.upto _ _ _ (Proc.devRef .tc main_v28) = _
    after_reads_simp
    rfl

/-- The table of cosines at the launch's entry. -/
theorem cos_entry (c : Dev nD) : (V m c main_v47 : FVec Ideal S4352x256 .f32) = heads4 (join4 (rowLanes C0) (rowLanes C0) (colLanes C0) (colLanes C0)) 0x3F800000#32 := by
  rw [cos_head, cos_join]

set_option maxHeartbeats 4000000 in
theorem sin_head (c : Dev nD) : (V m c main_v50 : FVec Ideal S4352x256 .f32) = heads4 (V m c main_v40) 0x00000000#32 := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  rfl

set_option maxHeartbeats 4000000 in
theorem sin_join (c : Dev nD) : (V m c main_v40 : FVec Ideal S4096x64 .f32) = join4 (Host.negf (rowLanes S0)) (rowLanes S0) (Host.negf (colLanes S0)) (colLanes S0) := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  show join4 _ _ _ _ = _
  refine join4_congr ?_ ?_ ?_ ?_
  · show StableHlo.upto _ _ _ (Proc.devRef .tc main_v32) = _
    after_reads_simp
    rfl
  · show StableHlo.upto _ _ _ (Proc.devRef .tc main_v34) = _
    after_reads_simp
    rfl
  · show StableHlo.upto _ _ _ (Proc.devRef .tc main_v37) = _
    after_reads_simp
    rfl
  · show StableHlo.upto _ _ _ (Proc.devRef .tc main_v39) = _
    after_reads_simp
    rfl

/-- The table of sines, the lower half of each turn negated. -/
theorem sin_entry (c : Dev nD) : (V m c main_v50 : FVec Ideal S4352x256 .f32) = heads4 (join4 (Host.negf (rowLanes S0)) (rowLanes S0) (Host.negf (colLanes S0)) (colLanes S0)) 0x00000000#32 := by
  rw [sin_head, sin_join]

set_option maxHeartbeats 4000000 in
theorem packed_entry (c : Dev nD) : (V m c main_v65 : FVec Ideal S1024x3200 .bf16) = packed (m ((c.tc : Thread nD τ).loc main_arg3)) := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  show join13 _ _ _ _ _ _ _ _ _ _ _ _ _ = _
  refine join13_congr ?_ ?_ ?_ ?_ ?_ ?_ ?_ ?_ ?_ ?_ ?_ ?_ ?_
  · show StableHlo.upto _ _ _ (Proc.devRef .tc main_v51) = _
    after_reads_simp
  · show StableHlo.upto _ _ _ (Proc.devRef .tc main_v52) = _
    after_reads_simp
  · show StableHlo.upto _ _ _ (Proc.devRef .tc main_v53) = _
    after_reads_simp
  · show StableHlo.upto _ _ _ (Proc.devRef .tc main_v54) = _
    after_reads_simp
  · show StableHlo.upto _ _ _ (Proc.devRef .tc main_v55) = _
    after_reads_simp
  · show StableHlo.upto _ _ _ (Proc.devRef .tc main_v56) = _
    after_reads_simp
  · show StableHlo.upto _ _ _ (Proc.devRef .tc main_v57) = _
    after_reads_simp
  · show StableHlo.upto _ _ _ (Proc.devRef .tc main_v58) = _
    after_reads_simp
  · show StableHlo.upto _ _ _ (Proc.devRef .tc main_v60) = _
    after_reads_simp
  · show StableHlo.upto _ _ _ (Proc.devRef .tc main_v61) = _
    after_reads_simp
  · show StableHlo.upto _ _ _ (Proc.devRef .tc main_v62) = _
    after_reads_simp
  · show StableHlo.upto _ _ _ (Proc.devRef .tc main_v59) = _
    after_reads_simp
  · show StableHlo.upto _ _ _ (Proc.devRef .tc main_v63) = _
    after_reads_simp

set_option maxHeartbeats 4000000 in
theorem norm_entry (c : Dev nD) : (V m c main_v75 : FVec Ideal S1x1024 .f32) = shapeCast S1x1024 (m ((c.tc : Thread nD τ).loc main_arg2) : FVec Ideal S1024 .f32) shapeCasts_S1024_S1x1024 := by
  unfold V
  simp only [hostOps0, hostOps0_1, hostOps0_2, hostOps0_3, hostOps0_4, List.flatten_cons, List.flatten_nil, List.cons_append, List.nil_append, List.append_nil,
    StableHlo.TRef.ternary, StableHlo.TRef.binary, StableHlo.TRef.unary, StableHlo.TRef.nullary, StableHlo.TRef.toBuf, StableHlo.TRef.ofBuf, cast_eq]
  after_reads_simp
  rfl

end Cert.In

end
-- ==== Proof.InTab.lean ====
/- The input projection's operands, entry by entry. -/
module

public import proofs.«01_k».proof.Proof.InHost

@[expose] public section

set_option maxRecDepth 16384

noncomputable section

namespace Cert.In

open Idealize.ShloMosaic Idealize.ShloMosaic.TcCoe Cert.Kernel4Ideal Cert.Kernel4Ideal.Gen

theorem pair_eq {a b : ℕ} {i i' : Fin a} {j j' : Fin b} (h : i.val = i'.val) (k : j.val = j'.val) : ix2 i j = ix2 i' j' := by
  rw [Fin.ext h, Fin.ext k]
theorem trip_eq {a b c : ℕ} {i i' : Fin a} {j j' : Fin b} {k k' : Fin c} (h : i.val = i'.val) (q : j.val = j'.val) (r : k.val = k'.val) : ix3 i j k = ix3 i' j' k' := by
  rw [Fin.ext h, Fin.ext q, Fin.ext r]

theorem dite_val {P : Prop} [Decidable P] {A : P → EReal} {B : ¬P → EReal} {y : EReal} (h1 : ∀ h, A h = y) (h2 : ∀ h, B h = y) : dite P A B = y := by
  by_cases h : P
  · rw [dif_pos h]; exact h1 h
  · rw [dif_neg h]; exact h2 h

/-- The first columns stand where they stood. -/
theorem packed_low (w : FVec Ideal S1024x3088 .f32) (d : Fin 1024) (p : Fin 3200) (h : p.val < 2304) : packed w (ix2 d p) = wcol w d p.val := by
  unfold wcol
  rw [dif_pos (by omega)]
  pointwise [packed, join13]
  repeat' refine dite_val (fun h => ?_) (fun h => ?_)
  all_goals first | (exfalso; omega) | exact congrArg w (pair_eq rfl (by first | (dsimp only; omega) | dsimp only | rfl))

/-- The steps' columns stand last. -/
theorem packed_high (w : FVec Ideal S1024x3088 .f32) (d : Fin 1024) (p : Fin 3200) (h : 3072 ≤ p.val) (h' : p.val < 3088) : packed w (ix2 d p) = wcol w d (p.val - 768) := by
  unfold wcol
  rw [dif_pos (by omega)]
  pointwise [packed, join13]
  repeat' refine dite_val (fun h => ?_) (fun h => ?_)
  all_goals first | (exfalso; omega) | exact congrArg w (pair_eq rfl (by first | (dsimp only; omega) | dsimp only | rfl))

theorem heads_at (x : FVec Ideal S4096x64 .f32) (y : BitVec 32) (t : Fin 4352) (l : Fin 256) :
    heads4 x y (ix2 t l) = if q : t.val < 4096 then x (ix2 ⟨t.val, q⟩ (⟨l.val % 64, by omega⟩ : Fin 64)) else Ideal.ofBits .f32 y := by
  pointwise [heads4]

theorem pick_eq {P Q : Prop} [Decidable P] [Decidable Q] {u v x y z : EReal} (h : (P ∧ Q ∧ z = u) ∨ (¬P ∧ Q ∧ z = x) ∨ (P ∧ ¬Q ∧ z = v) ∨ (¬P ∧ ¬Q ∧ z = y)) :
    z = if P then (if Q then u else v) else (if Q then x else y) := by
  rcases h with ⟨p, q, e⟩ | ⟨p, q, e⟩ | ⟨p, q, e⟩ | ⟨p, q, e⟩
  · rw [if_pos p, if_pos q]; exact e
  · rw [if_neg p, if_pos q]; exact e
  · rw [if_pos p, if_neg q]; exact e
  · rw [if_neg p, if_neg q]; exact e

theorem join4_at (a b c d : FVec Ideal S4096x16 .f32) (t : Fin 4096) (l : Fin 64) : join4 a b c d (ix2 t l) =
    if l.val % 32 < 16 then (if l.val < 32 then a (ix2 t ⟨l.val % 16, by omega⟩) else c (ix2 t ⟨l.val % 16, by omega⟩))
    else (if l.val < 32 then b (ix2 t ⟨l.val % 16, by omega⟩) else d (ix2 t ⟨l.val % 16, by omega⟩)) := by
  pointwise [join4]
  refine dite_val (fun h => ?_) (fun h => dite_val (fun h2 => ?_) (fun h2 => dite_val (fun h3 => ?_) (fun h3 => ?_)))
  · have e : l.val = l.val % 16 := by omega
    exact pick_eq (.inl ⟨by omega, by omega, congrArg a (pair_eq rfl e)⟩)
  · have e : l.val - 16 = l.val % 16 := by omega
    exact pick_eq (.inr (.inl ⟨by omega, by omega, congrArg b (pair_eq rfl e)⟩))
  · have e : l.val - 16 - 16 = l.val % 16 := by omega
    exact pick_eq (.inr (.inr (.inl ⟨by omega, by omega, congrArg c (pair_eq rfl e)⟩)))
  · have e : l.val - 16 - 16 - 16 = l.val % 16 := by omega
    exact pick_eq (.inr (.inr (.inr ⟨by omega, by omega, congrArg d (pair_eq rfl e)⟩)))

theorem row_at (x : FVec Ideal S4096x2x16 .f32) (t : Fin 4096) (j : Fin 16) : rowLanes x (ix2 t j) = x (ix3 t 0 j) := by
  pointwise [rowLanes]
theorem col_at (x : FVec Ideal S4096x2x16 .f32) (t : Fin 4096) (j : Fin 16) : colLanes x (ix2 t j) = x (ix3 t 1 j) := by
  pointwise [colLanes]
theorem neg_at (x : FVec Ideal S4096x16 .f32) (i : S4096x16.Idx) : Host.negf x i = -(x i) := rfl

variable (m : (ℓ : Loc nD τ sig) → Buf (Elt Ideal) ℓ)

theorem cos_at (c : Dev nD) (t : Fin 4352) (l : Fin 256) : (V m c main_v47 : FVec Ideal S4352x256 .f32) (ix2 t l) = cosAt t.val l.val := by
  rw [cos_entry, heads_at]
  unfold cosAt
  split_ifs with q
  · rw [join4_at, row_at, col_at]
    split_ifs
    all_goals exact congrArg C0 (trip_eq rfl (by simp only [Fin.val_zero, Fin.val_one]; (try dsimp only at *); omega) (by (try dsimp only at *); omega))
  · exact Ideal.ofBits_one_f32

/-- The kernel's table of sines: the lower half of each turn negated. -/
theorem sin_at (c : Dev nD) (t : Fin 4352) (l : Fin 256) : (V m c main_v50 : FVec Ideal S4352x256 .f32) (ix2 t l)
    = if l.val % 32 < 16 then -(sinAt t.val l.val) else sinAt t.val l.val := by
  rw [sin_entry, heads_at]
  unfold sinAt
  by_cases q : t.val < 4096
  · simp only [dif_pos q]
    rw [join4_at, neg_at, neg_at, row_at, col_at]
    have e : l.val % 64 % 32 = l.val % 32 := by omega
    simp only [e]
    split_ifs
    · exact congrArg (fun x : EReal => -x) (congrArg S0 (trip_eq rfl (by simp only [Fin.val_zero, Fin.val_one]; (try dsimp only at *); omega) (by (try dsimp only at *); omega)))
    · exact congrArg (fun x : EReal => -x) (congrArg S0 (trip_eq rfl (by simp only [Fin.val_zero, Fin.val_one]; (try dsimp only at *); omega) (by (try dsimp only at *); omega)))
    · exact congrArg S0 (trip_eq rfl (by simp only [Fin.val_zero, Fin.val_one]; (try dsimp only at *); omega) (by (try dsimp only at *); omega))
    · exact congrArg S0 (trip_eq rfl (by simp only [Fin.val_zero, Fin.val_one]; (try dsimp only at *); omega) (by (try dsimp only at *); omega))
  · simp only [dif_neg q]
    have z : Ideal.ofBits .f32 0x00000000#32 = (0 : EReal) := Ideal.ofBits_zero_f32
    rw [z, neg_zero, ite_self]

theorem norm_at (c : Dev nD) (d : Fin 1024) : (V m c main_v75 : FVec Ideal S1x1024 .f32) (ix2 0 d) = (m ((c.tc : Thread nD τ).loc main_arg2) : FVec Ideal S1024 .f32) (ix1 d) := by
  rw [norm_entry]
  pointwise

end Cert.In

end
-- ==== Proof.InBody.lean ====
/- The input projection's stored blocks, entry by entry. -/
module

public import proofs.«01_k».proof.Proof.InTab

@[expose] public section

set_option maxRecDepth 16384

noncomputable section

namespace Cert.In

open Idealize.ShloMosaic Idealize.ShloMosaic.TcCoe Cert.Kernel4Ideal Cert.Kernel4Ideal.Gen

/-- A block's product, entry by entry. -/
theorem prod_at (h : Vec Ideal S1x256x1024 .f32) (g : Vec Ideal S1x1024 .f32) (s0 s1 : Vec Ideal S1x1x1024 .f32) (w : Vec Ideal S1024x3200 .bf16) (r : Fin 256) (p : Fin 3200) :
    k0_pay4 h g s0 s1 w (ix2 r p) = ∑ d : Fin 1024, (h (ix3 0 r d) * Ideal.rsqrt (Ideal.div (∑ k : Fin 1024, h (ix3 0 r k) * h (ix3 0 r k)) (Ideal.ofBits .f32 0x44800000#32) + Ideal.ofBits .f32 0x358637BD#32)
      * g (ix2 0 d) * (Ideal.ofBits .f32 0x3F800000#32 + s0 (ix3 0 0 d)) + s1 (ix3 0 0 d)) * w (ix2 d p) := by
  pointwise [k0_pay4]

/-- The lower half of each turn. -/
theorem mask_word : ∀ l : Fin 256, k0_pay7 (iota .tc S256x256 32 [1] iota_S256x256_d1_w32) 32#32 (ix2 0 l) = if l.val % 32 < 16 then 1#1 else 0#1 := by
  decide +kernel

theorem mask_at (r l : Fin 256) : k0_pay7 (iota .tc S256x256 32 [1] iota_S256x256_d1_w32) 32#32 (ix2 r l) = if l.val % 32 < 16 then 1#1 else 0#1 :=
  Eq.trans rfl (mask_word l)

theorem choose_at (r l : Fin 256) (x y : EReal) :
    (Scalar.select (k0_pay7 (iota .tc S256x256 32 [1] iota_S256x256_d1_w32) 32#32 (ix2 r l)) x y : EReal) = if l.val % 32 < 16 then x else y := by
  rw [mask_at]
  split_ifs
  · rfl
  · rfl

theorem cast5_at (v : Vec Ideal S256x256 .f32) (r l : Fin 256) : k0_pay5 v (ix2 r l) = v (ix2 r l) := by
  pointwise [k0_pay5]
theorem cast6_at (v : Vec Ideal S256x256 .f32) (r l : Fin 256) : k0_pay6 v (ix2 r l) = v (ix2 r l) := by
  pointwise [k0_pay6]

/-- The kernel's turn of a row is the row turned by its position. -/
theorem turn_eq (f : ℕ → EReal) (t : ℕ) (l : Fin 256) :
    f l.val * cosAt t l.val + (if l.val % 32 < 16 then f (l.val + 16) else f (l.val - 16)) * (if l.val % 32 < 16 then -(sinAt t l.val) else sinAt t l.val) = turned f t l.val := by
  unfold turned
  by_cases q : t < 4096
  · rw [if_pos q]
    split_ifs
    · rw [mul_neg, ← sub_eq_add_neg]
    · rfl
  · rw [if_neg q]
    have hc : cosAt t l.val = 1 := by unfold cosAt; rw [dif_neg q]
    have hs : sinAt t l.val = 0 := by unfold sinAt; rw [dif_neg q]
    rw [hc, hs, neg_zero, ite_self, mul_one, mul_zero, add_zero]

theorem turn_at (u : FVec Ideal S256x3200 .f32) (C S : Vec Ideal S256x256 .f32) (r l : Fin 256) (f : ℕ → EReal) (t : ℕ)
    (hu : ∀ p : Fin 3200, p.val < 2304 → u (ix2 r p) = f p.val) (hC : C (ix2 r l) = cosAt t l.val) (hS : S (ix2 r l) = if l.val % 32 < 16 then -(sinAt t l.val) else sinAt t l.val) :
    k0_pay8 u (k0_pay5 C) (k0_pay6 S) (iota .tc S256x256 32 [1] iota_S256x256_d1_w32) 32#32 (ix3 0 r l) = turned (fun n => f (0 + n)) t l.val := by
  refine Eq.trans (b := u (ix2 r ⟨l.val, by omega⟩) * k0_pay5 C (ix2 r l) + Scalar.select (k0_pay7 (iota .tc S256x256 32 [1] iota_S256x256_d1_w32) 32#32 (ix2 r l))
    (u (ix2 r ⟨(l.val + 256 - 240) % 256, by omega⟩)) (u (ix2 r ⟨(l.val + 256 - 16) % 256, by omega⟩)) * k0_pay6 S (ix2 r l)) (by pointwise [k0_pay8]) ?_
  rw [choose_at, cast5_at, cast6_at, hC, hS, hu _ (by dsimp only; omega), hu _ (by dsimp only; omega), hu _ (by dsimp only; omega), ← turn_eq]
  simp only [Nat.zero_add]
  split_ifs with hl
  · rw [show (l.val + 256 - 240) % 256 = l.val + 16 by omega]
  · rw [show (l.val + 256 - 16) % 256 = l.val - 16 by omega]

theorem turn2_at (u : FVec Ideal S256x3200 .f32) (C S : Vec Ideal S256x256 .f32) (r l : Fin 256) (f : ℕ → EReal) (t : ℕ)
    (hu : ∀ p : Fin 3200, p.val < 2304 → u (ix2 r p) = f p.val) (hC : C (ix2 r l) = cosAt t l.val) (hS : S (ix2 r l) = if l.val % 32 < 16 then -(sinAt t l.val) else sinAt t l.val) :
    k0_pay9 u (k0_pay5 C) (k0_pay6 S) (iota .tc S256x256 32 [1] iota_S256x256_d1_w32) 32#32 (ix3 0 r l) = turned (fun n => f (256 + n)) t l.val * Ideal.ofBits .f32 0x3E000000#32 := by
  refine Eq.trans (b := (u (ix2 r ⟨256 + l.val, by omega⟩) * k0_pay5 C (ix2 r l) + Scalar.select (k0_pay7 (iota .tc S256x256 32 [1] iota_S256x256_d1_w32) 32#32 (ix2 r l))
    (u (ix2 r ⟨256 + (l.val + 256 - 240) % 256, by omega⟩)) (u (ix2 r ⟨256 + (l.val + 256 - 16) % 256, by omega⟩)) * k0_pay6 S (ix2 r l)) * Ideal.ofBits .f32 0x3E000000#32) (by pointwise [k0_pay9]) ?_
  rw [choose_at, cast5_at, cast6_at, hC, hS, hu _ (by dsimp only; omega), hu _ (by dsimp only; omega), hu _ (by dsimp only; omega), ← turn_eq]
  refine congrArg (fun x : EReal => x * Ideal.ofBits .f32 0x3E000000#32) ?_
  dsimp only
  split_ifs with hl
  · rw [show (l.val + 256 - 240) % 256 = l.val + 16 by omega]
  · rw [show (l.val + 256 - 16) % 256 = l.val - 16 by omega]

theorem rest_at (u : FVec Ideal S256x3200 .f32) (r : Fin 256) (n : Fin 512) : k0_pay11 (k0_pay10 u) (ix3 0 r n) = u (ix2 r ⟨512 + n.val, by omega⟩) := by
  pointwise [k0_pay11, k0_pay10]
theorem z_at (u : FVec Ideal S256x3200 .f32) (r : Fin 256) (n : Fin 512) : k0_pay12 u (ix3 0 r n) = u (ix2 r ⟨1024 + n.val, by omega⟩) := by
  pointwise [k0_pay12]
theorem xbc_at (u : FVec Ideal S256x3200 .f32) (r : Fin 256) (n : Fin 768) : k0_pay13 u (ix3 0 r n) = u (ix2 r ⟨1536 + n.val, by omega⟩) := by
  pointwise [k0_pay13]
theorem dt_at (u : FVec Ideal S256x3200 .f32) (r : Fin 256) (n : Fin 16) : k0_pay3 u (ix3 0 r n) = u (ix2 r ⟨3072 + n.val, by omega⟩) := by
  pointwise [k0_pay3]

end Cert.In

end
-- ==== Proof.InArray.lean ====
/- The input projection's output arrays after the run, and their equality with the reference's. -/
module

public import proofs.«01_k».proof.Proof.InBody
public import Idealize.ShloMosaic.Lib.Pipeline.Covers

@[expose] public section

set_option maxRecDepth 16384

noncomputable section

namespace Cert.In

open Idealize.ShloMosaic Idealize.ShloMosaic.TcCoe Cert.Kernel4Ideal Cert.Kernel4Ideal.Gen

theorem place0 : ∀ t : Fin cfg0.N, win0_0.index t 0 = t.val / 17 ∧ win0_0.index t 1 = t.val % 17 ∧ win0_0.index t 2 = 0 := by decide +kernel
theorem place1 : ∀ t : Fin cfg0.N, win0_1.index t 0 = (if t.val % 17 < 16 then t.val / 17 else 16) ∧ win0_1.index t 1 = 0 ∧ win0_1.index t 2 = 0 := by decide +kernel
theorem place2 : ∀ t : Fin cfg0.N, win0_2.index t 0 = 0 ∧ win0_2.index t 1 = 0 := by decide +kernel
theorem place3 : ∀ t : Fin cfg0.N, win0_3.index t 0 = 0 ∧ win0_3.index t 1 = 0 := by decide +kernel
theorem place4 : ∀ t : Fin cfg0.N, win0_4.index t 0 = t.val % 17 ∧ win0_4.index t 1 = 0 := by decide +kernel
theorem place5 : ∀ t : Fin cfg0.N, win0_5.index t 0 = t.val % 17 ∧ win0_5.index t 1 = 0 := by decide +kernel
theorem place8 : ∀ t : Fin cfg0.N, win0_8.index t 0 = t.val / 17 ∧ win0_8.index t 1 = t.val % 17 ∧ win0_8.index t 2 = 0 := by decide +kernel
theorem place9 : ∀ t : Fin cfg0.N, win0_9.index t 0 = t.val / 17 ∧ win0_9.index t 1 = t.val % 17 ∧ win0_9.index t 2 = 0 := by decide +kernel
theorem place10 : ∀ t : Fin cfg0.N, win0_10.index t 0 = t.val / 17 ∧ win0_10.index t 1 = t.val % 17 ∧ win0_10.index t 2 = 0 := by decide +kernel
theorem place11 : ∀ t : Fin cfg0.N, win0_11.index t 0 = t.val / 17 ∧ win0_11.index t 1 = t.val % 17 ∧ win0_11.index t 2 = 0 := by decide +kernel

variable (m : (ℓ : Loc nD τ sig) → Buf (Elt Ideal) ℓ)

abbrev h0 (c : Dev nD) : FVec Ideal ⟨3, ![16, 4352, 1024]⟩ .f32 := m ((c.tc : Thread nD τ).loc main_arg0)
abbrev md0 (c : Dev nD) : FVec Ideal ⟨3, ![24, 6, 1024]⟩ .f32 := m ((c.tc : Thread nD τ).loc main_arg1)
abbrev g0 (c : Dev nD) : FVec Ideal ⟨1, ![1024]⟩ .f32 := m ((c.tc : Thread nD τ).loc main_arg2)
abbrev w0 (c : Dev nD) : FVec Ideal ⟨2, ![1024, 3088]⟩ .f32 := m ((c.tc : Thread nD τ).loc main_arg3)

/-- A point's sequence. -/
def seq (t : Fin cfg0.N) : Fin 16 := ⟨t.val / 17, by have : t.val < 272 := t.isLt; omega⟩
/-- A point's tokens. -/
def tok (t : Fin cfg0.N) (r : Fin 256) : Fin 4352 := ⟨256 * (t.val % 17) + r.val, by omega⟩

theorem blk0 (c : Dev nD) (t : Fin cfg0.N) (r : Fin 256) (d : Fin 1024) :
    (iblk m c 0 t : Vec Ideal S1x256x1024 .f32) (ix3 0 r d) = h0 m c (ix3 (seq t) (tok t r) d) := by
  refine Eq.trans ?_ (congrFun (V_main_arg0 m c) (ix3 (seq t) (tok t r) d))
  refine congrArg (V m c main_arg0) (funext fun (a : Fin 3) => Fin.ext ((win0_0.rect_emb_val t (ix3 0 r d) a).trans ?_))
  have := place0 t
  match a with
  | ⟨0, _⟩ => show win0_0.index t 0 * 1 + 0 = t.val / 17; omega
  | ⟨1, _⟩ => show win0_0.index t 1 * 256 + r.val = 256 * (t.val % 17) + r.val; omega
  | ⟨2, _⟩ => show win0_0.index t 2 * 1024 + d.val = d.val; omega

theorem line_val (t : Fin cfg0.N) (r : Fin 256) : (line (seq t) (tok t r)).val = if t.val % 17 < 16 then t.val / 17 else 16 := by
  unfold line
  have e : (tok t r).val < 4096 ↔ t.val % 17 < 16 := by show 256 * (t.val % 17) + r.val < 4096 ↔ _; omega
  by_cases q : t.val % 17 < 16
  · rw [if_pos (e.mpr q), if_pos q]; rfl
  · rw [if_neg (fun x => q (e.mp x)), if_neg q]; rfl

theorem blk1 (c : Dev nD) (t : Fin cfg0.N) (r : Fin 256) (s : Fin 6) (d : Fin 1024) :
    (iblk m c 1 t : Vec Ideal S1x6x1024 .f32) (ix3 0 s d) = md0 m c (ix3 (line (seq t) (tok t r)) s d) := by
  refine Eq.trans ?_ (congrFun (V_main_arg1 m c) (ix3 (line (seq t) (tok t r)) s d))
  refine congrArg (V m c main_arg1) (funext fun (a : Fin 3) => Fin.ext ((win0_1.rect_emb_val t (ix3 0 s d) a).trans ?_))
  have := place1 t
  match a with
  | ⟨0, _⟩ => show win0_1.index t 0 * 1 + 0 = (line (seq t) (tok t r)).val; rw [line_val]; omega
  | ⟨1, _⟩ => show win0_1.index t 1 * 6 + s.val = s.val; omega
  | ⟨2, _⟩ => show win0_1.index t 2 * 1024 + d.val = d.val; omega

theorem blk2 (c : Dev nD) (t : Fin cfg0.N) (d : Fin 1024) : (iblk m c 2 t : Vec Ideal S1x1024 .f32) (ix2 0 d) = g0 m c (ix1 d) := by
  refine Eq.trans ?_ (norm_at m c d)
  refine congrArg (V m c main_v75) (funext fun (a : Fin 2) => Fin.ext ((win0_2.rect_emb_val t (ix2 0 d) a).trans ?_))
  have := place2 t
  match a with
  | ⟨0, _⟩ => show win0_2.index t 0 * 1 + 0 = 0; omega
  | ⟨1, _⟩ => show win0_2.index t 1 * 1024 + d.val = d.val; omega

theorem blk3 (c : Dev nD) (t : Fin cfg0.N) (d : Fin 1024) (p : Fin 3200) : (iblk m c 3 t : Vec Ideal S1024x3200 .bf16) (ix2 d p) = packed (w0 m c) (ix2 d p) := by
  refine Eq.trans ?_ (congrFun (packed_entry m c) (ix2 d p))
  refine congrArg (V m c main_v65) (funext fun (a : Fin 2) => Fin.ext ((win0_3.rect_emb_val t (ix2 d p) a).trans ?_))
  have := place3 t
  match a with
  | ⟨0, _⟩ => show win0_3.index t 0 * 1024 + d.val = d.val; omega
  | ⟨1, _⟩ => show win0_3.index t 1 * 3200 + p.val = p.val; omega

theorem blk4 (c : Dev nD) (t : Fin cfg0.N) (r l : Fin 256) : (iblk m c 4 t : Vec Ideal S256x256 .f32) (ix2 r l) = cosAt (tok t r).val l.val := by
  refine Eq.trans ?_ (cos_at m c (tok t r) l)
  refine congrArg (V m c main_v47) (funext fun (a : Fin 2) => Fin.ext ((win0_4.rect_emb_val t (ix2 r l) a).trans ?_))
  have := place4 t
  match a with
  | ⟨0, _⟩ => show win0_4.index t 0 * 256 + r.val = 256 * (t.val % 17) + r.val; omega
  | ⟨1, _⟩ => show win0_4.index t 1 * 256 + l.val = l.val; omega

theorem blk5 (c : Dev nD) (t : Fin cfg0.N) (r l : Fin 256) :
    (iblk m c 5 t : Vec Ideal S256x256 .f32) (ix2 r l) = if l.val % 32 < 16 then -(sinAt (tok t r).val l.val) else sinAt (tok t r).val l.val := by
  refine Eq.trans ?_ (sin_at m c (tok t r) l)
  refine congrArg (V m c main_v50) (funext fun (a : Fin 2) => Fin.ext ((win0_5.rect_emb_val t (ix2 r l) a).trans ?_))
  have := place5 t
  match a with
  | ⟨0, _⟩ => show win0_5.index t 0 * 256 + r.val = 256 * (t.val % 17) + r.val; omega
  | ⟨1, _⟩ => show win0_5.index t 1 * 256 + l.val = l.val; omega

/-- The rows of the modulation a point reads. -/
abbrev scale (c : Dev nD) (t : Fin cfg0.N) : Vec Ideal S1x1x1024 .f32 := View.ld (iblk m c 1 t : Vec Ideal S1x6x1024 .f32) (Rect.unit (s := S1x6x1024) ![0, 1, 0] S1x1x1024.size inb_S1x6x1024_S1x1x1024_0_1_0)
abbrev shift (c : Dev nD) (t : Fin cfg0.N) : Vec Ideal S1x1x1024 .f32 := View.ld (iblk m c 1 t : Vec Ideal S1x6x1024 .f32) (Rect.unit (s := S1x6x1024) ![0, 0, 0] S1x1x1024.size inb_S1x6x1024_S1x1x1024_0_0_0)
/-- A point's product. -/
abbrev prod (c : Dev nD) (t : Fin cfg0.N) : FVec Ideal S256x3200 .f32 := k0_pay4 (iblk m c 0 t) (iblk m c 2 t) (scale m c t) (shift m c t) (iblk m c 3 t)

theorem scale_at (c : Dev nD) (t : Fin cfg0.N) (r : Fin 256) (d : Fin 1024) : scale m c t (ix3 0 0 d) = md0 m c (ix3 (line (seq t) (tok t r)) 1 d) := by
  refine Eq.trans ?_ (blk1 m c t r 1 d)
  refine congrArg (iblk m c 1 t : Vec Ideal S1x6x1024 .f32) (funext fun (a : Fin 3) => Fin.ext ?_)
  match a with
  | ⟨0, _⟩ => exact (Rect.idx_unit_val _ _ _ _ _).trans rfl
  | ⟨1, _⟩ => exact (Rect.idx_unit_val _ _ _ _ _).trans rfl
  | ⟨2, _⟩ => exact (Rect.idx_unit_val _ _ _ _ _).trans (Nat.zero_add _)
theorem shift_at (c : Dev nD) (t : Fin cfg0.N) (r : Fin 256) (d : Fin 1024) : shift m c t (ix3 0 0 d) = md0 m c (ix3 (line (seq t) (tok t r)) 0 d) := by
  refine Eq.trans ?_ (blk1 m c t r 0 d)
  refine congrArg (iblk m c 1 t : Vec Ideal S1x6x1024 .f32) (funext fun (a : Fin 3) => Fin.ext ?_)
  match a with
  | ⟨0, _⟩ => exact (Rect.idx_unit_val _ _ _ _ _).trans rfl
  | ⟨1, _⟩ => exact (Rect.idx_unit_val _ _ _ _ _).trans rfl
  | ⟨2, _⟩ => exact (Rect.idx_unit_val _ _ _ _ _).trans (Nat.zero_add _)

/-- A point's product, column by column, over the matrix as the kernel packs it. -/
theorem prod_eq (c : Dev nD) (t : Fin cfg0.N) (r : Fin 256) (p : Fin 3200) (n : ℕ) (hn : ∀ d, packed (w0 m c) (ix2 d p) = wcol (w0 m c) d n) :
    prod m c t (ix2 r p) = proj (h0 m c) (md0 m c) (g0 m c) (w0 m c) (seq t) (tok t r) n := by
  refine (prod_at _ _ _ _ _ r p).trans ?_
  unfold proj act normed
  refine Finset.sum_congr rfl fun d _ => ?_
  rw [blk2 m c t d, scale_at m c t r d, shift_at m c t r d, blk3 m c t d p, hn d, blk0 m c t r d]
  simp only [blk0 m c t r]

theorem prod_low (c : Dev nD) (t : Fin cfg0.N) (r : Fin 256) (p : Fin 3200) (h : p.val < 2304) :
    prod m c t (ix2 r p) = proj (h0 m c) (md0 m c) (g0 m c) (w0 m c) (seq t) (tok t r) p.val := prod_eq m c t r p _ fun d => packed_low (w0 m c) d p h

theorem spot8 (t : Fin cfg0.N) (r : Fin 256) (n : Fin 1024) : (win0_8.blk t).view.emb (ix3 0 r n) = ix3 (seq t) (tok t r) n := by
  refine funext fun (a : Fin 3) => Fin.ext ((win0_8.rect_emb_val t (ix3 0 r n) a).trans ?_)
  have := place8 t
  match a with
  | ⟨0, _⟩ => show win0_8.index t 0 * 1 + 0 = t.val / 17; omega
  | ⟨1, _⟩ => show win0_8.index t 1 * 256 + r.val = 256 * (t.val % 17) + r.val; omega
  | ⟨2, _⟩ => show win0_8.index t 2 * 1024 + n.val = n.val; omega

theorem spot9 (t : Fin cfg0.N) (r : Fin 256) (n : Fin 512) : (win0_9.blk t).view.emb (ix3 0 r n) = ix3 (seq t) (tok t r) n := by
  refine funext fun (a : Fin 3) => Fin.ext ((win0_9.rect_emb_val t (ix3 0 r n) a).trans ?_)
  have := place9 t
  match a with
  | ⟨0, _⟩ => show win0_9.index t 0 * 1 + 0 = t.val / 17; omega
  | ⟨1, _⟩ => show win0_9.index t 1 * 256 + r.val = 256 * (t.val % 17) + r.val; omega
  | ⟨2, _⟩ => show win0_9.index t 2 * 512 + n.val = n.val; omega

theorem spot10 (t : Fin cfg0.N) (r : Fin 256) (n : Fin 768) : (win0_10.blk t).view.emb (ix3 0 r n) = ix3 (seq t) (tok t r) n := by
  refine funext fun (a : Fin 3) => Fin.ext ((win0_10.rect_emb_val t (ix3 0 r n) a).trans ?_)
  have := place10 t
  match a with
  | ⟨0, _⟩ => show win0_10.index t 0 * 1 + 0 = t.val / 17; omega
  | ⟨1, _⟩ => show win0_10.index t 1 * 256 + r.val = 256 * (t.val % 17) + r.val; omega
  | ⟨2, _⟩ => show win0_10.index t 2 * 768 + n.val = n.val; omega

theorem spot11 (t : Fin cfg0.N) (r : Fin 256) (n : Fin 16) : (win0_11.blk t).view.emb (ix3 0 r n) = ix3 (seq t) (tok t r) n := by
  refine funext fun (a : Fin 3) => Fin.ext ((win0_11.rect_emb_val t (ix3 0 r n) a).trans ?_)
  have := place11 t
  match a with
  | ⟨0, _⟩ => show win0_11.index t 0 * 1 + 0 = t.val / 17; omega
  | ⟨1, _⟩ => show win0_11.index t 1 * 256 + r.val = 256 * (t.val % 17) + r.val; omega
  | ⟨2, _⟩ => show win0_11.index t 2 * 16 + n.val = n.val; omega

theorem arr_z (c : Dev nD) : (dats m 0 c).arrAt 9 cfg0.N = Cert.Reference4Ideal.Read.val_main_v120 (F := Ideal) (h0 m c) (md0 m c) (g0 m c) (w0 m c) := by
  refine (dats m 0 c).arrAt_eq_of_covers 9 _ (by decide +kernel) fun t hf y => ?_
  blk_simp
  rw [after0_9]
  frame_out
  have key : ∀ y : S1x256x512.Idx, k0_pay12 (prod m c t) y = Cert.Reference4Ideal.Read.val_main_v120 (F := Ideal) (h0 m c) (md0 m c) (g0 m c) (w0 m c) ((win0_9.blk t).view.emb y) := by
    intro y
    obtain ⟨r, n, rfl⟩ : ∃ (r : Fin 256) (n : Fin 512), y = ix3 0 r n := ⟨y 1, y 2, by idx_vars y; rw [Subsingleton.elim y0 0]⟩
    rw [spot9, ref_z]
    refine (z_at _ r n).trans ?_
    exact prod_low m c t r _ (by show 1024 + n.val < 2304; omega)
  exact key y

theorem arr_xbc (c : Dev nD) : (dats m 0 c).arrAt 10 cfg0.N = Cert.Reference4Ideal.Read.val_main_v121 (F := Ideal) (h0 m c) (md0 m c) (g0 m c) (w0 m c) := by
  refine (dats m 0 c).arrAt_eq_of_covers 10 _ (by decide +kernel) fun t hf y => ?_
  blk_simp
  rw [after0_10]
  frame_out
  have key : ∀ y : S1x256x768.Idx, k0_pay13 (prod m c t) y = Cert.Reference4Ideal.Read.val_main_v121 (F := Ideal) (h0 m c) (md0 m c) (g0 m c) (w0 m c) ((win0_10.blk t).view.emb y) := by
    intro y
    obtain ⟨r, n, rfl⟩ : ∃ (r : Fin 256) (n : Fin 768), y = ix3 0 r n := ⟨y 1, y 2, by idx_vars y; rw [Subsingleton.elim y0 0]⟩
    rw [spot10, ref_xbc]
    refine (xbc_at _ r n).trans ?_
    exact prod_low m c t r _ (by show 1536 + n.val < 2304; omega)
  exact key y

theorem arr_dt (c : Dev nD) : (dats m 0 c).arrAt 11 cfg0.N = Cert.Reference4Ideal.Read.val_main_v122 (F := Ideal) (h0 m c) (md0 m c) (g0 m c) (w0 m c) := by
  refine (dats m 0 c).arrAt_eq_of_covers 11 _ (by decide +kernel) fun t hf y => ?_
  blk_simp
  rw [after0_11]
  frame_out
  have key : ∀ y : S1x256x16.Idx, k0_pay3 (prod m c t) y = Cert.Reference4Ideal.Read.val_main_v122 (F := Ideal) (h0 m c) (md0 m c) (g0 m c) (w0 m c) ((win0_11.blk t).view.emb y) := by
    intro y
    obtain ⟨r, n, rfl⟩ : ∃ (r : Fin 256) (n : Fin 16), y = ix3 0 r n := ⟨y 1, y 2, by idx_vars y; rw [Subsingleton.elim y0 0]⟩
    rw [spot11, ref_dt]
    refine (dt_at _ r n).trans ?_
    exact prod_eq m c t r _ (2304 + n.val) fun d => (packed_high (w0 m c) d _ (by show 3072 ≤ 3072 + n.val; omega) (by show 3072 + n.val < 3088; omega)).trans (congrArg (wcol (w0 m c) d) (by show 3072 + n.val - 768 = 2304 + n.val; omega))
  exact key y

/-- What a point leaves in the first output, entry by entry. -/
theorem outs_ret (c : Dev nD) (t : Fin cfg0.N) (y : S1x256x1024.Idx) : (outsAt0 m c t).1 y
    = retAt (proj (h0 m c) (md0 m c) (g0 m c) (w0 m c) (seq t) (tok t (y 1))) (tok t (y 1)).val (y 2).val := by
  unfold outsAt0
  dsimp only
  frame_out
  canon_tiles x e using (View.cover_of_tiledBy _ ![1, 256, 256] (by sl_kernel_rfl) y)
  · obtain ⟨r, n, rfl⟩ : ∃ (r : Fin 256) (n : Fin 512), x = ix3 0 r n := ⟨x 1, x 2, by idx_vars x; rw [Subsingleton.elim x0 0]⟩
    have e1 : y 1 = r := Fin.ext e1
    have e2 : (y 2).val = 512 + n.val := e2
    rw [e1, e2]
    refine (rest_at (prod m c t) r n).trans ((prod_low m c t r _ (by show 512 + n.val < 2304; omega)).trans ?_)
    unfold retAt
    rw [if_neg (by omega), if_neg (by omega)]
  · obtain ⟨r, n, rfl⟩ : ∃ (r : Fin 256) (n : Fin 256), x = ix3 0 r n := ⟨x 1, x 2, by idx_vars x; rw [Subsingleton.elim x0 0]⟩
    have e1 : y 1 = r := Fin.ext e1
    have e2 : (y 2).val = 256 + n.val := e2
    rw [e1, e2]
    refine (turn2_at (prod m c t) _ _ r n (proj (h0 m c) (md0 m c) (g0 m c) (w0 m c) (seq t) (tok t r)) (tok t r).val (fun p hp => prod_low m c t r p hp) (blk4 m c t r n) (blk5 m c t r n)).trans ?_
    unfold retAt
    rw [if_neg (by omega), if_pos (by omega), Nat.add_sub_cancel_left]
  · obtain ⟨r, n, rfl⟩ : ∃ (r : Fin 256) (n : Fin 256), x = ix3 0 r n := ⟨x 1, x 2, by idx_vars x; rw [Subsingleton.elim x0 0]⟩
    have e1 : y 1 = r := Fin.ext e1
    have e2 : (y 2).val = n.val := e2
    rw [e1, e2]
    refine (turn_at (prod m c t) _ _ r n (proj (h0 m c) (md0 m c) (g0 m c) (w0 m c) (seq t) (tok t r)) (tok t r).val (fun p hp => prod_low m c t r p hp) (blk4 m c t r n) (blk5 m c t r n)).trans ?_
    unfold retAt
    rw [if_pos n.isLt]

theorem arr_ret (c : Dev nD) : (dats m 0 c).arrAt 8 cfg0.N = Cert.Reference4Ideal.Read.val_main_v119 (F := Ideal) (h0 m c) (md0 m c) (g0 m c) (w0 m c) := by
  refine (dats m 0 c).arrAt_eq_of_covers 8 _ (by decide +kernel) fun t hf y => ?_
  blk_simp
  rw [after0_8]
  have key : ∀ y : S1x256x1024.Idx, (outsAt0 m c t).1 y = Cert.Reference4Ideal.Read.val_main_v119 (F := Ideal) (h0 m c) (md0 m c) (g0 m c) (w0 m c) ((win0_8.blk t).view.emb y) := by
    intro y
    obtain ⟨r, n, rfl⟩ : ∃ (r : Fin 256) (n : Fin 1024), y = ix3 0 r n := ⟨y 1, y 2, by idx_vars y; rw [Subsingleton.elim y0 0]⟩
    rw [spot8, ref_ret]
    exact outs_ret m c t (ix3 0 r n)
  exact key y

end Cert.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2.Skeleton
public import proofs.«01_k».proof.Proof.Gen.Kernel2.Launch
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Array
public import proofs.«01_k».proof.Proof.Equal
public import proofs.«01_k».proof.Proof.MoePre
public import proofs.«01_k».proof.Proof.MoeEqual
public import proofs.«01_k».proof.Proof.MoeRunBits
public import proofs.«01_k».proof.Proof.ModArray
public import proofs.«01_k».proof.Proof.InArray
public import Idealize.ShloMosaic.Adequacy
public import Idealize.ShloMosaic.Init

@[expose] public section

noncomputable section

namespace Cert.Proof

open Idealize.ShloMosaic Idealize.SL.Sem Cert.Kernel

/-- The reference runs to its end, its arguments unchanged and every semaphore counter zero. -/
theorem frameR (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run (F := Ideal) m ρ)

/-- The kernel's output, from the arguments of its run, is the reference's from the arguments of its own, where they agree. -/
theorem outputs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hna : ∀ j, Cert.NA.Fin' (Cert.NA.na0 m c j))
    (hb : ∀ j, Cert.NA.Fin' ((m ((c.tc : Thread Cert.KernelIdeal.nD Cert.KernelIdeal.τ).loc Cert.KernelIdeal.main_arg1) : Cert.NA.Biases) j))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v143 m' c = (Cert.KernelIdeal.Gen.dats m 0 c).arrAt 10 Cert.KernelIdeal.cfg0.N := by
  refine (Cert.ReferenceIdeal.Read.val_main_v143_eq m' c).trans ?_
  rw [h0, h1]
  exact ((Cert.NA.arr m c).trans (Cert.NA.out_eq _ _ hna hb)).symm

/-- The experts' reference runs to its end, its arguments unchanged and every semaphore counter zero. -/
theorem frameR2 (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2, sem_eq_zero_of_no_sems (by decide) r.2⟩) (Cert.Reference2Ideal.Value.run (F := Ideal) m ρ)

/-- Where the precondition holds, every tile's expert is one of the 64. -/
theorem range (m : (ℓ : Loc Cert.Kernel2Ideal.nD Cert.Kernel2Ideal.τ Cert.Kernel2Ideal.sig) → Buf (Elt Ideal) ℓ)
    (h : (letI := Cert.Moe.preFacts; Cert.Pre_Kernel2Ideal m)) (c : Dev Cert.Kernel2Ideal.nD) (x : Cert.Kernel2Ideal.S182.Idx) :
    ((m ((c.tc : Thread Cert.Kernel2Ideal.nD Cert.Kernel2Ideal.τ).loc Cert.Kernel2Ideal.main_arg0) : IVec Cert.Kernel2Ideal.S182 32) x).toNat < 64 :=
  Cert.Moe.pre_range _ _ _ _ _ _ (h c) x

/-- Where the precondition holds, every tile's expert is one of the 64. -/
theorem rangeBits (m : (ℓ : Loc Cert.Kernel2.nD Cert.Kernel2.τ Cert.Kernel2.sig) → Buf (Elt Bits) ℓ)
    (h : (letI := Cert.Moe.preFacts; Cert.Pre_Kernel2 m)) (c : Dev Cert.Kernel2.nD) (x : Cert.Kernel2.S182.Idx) :
    ((m ((c.tc : Thread Cert.Kernel2.nD Cert.Kernel2.τ).loc Cert.Kernel2.main_arg0) : IVec Cert.Kernel2.S182 32) x).toNat < 64 :=
  Cert.Moe.pre_range _ _ _ _ _ _ (h c) x

/-- The experts' output, from the arguments of the kernel's run, is the reference's from the arguments of its own, where they agree. -/
theorem outputs2 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (h : Cert.Kernel2Ideal.Moe.InRange m) (c : Dev Cert.Kernel2Ideal.nD)
    (hte : ∀ x : Cert.Kernel2Ideal.S182.Idx, ((m ((c.tc : Thread Cert.Kernel2Ideal.nD Cert.Kernel2Ideal.τ).loc Cert.Kernel2Ideal.main_arg0) : IVec Cert.Kernel2Ideal.S182 32) x).toNat < 64)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) :
    Cert.Reference2Ideal.Read.val_main_v39 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) =
      (Cert.Kernel2Ideal.Moe.plan m h 0 c).arrAt 4 (Cert.Kernel2Ideal.Moe.cf m h).N := by
  rw [h0, h1, h2, h3, h4, h5]
  exact Cert.Moe.out_eq m h c hte

/-- The modulation's reference runs to its end, its arguments unchanged and every semaphore counter zero. -/
theorem frameR3 (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2, sem_eq_zero_of_no_sems (by decide) r.2⟩) (Cert.Reference3Ideal.Value.run (F := Ideal) m ρ)

/-- The modulation's output, from the arguments of the kernel's run, is the reference's from the arguments of its own, where they agree. -/
theorem outputs3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Read.val_main_v9 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) =
      (Cert.Kernel3Ideal.Gen.dats m 0 c).arrAt 3 Cert.Kernel3Ideal.cfg0.N := by
  rw [h0, h1, h2, h3]
  exact Cert.Mod.out_eq m c

/-- The input projection's reference runs to its end, its arguments unchanged and every semaphore counter zero. -/
theorem frameR4 (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2.2.2.2, sem_eq_zero_of_no_sems (by decide) r.2⟩) (Cert.Reference4Ideal.Value.run (F := Ideal) m ρ)

/-- One of the input projection's outputs, from the arguments of the kernel's run, is the reference's from the arguments of its own, where they agree. -/
theorem outputs4_ret (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Read.val_main_v119 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) =
      (Cert.Kernel4Ideal.Gen.dats m 0 c).arrAt 8 Cert.Kernel4Ideal.cfg0.N := by
  rw [h0, h1, h2, h3]
  exact (Cert.In.arr_ret m c).symm

/-- One of the input projection's outputs, from the arguments of the kernel's run, is the reference's from the arguments of its own, where they agree. -/
theorem outputs4_z (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Read.val_main_v120 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) =
      (Cert.Kernel4Ideal.Gen.dats m 0 c).arrAt 9 Cert.Kernel4Ideal.cfg0.N := by
  rw [h0, h1, h2, h3]
  exact (Cert.In.arr_z m c).symm

/-- One of the input projection's outputs, from the arguments of the kernel's run, is the reference's from the arguments of its own, where they agree. -/
theorem outputs4_xbc (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Read.val_main_v121 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) =
      (Cert.Kernel4Ideal.Gen.dats m 0 c).arrAt 10 Cert.Kernel4Ideal.cfg0.N := by
  rw [h0, h1, h2, h3]
  exact (Cert.In.arr_xbc m c).symm

/-- One of the input projection's outputs, from the arguments of the kernel's run, is the reference's from the arguments of its own, where they agree. -/
theorem outputs4_dt (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.Read.val_main_v122 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) =
      (Cert.Kernel4Ideal.Gen.dats m 0 c).arrAt 11 Cert.Kernel4Ideal.cfg0.N := by
  rw [h0, h1, h2, h3]
  exact (Cert.In.arr_dt m c).symm

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.NA.preFacts, Cert.Moe.preFacts,
  fun m ρ _ => Cert.Kernel.Gen.frame m ρ,
  fun m ρ _ => Cert.KernelIdeal.Gen.frame m ρ,
  fun m ρ _ => Cert.KernelIdeal.Gen.frame m ρ,
  fun m ρ _ => frameR m ρ,
  fun m ρ _ => frameR m ρ,
  fun m ρ h => (θ_run _ _ _).mono (fun _ q => q.1) (Cert.Kernel2.Moe.ran m ρ (Cert.Kernel2.Moe.inRange m (rangeBits m h 0))),
  fun m ρ h => (θ_run _ _ _).mono (fun _ q => q.1) (Cert.Kernel2Ideal.Moe.ran m ρ (Cert.Kernel2Ideal.Moe.inRange m (range m h 0))),
  fun m ρ _ => frameR2 m ρ,
  fun m ρ _ => frameR2 m ρ,
  fun m ρ _ => Cert.Kernel3.Gen.frame m ρ,
  fun m ρ _ => Cert.Kernel3Ideal.Gen.frame m ρ,
  fun m ρ _ => frameR3 m ρ,
  fun m ρ _ => Cert.Kernel4.Gen.frame m ρ,
  fun m ρ _ => Cert.Kernel4Ideal.Gen.frame m ρ,
  fun m ρ _ => frameR4 m ρ,
  trivial,
  fun m ρ m' ρ' hpre hag =>
    ⟨fun c => (Cert.KernelIdeal.Gen.dats m 0 c).arrAt 10 Cert.KernelIdeal.cfg0.N,
      Cert.KernelIdeal.Value.run_blocks m ρ,
      (θ_run _ _ _).mono (fun _ h c => ⟨(h c).1.trans (outputs m m' c
          (letI := Cert.NA.preFacts; Cert.NA.fin_na _ _ (hpre c)) (letI := Cert.NA.preFacts; Cert.NA.fin_rpb _ _ (hpre c)) (hag c).1 (hag c).2), (h c).2⟩)
        (Cert.ReferenceIdeal.Value.run (F := Ideal) m' ρ')⟩,
  trivial,
  fun m ρ m' ρ' hpre hag =>
    have hr := Cert.Kernel2Ideal.Moe.inRange m (range m hpre 0)
    ⟨fun c => (Cert.Kernel2Ideal.Moe.plan m hr 0 c).arrAt 4 (Cert.Kernel2Ideal.Moe.cf m hr).N,
      (θ_run _ _ _).mono (fun _ q c => ⟨q.2 c, q.1.1 c⟩) (Cert.Kernel2Ideal.Moe.ran m ρ hr),
      (θ_run _ _ _).mono (fun _ q c => ⟨(q c).1.trans ((Cert.Reference2Ideal.Read.val_main_v39_eq m' c).trans
          (outputs2 m m' hr c (range m hpre c) (hag c).1 (hag c).2.1 (hag c).2.2.1 (hag c).2.2.2.1 (hag c).2.2.2.2.1 (hag c).2.2.2.2.2)), (q c).2⟩)
        (Cert.Reference2Ideal.Value.run (F := Ideal) m' ρ')⟩,
  trivial,
  fun m ρ m' ρ' _ hag =>
    ⟨fun c => (Cert.Kernel3Ideal.Gen.dats m 0 c).arrAt 3 Cert.Kernel3Ideal.cfg0.N,
      Cert.Kernel3Ideal.Value.run_blocks m ρ,
      (θ_run _ _ _).mono (fun _ q c => ⟨(q c).1.trans ((Cert.Reference3Ideal.Read.val_main_v9_eq _ _ _ _).trans
          (outputs3 m m' c (hag c).1 (hag c).2.1 (hag c).2.2.1 (hag c).2.2.2)), (q c).2⟩)
        (Cert.Reference3Ideal.Value.run (F := Ideal) m' ρ')⟩,
  trivial,
  fun m ρ m' ρ' _ hag =>
    ⟨fun c => (Cert.Kernel4Ideal.Gen.dats m 0 c).arrAt 8 Cert.Kernel4Ideal.cfg0.N, fun c => (Cert.Kernel4Ideal.Gen.dats m 0 c).arrAt 9 Cert.Kernel4Ideal.cfg0.N,
      fun c => (Cert.Kernel4Ideal.Gen.dats m 0 c).arrAt 10 Cert.Kernel4Ideal.cfg0.N, fun c => (Cert.Kernel4Ideal.Gen.dats m 0 c).arrAt 11 Cert.Kernel4Ideal.cfg0.N,
      (θ_run _ _ _).mono (fun _ q c => ⟨(q c).1, (q c).2.1, (q c).2.2.1, (q c).2.2.2.1, (q c).2.2.2.2.2⟩) (Cert.Kernel4Ideal.Value.run_blocks m ρ),
      (θ_run _ _ _).mono (fun _ q c => ⟨(q c).1.trans ((Cert.Reference4Ideal.Read.val_main_v119_eq m' c).trans (outputs4_ret m m' c (hag c).1 (hag c).2.1 (hag c).2.2.1 (hag c).2.2.2.1)),
          (q c).2.1.trans ((Cert.Reference4Ideal.Read.val_main_v120_eq _ _ _ _).trans (outputs4_z m m' c (hag c).1 (hag c).2.1 (hag c).2.2.1 (hag c).2.2.2.1)),
          (q c).2.2.1.trans ((Cert.Reference4Ideal.Read.val_main_v121_eq _ _ _ _).trans (outputs4_xbc m m' c (hag c).1 (hag c).2.1 (hag c).2.2.1 (hag c).2.2.2.1)),
          (q c).2.2.2.1.trans ((Cert.Reference4Ideal.Read.val_main_v122_eq _ _ _ _).trans (outputs4_dt m m' c (hag c).1 (hag c).2.1 (hag c).2.2.1 (hag c).2.2.2.1)), (q c).2.2.2.2⟩)
        (Cert.Reference4Ideal.Value.run (F := Ideal) m' ρ')⟩⟩

end Cert.Proof

end
